-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bitsLt_bf16_f32 : FTy.bits .bf16 < FTy.bits .f32
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .bf16) (main_arg1 : FVec F S1024x1024 .bf16) (main_arg2 : FVec F S1x4096x32x128 .f32) (main_arg3 : FVec F S1x4096x32x128 .f32) (main_arg4 : FVec F S1024x1024 .bf16) : IVec S_ 1 :=
  let main_v0 : FVec F S1x256x1024 .f32 := (extf .f32 · bitsLt_bf16_f32) main_arg0
  let main_v1 : FVec F S1024x1024 .f32 := (extf .f32 · bitsLt_bf16_f32) main_arg1
  let main_v2 : FVec F S1x256x1024 .f32 := Host.absf main_v0
  let main_cst : FVec F S_ .f32 := constant S_ .f32 0x7F800000#32
  let main_v3 : FVec F S1x256x1024 .f32 := broadcastInDim S1x256x1024 ![] bcast_S_S1x256x1024 main_cst
  let main_v4 : IVec S1x256x1024 1 := cmpf .olt main_v2 main_v3
  let main_c : IVec S_ 1 := constantI S_ 1 1#1
  let main_v5 : IVec S_ 1 := (fun x v => Host.reduce IntOp.andi x v reducesTo_S1x256x1024_S_d0_1_2 h_S_) main_v4 main_c
  let main_v6 : FVec F S1024x1024 .f32 := Host.absf main_v1
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v5 main_v9
  let main_v11 : FVec F S1x4096x32x128 .f32 := Host.absf main_arg2
  let main_cst_2 : FVec F S_ .f32 := constant S_ .f32 0x7F800000#32
  let main_v12 : FVec F S1x4096x32x128 .f32 := broadcastInDim S1x4096x32x128 ![] bcast_S_S1x4096x32x128 main_cst_2
  let main_v13 : IVec S1x4096x32x128 1 := cmpf .olt main_v11 main_v12
  let main_c_3 : IVec S_ 1 := constantI S_ 1 1#1
  let main_v14 : IVec S_ 1 := (fun x v => Host.reduce IntOp.andi x v reducesTo_S1x4096x32x128_S_d0_1_2_3 h_S_) main_v13 main_c_3
  let main_v15 : IVec S_ 1 := andi main_v10 main_v14
  main_v15
-- ==== Pre_finite_scores_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .bf16) (main_arg1 : FVec F S1024x4096 .bf16) (main_arg2 : FVec F S1x4096x32x128 .f32) (main_arg3 : FVec F S1x4096x32x128 .f32) (main_arg4 : FVec F S4096x1024 .bf16) : IVec S_ 1 :=
  let main_v0 : FVec F S1x1024x1024 .f32 := (extf .f32 · bitsLt_bf16_f32) main_arg0
  let main_v1 : FVec F S1024x4096 .f32 := (extf .f32 · bitsLt_bf16_f32) main_arg1
  let main_v2 : FVec F S1x1024x1024 .f32 := Host.absf main_v0
  let main_cst : FVec F S_ .f32 := constant S_ .f32 0x7F800000#32
  let main_v3 : FVec F S1x1024x1024 .f32 := broadcastInDim S1x1024x1024 ![] bcast_S_S1x1024x1024 main_cst
  let main_v4 : IVec S1x1024x1024 1 := cmpf .olt main_v2 main_v3
  let main_c : IVec S_ 1 := constantI S_ 1 1#1
  let main_v5 : IVec S_ 1 := (fun x v => Host.reduce IntOp.andi x v reducesTo_S1x1024x1024_S_d0_1_2 h_S_) main_v4 main_c
  let main_v6 : FVec F S1024x4096 .f32 := Host.absf main_v1
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v5 main_v9
  let main_v11 : FVec F S1x4096x32x128 .f32 := Host.absf main_arg2
  let main_cst_2 : FVec F S_ .f32 := constant S_ .f32 0x7F800000#32
  let main_v12 : FVec F S1x4096x32x128 .f32 := broadcastInDim S1x4096x32x128 ![] bcast_S_S1x4096x32x128 main_cst_2
  let main_v13 : IVec S1x4096x32x128 1 := cmpf .olt main_v11 main_v12
  let main_c_3 : IVec S_ 1 := constantI S_ 1 1#1
  let main_v14 : IVec S_ 1 := (fun x v => Host.reduce IntOp.andi x v reducesTo_S1x4096x32x128_S_d0_1_2_3 h_S_) main_v13 main_c_3
  let main_v15 : IVec S_ 1 := andi main_v10 main_v14
  main_v15
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S8x1152x128 : Shape := ⟨3, ![8, 1152, 128]⟩
abbrev S3x128x1024 : Shape := ⟨3, ![3, 128, 1024]⟩
abbrev S16 : Shape := ⟨1, ![16]⟩
abbrev S3 : Shape := ⟨1, ![3]⟩
abbrev S1 : Shape := ⟨1, ![1]⟩
abbrev S_ : Shape := ⟨0, ![]⟩
abbrev S1x1152x128 : Shape := ⟨3, ![1, 1152, 128]⟩
abbrev S1152x128 : Shape := ⟨2, ![1152, 128]⟩
abbrev S1x1152x1x128 : Shape := ⟨4, ![1, 1152, 1, 128]⟩
abbrev S128x1024 : Shape := ⟨2, ![128, 1024]⟩
abbrev S128x384 : Shape := ⟨2, ![128, 384]⟩
abbrev S128x128 : Shape := ⟨2, ![128, 128]⟩
abbrev S1x384x128 : Shape := ⟨3, ![1, 384, 128]⟩
abbrev S384x128 : Shape := ⟨2, ![384, 128]⟩
abbrev S128 : Shape := ⟨1, ![128]⟩
abbrev S128x1 : Shape := ⟨2, ![128, 1]⟩
abbrev S1x128x1024 : Shape := ⟨3, ![1, 128, 1024]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x32x128, .f32⟩
  | .hbm, ⟨3, _⟩ => ⟨S1x4096x32x128, .f32⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S8x1152x128, .f32⟩
  | .local _ .vmem, ⟨9, _⟩ => ⟨S8x1152x128, .f32⟩
  | .local _ .vmem, ⟨10, _⟩ => ⟨S3x128x1024, .bf16⟩
  | .local _ .vmem, ⟨11, _⟩ => ⟨S3x128x1024, .bf16⟩
  | .local _ .vmem, ⟨12, _⟩ => ⟨S3x128x1024, .bf16⟩
  | .local _ .vmem, ⟨13, _⟩ => ⟨S3x128x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_14 : BitVec 32) : Fin 4 → Nat :=
  let c0_i32_15 : BitVec 32 := 0#32
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let v27 : BitVec 32 := Scalar.addi v26 c0_i32_14
  let c0_i32_21 : BitVec 32 := 0#32
  ![0, 0, v27.toNat, 0]
def k0_dev1 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_131 : BitVec 32 := 1#32
  let v140 : BitVec 32 := Scalar.muli v14 c1_i32_131
  let v141 : BitVec 32 := Scalar.addi c0_i32_132 v140
  v141.toNat
def k0_dev2 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_134 : BitVec 32 := 1#32
  let v142 : BitVec 32 := Scalar.muli v25 c1_i32_134
  let v143 : BitVec 32 := Scalar.addi c0_i32_135 v142
  v143.toNat
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v146 : BitVec 32 := Scalar.muli v2 c256_i32
  v146
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v146 : BitVec 32 := Scalar.muli v2 c256_i32
  let v147 : BitVec 32 := v146
  let v148 : Index := Scalar.indexCast v147
  let c0_139 : Index := 0#32
  ![v148.toNat, 0]
def k0_mult2 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_140 : BitVec 32 := 256#32
  let v152 : BitVec 32 := Scalar.muli v2 c256_i32_140
  let c0_i32_141 : BitVec 32 := 0#32
  let v153 : BitVec 32 := Scalar.addi v152 c0_i32_141
  v153
def k0_off3 (d0 : Dev nD) (c0_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_140 : BitVec 32 := 256#32
  let v152 : BitVec 32 := Scalar.muli v2 c256_i32_140
  let v153 : BitVec 32 := Scalar.addi v152 c0_i32_141
  let v154 : BitVec 32 := v153
  let c0_i32_146 : BitVec 32 := 0#32
  ![v154.toNat, 0]
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_144 : BitVec 32 := 1#32
  let v155 : BitVec 32 := Scalar.muli v25 c1_i32_144
  let v156 : BitVec 32 := Scalar.addi c0_i32_145 v155
  v156.toNat
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_148 : BitVec 32 := 256#32
  let v163 : BitVec 32 := Scalar.muli v2 c256_i32_148
  let c128_i32 : BitVec 32 := 128#32
  let v164 : BitVec 32 := Scalar.addi v163 c128_i32
  v164
def k0_dev4 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_151 : BitVec 32 := 1#32
  let v166 : BitVec 32 := Scalar.muli v14 c1_i32_151
  let v167 : BitVec 32 := Scalar.addi c0_i32_152 v166
  v167.toNat
def k0_mult4 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let c0_i32_156 : BitVec 32 := 0#32
  let v175 : BitVec 32 := Scalar.addi v174 c0_i32_156
  v175
def k0_off4 (d0 : Dev nD) (c0_i32_156 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let v177 : Index := Scalar.indexCast v176
  let c0_157 : Index := 0#32
  ![v177.toNat, 0]
def k0_mult5 (d0 : Dev nD) : BitVec 32 :=
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let c0_i32_156 : BitVec 32 := 0#32
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  v187
def k0_off5 (d0 : Dev nD) (c0_i32_156 : BitVec 32) : Fin 3 → Nat :=
  let c0_180 : Index := 0#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v215 : Index := Scalar.indexCast v188
  let c0_181 : Index := 0#32
  ![0, v215.toNat, 0]
def k0_off6 (d0 : Dev nD) (c0_i32_156 : BitVec 32) : Fin 3 → Nat :=
  let c1 : Index := 1#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v251 : Index := Scalar.indexCast v188
  let c0_204 : Index := 0#32
  ![1, v251.toNat, 0]
def k0_off7 (d0 : Dev nD) (c0_i32_156 : BitVec 32) : Fin 3 → Nat :=
  let c2 : Index := 2#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v287 : Index := Scalar.indexCast v188
  let c0_226 : Index := 0#32
  ![2, v287.toNat, 0]
def k0_off8 (d0 : Dev nD) (c0_i32_156 : BitVec 32) : Fin 3 → Nat :=
  let c3 : Index := 3#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v323 : Index := Scalar.indexCast v188
  let c0_248 : Index := 0#32
  ![3, v323.toNat, 0]
def k0_off9 (d0 : Dev nD) (c0_i32_156 : BitVec 32) : Fin 3 → Nat :=
  let c4 : Index := 4#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v359 : Index := Scalar.indexCast v188
  let c0_270 : Index := 0#32
  ![4, v359.toNat, 0]
def k0_off10 (d0 : Dev nD) (c0_i32_156 : BitVec 32) : Fin 3 → Nat :=
  let c5 : Index := 5#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v395 : Index := Scalar.indexCast v188
  let c0_292 : Index := 0#32
  ![5, v395.toNat, 0]
def k0_off11 (d0 : Dev nD) (c0_i32_156 : BitVec 32) : Fin 3 → Nat :=
  let c6 : Index := 6#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v431 : Index := Scalar.indexCast v188
  let c0_314 : Index := 0#32
  ![6, v431.toNat, 0]
def k0_off12 (d0 : Dev nD) (c0_i32_156 : BitVec 32) : Fin 3 → Nat :=
  let c7 : Index := 7#32
  let c768_i32 : BitVec 32 := 768#32
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_155 : BitVec 32 := 256#32
  let v174 : BitVec 32 := Scalar.muli v2 c256_i32_155
  let v175 : BitVec 32 := Scalar.addi v174 c0_i32_156
  let v176 : BitVec 32 := v175
  let c128_i32_161 : BitVec 32 := 128#32
  let v185 : BitVec 32 := Scalar.subi v176 c128_i32_161
  let v186 : BitVec 32 := Scalar.maxsi c0_i32_162 v185
  let v187 : BitVec 32 := Scalar.minsi c768_i32 v186
  let v188 : BitVec 32 := v187
  let v467 : Index := Scalar.indexCast v188
  let c0_336 : Index := 0#32
  ![7, v467.toNat, 0]
def k0_mult6 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let c0_i32_359 : BitVec 32 := 0#32
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_366 : BitVec 32 := 256#32
  let v516 : BitVec 32 := Scalar.muli v515 c256_i32_366
  let c0_i32_367 : BitVec 32 := 0#32
  let v517 : BitVec 32 := Scalar.addi v516 c0_i32_367
  v517
def k0_off13 (d0 : Dev nD) (c0_i32_359 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_366 : BitVec 32 := 256#32
  let v516 : BitVec 32 := Scalar.muli v515 c256_i32_366
  let c0_i32_367 : BitVec 32 := 0#32
  let v517 : BitVec 32 := Scalar.addi v516 c0_i32_367
  let v518 : BitVec 32 := v517
  let c0_i32_372 : BitVec 32 := 0#32
  ![v518.toNat, 0]
def k0_dev5 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_370 : BitVec 32 := 1#32
  let v519 : BitVec 32 := Scalar.muli v25 c1_i32_370
  let v520 : BitVec 32 := Scalar.addi c0_i32_371 v519
  v520.toNat
def k0_mult7 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let c0_i32_381 : BitVec 32 := 0#32
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_388 : BitVec 32 := 256#32
  let v545 : BitVec 32 := Scalar.muli v544 c256_i32_388
  let c128_i32_389 : BitVec 32 := 128#32
  let v546 : BitVec 32 := Scalar.addi v545 c128_i32_389
  v546
def k0_off14 (d0 : Dev nD) (c0_i32_381 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_388 : BitVec 32 := 256#32
  let v545 : BitVec 32 := Scalar.muli v544 c256_i32_388
  let c128_i32_389 : BitVec 32 := 128#32
  let v546 : BitVec 32 := Scalar.addi v545 c128_i32_389
  let v547 : BitVec 32 := v546
  let c0_i32_394 : BitVec 32 := 0#32
  ![v547.toNat, 0]
def k0_dev6 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_392 : BitVec 32 := 1#32
  let v548 : BitVec 32 := Scalar.muli v14 c1_i32_392
  let v549 : BitVec 32 := Scalar.addi c0_i32_393 v548
  v549.toNat
def k0_mult8 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let c0_i32_359 : BitVec 32 := 0#32
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  v556
def k0_mult9 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let c0_i32_381 : BitVec 32 := 0#32
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  v559
def k0_off15 (d0 : Dev nD) (c0_i32_359 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let v561 : Index := Scalar.indexCast v557
  let c0_399 : Index := 0#32
  ![v561.toNat, 0]
def k0_off16 (d0 : Dev nD) (c0_i32_381 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let v566 : Index := Scalar.indexCast v560
  let c0_402 : Index := 0#32
  ![v566.toNat, 0]
def k0_mult10 (d0 : Dev nD) : BitVec 32 :=
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let c0_i32_359 : BitVec 32 := 0#32
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  v580
def k0_off17 (d0 : Dev nD) (c0_i32_359 : BitVec 32) : Fin 3 → Nat :=
  let c0_417 : Index := 0#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v596 : Index := Scalar.indexCast v581
  let c0_418 : Index := 0#32
  ![0, v596.toNat, 0]
def k0_off18 (d0 : Dev nD) (c0_i32_359 : BitVec 32) : Fin 3 → Nat :=
  let c1_427 : Index := 1#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v620 : Index := Scalar.indexCast v581
  let c0_428 : Index := 0#32
  ![1, v620.toNat, 0]
def k0_off19 (d0 : Dev nD) (c0_i32_359 : BitVec 32) : Fin 3 → Nat :=
  let c2_437 : Index := 2#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v644 : Index := Scalar.indexCast v581
  let c0_438 : Index := 0#32
  ![2, v644.toNat, 0]
def k0_off20 (d0 : Dev nD) (c0_i32_359 : BitVec 32) : Fin 3 → Nat :=
  let c3_447 : Index := 3#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v668 : Index := Scalar.indexCast v581
  let c0_448 : Index := 0#32
  ![3, v668.toNat, 0]
def k0_off21 (d0 : Dev nD) (c0_i32_359 : BitVec 32) : Fin 3 → Nat :=
  let c4_457 : Index := 4#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v692 : Index := Scalar.indexCast v581
  let c0_458 : Index := 0#32
  ![4, v692.toNat, 0]
def k0_off22 (d0 : Dev nD) (c0_i32_359 : BitVec 32) : Fin 3 → Nat :=
  let c5_467 : Index := 5#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v716 : Index := Scalar.indexCast v581
  let c0_468 : Index := 0#32
  ![5, v716.toNat, 0]
def k0_off23 (d0 : Dev nD) (c0_i32_359 : BitVec 32) : Fin 3 → Nat :=
  let c6_477 : Index := 6#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v740 : Index := Scalar.indexCast v581
  let c0_478 : Index := 0#32
  ![6, v740.toNat, 0]
def k0_off24 (d0 : Dev nD) (c0_i32_359 : BitVec 32) : Fin 3 → Nat :=
  let c7_487 : Index := 7#32
  let c768_i32_413 : BitVec 32 := 768#32
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_357 : BitVec 32 := 4#32
  let v503 : BitVec 32 := Scalar.addi v2 c4_i32_357
  let c1_i32_358 : BitVec 32 := 1#32
  let v504 : BitVec 32 := Scalar.subi v503 c1_i32_358
  let v505 : BitVec 32 := Scalar.subi v504 c0_i32_359
  let c4_i32_360 : BitVec 32 := 4#32
  let c0_i32_361 : BitVec 32 := 0#32
  let v506 : BitVec 1 := Scalar.cmpi .eq c4_i32_360 c0_i32_361
  let c1_i32_362 : BitVec 32 := 1#32
  let v507 : BitVec 32 := Scalar.select v506 c1_i32_362 c4_i32_360
  let v508 : BitVec 32 := Scalar.remsi v505 v507
  let c0_i32_364 : BitVec 32 := 0#32
  let v510 : BitVec 1 := Scalar.cmpi .slt v508 c0_i32_364
  let c0_i32_365 : BitVec 32 := 0#32
  let v511 : BitVec 1 := Scalar.cmpi .slt v507 c0_i32_365
  let v512 : BitVec 1 := Scalar.xori v510 v511
  let c0_i32_363 : BitVec 32 := 0#32
  let v509 : BitVec 1 := Scalar.cmpi .ne v508 c0_i32_363
  let v513 : BitVec 1 := Scalar.andi v512 v509
  let v514 : BitVec 32 := Scalar.addi v508 v507
  let v515 : BitVec 32 := Scalar.select v513 v514 v508
  let c256_i32_396 : BitVec 32 := 256#32
  let v556 : BitVec 32 := Scalar.muli v515 c256_i32_396
  let v557 : BitVec 32 := v556
  let c128_i32_411 : BitVec 32 := 128#32
  let v578 : BitVec 32 := Scalar.subi v557 c128_i32_411
  let v579 : BitVec 32 := Scalar.maxsi c0_i32_412 v578
  let v580 : BitVec 32 := Scalar.minsi c768_i32_413 v579
  let v581 : BitVec 32 := v580
  let v764 : Index := Scalar.indexCast v581
  let c0_488 : Index := 0#32
  ![7, v764.toNat, 0]
def k0_mult11 (d0 : Dev nD) : BitVec 32 :=
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let c0_i32_381 : BitVec 32 := 0#32
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  v789
def k0_off25 (d0 : Dev nD) (c0_i32_381 : BitVec 32) : Fin 3 → Nat :=
  let c0_503 : Index := 0#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v805 : Index := Scalar.indexCast v790
  let c0_504 : Index := 0#32
  ![0, v805.toNat, 0]
def k0_off26 (d0 : Dev nD) (c0_i32_381 : BitVec 32) : Fin 3 → Nat :=
  let c1_513 : Index := 1#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v829 : Index := Scalar.indexCast v790
  let c0_514 : Index := 0#32
  ![1, v829.toNat, 0]
def k0_off27 (d0 : Dev nD) (c0_i32_381 : BitVec 32) : Fin 3 → Nat :=
  let c2_523 : Index := 2#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v853 : Index := Scalar.indexCast v790
  let c0_524 : Index := 0#32
  ![2, v853.toNat, 0]
def k0_off28 (d0 : Dev nD) (c0_i32_381 : BitVec 32) : Fin 3 → Nat :=
  let c3_533 : Index := 3#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v877 : Index := Scalar.indexCast v790
  let c0_534 : Index := 0#32
  ![3, v877.toNat, 0]
def k0_off29 (d0 : Dev nD) (c0_i32_381 : BitVec 32) : Fin 3 → Nat :=
  let c4_543 : Index := 4#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v901 : Index := Scalar.indexCast v790
  let c0_544 : Index := 0#32
  ![4, v901.toNat, 0]
def k0_off30 (d0 : Dev nD) (c0_i32_381 : BitVec 32) : Fin 3 → Nat :=
  let c5_553 : Index := 5#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v925 : Index := Scalar.indexCast v790
  let c0_554 : Index := 0#32
  ![5, v925.toNat, 0]
def k0_off31 (d0 : Dev nD) (c0_i32_381 : BitVec 32) : Fin 3 → Nat :=
  let c6_563 : Index := 6#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v949 : Index := Scalar.indexCast v790
  let c0_564 : Index := 0#32
  ![6, v949.toNat, 0]
def k0_off32 (d0 : Dev nD) (c0_i32_381 : BitVec 32) : Fin 3 → Nat :=
  let c7_573 : Index := 7#32
  let c768_i32_499 : BitVec 32 := 768#32
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_380 : BitVec 32 := 1#32
  let v533 : BitVec 32 := Scalar.addi v2 c1_i32_380
  let v534 : BitVec 32 := Scalar.addi v533 c0_i32_381
  let c4_i32_382 : BitVec 32 := 4#32
  let c0_i32_383 : BitVec 32 := 0#32
  let v535 : BitVec 1 := Scalar.cmpi .eq c4_i32_382 c0_i32_383
  let c1_i32_384 : BitVec 32 := 1#32
  let v536 : BitVec 32 := Scalar.select v535 c1_i32_384 c4_i32_382
  let v537 : BitVec 32 := Scalar.remsi v534 v536
  let c0_i32_386 : BitVec 32 := 0#32
  let v539 : BitVec 1 := Scalar.cmpi .slt v537 c0_i32_386
  let c0_i32_387 : BitVec 32 := 0#32
  let v540 : BitVec 1 := Scalar.cmpi .slt v536 c0_i32_387
  let v541 : BitVec 1 := Scalar.xori v539 v540
  let c0_i32_385 : BitVec 32 := 0#32
  let v538 : BitVec 1 := Scalar.cmpi .ne v537 c0_i32_385
  let v542 : BitVec 1 := Scalar.andi v541 v538
  let v543 : BitVec 32 := Scalar.addi v537 v536
  let v544 : BitVec 32 := Scalar.select v542 v543 v537
  let c256_i32_397 : BitVec 32 := 256#32
  let v558 : BitVec 32 := Scalar.muli v544 c256_i32_397
  let c128_i32_398 : BitVec 32 := 128#32
  let v559 : BitVec 32 := Scalar.addi v558 c128_i32_398
  let v560 : BitVec 32 := v559
  let c128_i32_497 : BitVec 32 := 128#32
  let v787 : BitVec 32 := Scalar.subi v560 c128_i32_497
  let v788 : BitVec 32 := Scalar.maxsi c0_i32_498 v787
  let v789 : BitVec 32 := Scalar.minsi c768_i32_499 v788
  let v790 : BitVec 32 := v789
  let v973 : Index := Scalar.indexCast v790
  let c0_574 : Index := 0#32
  ![7, v973.toNat, 0]
def k0_dev7 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_595 : BitVec 32 := 1#32
  let v1005 : BitVec 32 := Scalar.muli v25 c1_i32_595
  let v1006 : BitVec 32 := Scalar.addi c0_i32_596 v1005
  v1006.toNat
def k0_dev8 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_608 : BitVec 32 := 1#32
  let v1020 : BitVec 32 := Scalar.muli v14 c1_i32_608
  let v1021 : BitVec 32 := Scalar.addi c0_i32_609 v1020
  v1021.toNat
def k0_mult12 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_620 : BitVec 32 := 4#32
  let v1036 : BitVec 32 := Scalar.addi v2 c4_i32_620
  let c1_i32_621 : BitVec 32 := 1#32
  let v1037 : BitVec 32 := Scalar.subi v1036 c1_i32_621
  let c1_i32_622 : BitVec 32 := 1#32
  let v1038 : BitVec 32 := Scalar.subi v1037 c1_i32_622
  let c4_i32_623 : BitVec 32 := 4#32
  let c0_i32_624 : BitVec 32 := 0#32
  let v1039 : BitVec 1 := Scalar.cmpi .eq c4_i32_623 c0_i32_624
  let c1_i32_625 : BitVec 32 := 1#32
  let v1040 : BitVec 32 := Scalar.select v1039 c1_i32_625 c4_i32_623
  let v1041 : BitVec 32 := Scalar.remsi v1038 v1040
  let c0_i32_627 : BitVec 32 := 0#32
  let v1043 : BitVec 1 := Scalar.cmpi .slt v1041 c0_i32_627
  let c0_i32_628 : BitVec 32 := 0#32
  let v1044 : BitVec 1 := Scalar.cmpi .slt v1040 c0_i32_628
  let v1045 : BitVec 1 := Scalar.xori v1043 v1044
  let c0_i32_626 : BitVec 32 := 0#32
  let v1042 : BitVec 1 := Scalar.cmpi .ne v1041 c0_i32_626
  let v1046 : BitVec 1 := Scalar.andi v1045 v1042
  let v1047 : BitVec 32 := Scalar.addi v1041 v1040
  let v1048 : BitVec 32 := Scalar.select v1046 v1047 v1041
  let c256_i32_629 : BitVec 32 := 256#32
  let v1049 : BitVec 32 := Scalar.muli v1048 c256_i32_629
  let c0_i32_630 : BitVec 32 := 0#32
  let v1050 : BitVec 32 := Scalar.addi v1049 c0_i32_630
  v1050
def k0_dev9 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_633 : BitVec 32 := 1#32
  let v1052 : BitVec 32 := Scalar.muli v25 c1_i32_633
  let v1053 : BitVec 32 := Scalar.addi c0_i32_634 v1052
  v1053.toNat
def k0_mult13 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_643 : BitVec 32 := 1#32
  let v1066 : BitVec 32 := Scalar.addi v2 c1_i32_643
  let c1_i32_644 : BitVec 32 := 1#32
  let v1067 : BitVec 32 := Scalar.addi v1066 c1_i32_644
  let c4_i32_645 : BitVec 32 := 4#32
  let c0_i32_646 : BitVec 32 := 0#32
  let v1068 : BitVec 1 := Scalar.cmpi .eq c4_i32_645 c0_i32_646
  let c1_i32_647 : BitVec 32 := 1#32
  let v1069 : BitVec 32 := Scalar.select v1068 c1_i32_647 c4_i32_645
  let v1070 : BitVec 32 := Scalar.remsi v1067 v1069
  let c0_i32_649 : BitVec 32 := 0#32
  let v1072 : BitVec 1 := Scalar.cmpi .slt v1070 c0_i32_649
  let c0_i32_650 : BitVec 32 := 0#32
  let v1073 : BitVec 1 := Scalar.cmpi .slt v1069 c0_i32_650
  let v1074 : BitVec 1 := Scalar.xori v1072 v1073
  let c0_i32_648 : BitVec 32 := 0#32
  let v1071 : BitVec 1 := Scalar.cmpi .ne v1070 c0_i32_648
  let v1075 : BitVec 1 := Scalar.andi v1074 v1071
  let v1076 : BitVec 32 := Scalar.addi v1070 v1069
  let v1077 : BitVec 32 := Scalar.select v1075 v1076 v1070
  let c256_i32_651 : BitVec 32 := 256#32
  let v1078 : BitVec 32 := Scalar.muli v1077 c256_i32_651
  let c128_i32_652 : BitVec 32 := 128#32
  let v1079 : BitVec 32 := Scalar.addi v1078 c128_i32_652
  v1079
def k0_dev10 (d0 : Dev nD) : Nat :=
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_655 : BitVec 32 := 1#32
  let v1081 : BitVec 32 := Scalar.muli v14 c1_i32_655
  let v1082 : BitVec 32 := Scalar.addi c0_i32_656 v1081
  v1082.toNat
def k0_mult14 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_620 : BitVec 32 := 4#32
  let v1036 : BitVec 32 := Scalar.addi v2 c4_i32_620
  let c1_i32_621 : BitVec 32 := 1#32
  let v1037 : BitVec 32 := Scalar.subi v1036 c1_i32_621
  let c1_i32_622 : BitVec 32 := 1#32
  let v1038 : BitVec 32 := Scalar.subi v1037 c1_i32_622
  let c4_i32_623 : BitVec 32 := 4#32
  let c0_i32_624 : BitVec 32 := 0#32
  let v1039 : BitVec 1 := Scalar.cmpi .eq c4_i32_623 c0_i32_624
  let c1_i32_625 : BitVec 32 := 1#32
  let v1040 : BitVec 32 := Scalar.select v1039 c1_i32_625 c4_i32_623
  let v1041 : BitVec 32 := Scalar.remsi v1038 v1040
  let c0_i32_627 : BitVec 32 := 0#32
  let v1043 : BitVec 1 := Scalar.cmpi .slt v1041 c0_i32_627
  let c0_i32_628 : BitVec 32 := 0#32
  let v1044 : BitVec 1 := Scalar.cmpi .slt v1040 c0_i32_628
  let v1045 : BitVec 1 := Scalar.xori v1043 v1044
  let c0_i32_626 : BitVec 32 := 0#32
  let v1042 : BitVec 1 := Scalar.cmpi .ne v1041 c0_i32_626
  let v1046 : BitVec 1 := Scalar.andi v1045 v1042
  let v1047 : BitVec 32 := Scalar.addi v1041 v1040
  let v1048 : BitVec 32 := Scalar.select v1046 v1047 v1041
  let c256_i32_659 : BitVec 32 := 256#32
  let v1089 : BitVec 32 := Scalar.muli v1048 c256_i32_659
  v1089
def k0_mult15 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_643 : BitVec 32 := 1#32
  let v1066 : BitVec 32 := Scalar.addi v2 c1_i32_643
  let c1_i32_644 : BitVec 32 := 1#32
  let v1067 : BitVec 32 := Scalar.addi v1066 c1_i32_644
  let c4_i32_645 : BitVec 32 := 4#32
  let c0_i32_646 : BitVec 32 := 0#32
  let v1068 : BitVec 1 := Scalar.cmpi .eq c4_i32_645 c0_i32_646
  let c1_i32_647 : BitVec 32 := 1#32
  let v1069 : BitVec 32 := Scalar.select v1068 c1_i32_647 c4_i32_645
  let v1070 : BitVec 32 := Scalar.remsi v1067 v1069
  let c0_i32_649 : BitVec 32 := 0#32
  let v1072 : BitVec 1 := Scalar.cmpi .slt v1070 c0_i32_649
  let c0_i32_650 : BitVec 32 := 0#32
  let v1073 : BitVec 1 := Scalar.cmpi .slt v1069 c0_i32_650
  let v1074 : BitVec 1 := Scalar.xori v1072 v1073
  let c0_i32_648 : BitVec 32 := 0#32
  let v1071 : BitVec 1 := Scalar.cmpi .ne v1070 c0_i32_648
  let v1075 : BitVec 1 := Scalar.andi v1074 v1071
  let v1076 : BitVec 32 := Scalar.addi v1070 v1069
  let v1077 : BitVec 32 := Scalar.select v1075 v1076 v1070
  let c256_i32_660 : BitVec 32 := 256#32
  let v1091 : BitVec 32 := Scalar.muli v1077 c256_i32_660
  let c128_i32_661 : BitVec 32 := 128#32
  let v1092 : BitVec 32 := Scalar.addi v1091 c128_i32_661
  v1092
def k0_mult16 (d0 : Dev nD) : BitVec 32 :=
  let c768_i32_676 : BitVec 32 := 768#32
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_620 : BitVec 32 := 4#32
  let v1036 : BitVec 32 := Scalar.addi v2 c4_i32_620
  let c1_i32_621 : BitVec 32 := 1#32
  let v1037 : BitVec 32 := Scalar.subi v1036 c1_i32_621
  let c1_i32_622 : BitVec 32 := 1#32
  let v1038 : BitVec 32 := Scalar.subi v1037 c1_i32_622
  let c4_i32_623 : BitVec 32 := 4#32
  let c0_i32_624 : BitVec 32 := 0#32
  let v1039 : BitVec 1 := Scalar.cmpi .eq c4_i32_623 c0_i32_624
  let c1_i32_625 : BitVec 32 := 1#32
  let v1040 : BitVec 32 := Scalar.select v1039 c1_i32_625 c4_i32_623
  let v1041 : BitVec 32 := Scalar.remsi v1038 v1040
  let c0_i32_627 : BitVec 32 := 0#32
  let v1043 : BitVec 1 := Scalar.cmpi .slt v1041 c0_i32_627
  let c0_i32_628 : BitVec 32 := 0#32
  let v1044 : BitVec 1 := Scalar.cmpi .slt v1040 c0_i32_628
  let v1045 : BitVec 1 := Scalar.xori v1043 v1044
  let c0_i32_626 : BitVec 32 := 0#32
  let v1042 : BitVec 1 := Scalar.cmpi .ne v1041 c0_i32_626
  let v1046 : BitVec 1 := Scalar.andi v1045 v1042
  let v1047 : BitVec 32 := Scalar.addi v1041 v1040
  let v1048 : BitVec 32 := Scalar.select v1046 v1047 v1041
  let c256_i32_659 : BitVec 32 := 256#32
  let v1089 : BitVec 32 := Scalar.muli v1048 c256_i32_659
  let v1090 : BitVec 32 := v1089
  let c128_i32_674 : BitVec 32 := 128#32
  let v1111 : BitVec 32 := Scalar.subi v1090 c128_i32_674
  let v1112 : BitVec 32 := Scalar.maxsi c0_i32_675 v1111
  let v1113 : BitVec 32 := Scalar.minsi c768_i32_676 v1112
  v1113
def k0_mult17 (d0 : Dev nD) : BitVec 32 :=
  let c768_i32_762 : BitVec 32 := 768#32
  let c0_i32_761 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_643 : BitVec 32 := 1#32
  let v1066 : BitVec 32 := Scalar.addi v2 c1_i32_643
  let c1_i32_644 : BitVec 32 := 1#32
  let v1067 : BitVec 32 := Scalar.addi v1066 c1_i32_644
  let c4_i32_645 : BitVec 32 := 4#32
  let c0_i32_646 : BitVec 32 := 0#32
  let v1068 : BitVec 1 := Scalar.cmpi .eq c4_i32_645 c0_i32_646
  let c1_i32_647 : BitVec 32 := 1#32
  let v1069 : BitVec 32 := Scalar.select v1068 c1_i32_647 c4_i32_645
  let v1070 : BitVec 32 := Scalar.remsi v1067 v1069
  let c0_i32_649 : BitVec 32 := 0#32
  let v1072 : BitVec 1 := Scalar.cmpi .slt v1070 c0_i32_649
  let c0_i32_650 : BitVec 32 := 0#32
  let v1073 : BitVec 1 := Scalar.cmpi .slt v1069 c0_i32_650
  let v1074 : BitVec 1 := Scalar.xori v1072 v1073
  let c0_i32_648 : BitVec 32 := 0#32
  let v1071 : BitVec 1 := Scalar.cmpi .ne v1070 c0_i32_648
  let v1075 : BitVec 1 := Scalar.andi v1074 v1071
  let v1076 : BitVec 32 := Scalar.addi v1070 v1069
  let v1077 : BitVec 32 := Scalar.select v1075 v1076 v1070
  let c256_i32_660 : BitVec 32 := 256#32
  let v1091 : BitVec 32 := Scalar.muli v1077 c256_i32_660
  let c128_i32_661 : BitVec 32 := 128#32
  let v1092 : BitVec 32 := Scalar.addi v1091 c128_i32_661
  let v1093 : BitVec 32 := v1092
  let c128_i32_760 : BitVec 32 := 128#32
  let v1320 : BitVec 32 := Scalar.subi v1093 c128_i32_760
  let v1321 : BitVec 32 := Scalar.maxsi c0_i32_761 v1320
  let v1322 : BitVec 32 := Scalar.minsi c768_i32_762 v1321
  v1322
def k0_dev11 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_871 : BitVec 32 := 1#32
  let v1550 : BitVec 32 := Scalar.muli v14 c1_i32_871
  let v1551 : BitVec 32 := Scalar.addi c0_i32_872 v1550
  v1551.toNat
def k0_dev12 (d0 : Dev nD) : Nat :=
  let c0_i32_898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_897 : BitVec 32 := 1#32
  let v1577 : BitVec 32 := Scalar.muli v25 c1_i32_897
  let v1578 : BitVec 32 := Scalar.addi c0_i32_898 v1577
  v1578.toNat
def k0_mult18 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_909 : BitVec 32 := 4#32
  let v1593 : BitVec 32 := Scalar.addi v2 c4_i32_909
  let c1_i32_910 : BitVec 32 := 1#32
  let v1594 : BitVec 32 := Scalar.subi v1593 c1_i32_910
  let c2_i32_911 : BitVec 32 := 2#32
  let v1595 : BitVec 32 := Scalar.subi v1594 c2_i32_911
  let c4_i32_912 : BitVec 32 := 4#32
  let c0_i32_913 : BitVec 32 := 0#32
  let v1596 : BitVec 1 := Scalar.cmpi .eq c4_i32_912 c0_i32_913
  let c1_i32_914 : BitVec 32 := 1#32
  let v1597 : BitVec 32 := Scalar.select v1596 c1_i32_914 c4_i32_912
  let v1598 : BitVec 32 := Scalar.remsi v1595 v1597
  let c0_i32_916 : BitVec 32 := 0#32
  let v1600 : BitVec 1 := Scalar.cmpi .slt v1598 c0_i32_916
  let c0_i32_917 : BitVec 32 := 0#32
  let v1601 : BitVec 1 := Scalar.cmpi .slt v1597 c0_i32_917
  let v1602 : BitVec 1 := Scalar.xori v1600 v1601
  let c0_i32_915 : BitVec 32 := 0#32
  let v1599 : BitVec 1 := Scalar.cmpi .ne v1598 c0_i32_915
  let v1603 : BitVec 1 := Scalar.andi v1602 v1599
  let v1604 : BitVec 32 := Scalar.addi v1598 v1597
  let v1605 : BitVec 32 := Scalar.select v1603 v1604 v1598
  let c256_i32_932 : BitVec 32 := 256#32
  let v1624 : BitVec 32 := Scalar.muli v1605 c256_i32_932
  v1624
def k0_mult19 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_924 : BitVec 32 := 1#32
  let v1612 : BitVec 32 := Scalar.addi v2 c1_i32_924
  let c2_i32_925 : BitVec 32 := 2#32
  let v1613 : BitVec 32 := Scalar.addi v1612 c2_i32_925
  let c4_i32_926 : BitVec 32 := 4#32
  let c0_i32_927 : BitVec 32 := 0#32
  let v1614 : BitVec 1 := Scalar.cmpi .eq c4_i32_926 c0_i32_927
  let c1_i32_928 : BitVec 32 := 1#32
  let v1615 : BitVec 32 := Scalar.select v1614 c1_i32_928 c4_i32_926
  let v1616 : BitVec 32 := Scalar.remsi v1613 v1615
  let c0_i32_930 : BitVec 32 := 0#32
  let v1618 : BitVec 1 := Scalar.cmpi .slt v1616 c0_i32_930
  let c0_i32_931 : BitVec 32 := 0#32
  let v1619 : BitVec 1 := Scalar.cmpi .slt v1615 c0_i32_931
  let v1620 : BitVec 1 := Scalar.xori v1618 v1619
  let c0_i32_929 : BitVec 32 := 0#32
  let v1617 : BitVec 1 := Scalar.cmpi .ne v1616 c0_i32_929
  let v1621 : BitVec 1 := Scalar.andi v1620 v1617
  let v1622 : BitVec 32 := Scalar.addi v1616 v1615
  let v1623 : BitVec 32 := Scalar.select v1621 v1622 v1616
  let c256_i32_933 : BitVec 32 := 256#32
  let v1626 : BitVec 32 := Scalar.muli v1623 c256_i32_933
  let c128_i32_934 : BitVec 32 := 128#32
  let v1627 : BitVec 32 := Scalar.addi v1626 c128_i32_934
  v1627
def k0_mult20 (d0 : Dev nD) : BitVec 32 :=
  let c768_i32_949 : BitVec 32 := 768#32
  let c0_i32_948 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_909 : BitVec 32 := 4#32
  let v1593 : BitVec 32 := Scalar.addi v2 c4_i32_909
  let c1_i32_910 : BitVec 32 := 1#32
  let v1594 : BitVec 32 := Scalar.subi v1593 c1_i32_910
  let c2_i32_911 : BitVec 32 := 2#32
  let v1595 : BitVec 32 := Scalar.subi v1594 c2_i32_911
  let c4_i32_912 : BitVec 32 := 4#32
  let c0_i32_913 : BitVec 32 := 0#32
  let v1596 : BitVec 1 := Scalar.cmpi .eq c4_i32_912 c0_i32_913
  let c1_i32_914 : BitVec 32 := 1#32
  let v1597 : BitVec 32 := Scalar.select v1596 c1_i32_914 c4_i32_912
  let v1598 : BitVec 32 := Scalar.remsi v1595 v1597
  let c0_i32_916 : BitVec 32 := 0#32
  let v1600 : BitVec 1 := Scalar.cmpi .slt v1598 c0_i32_916
  let c0_i32_917 : BitVec 32 := 0#32
  let v1601 : BitVec 1 := Scalar.cmpi .slt v1597 c0_i32_917
  let v1602 : BitVec 1 := Scalar.xori v1600 v1601
  let c0_i32_915 : BitVec 32 := 0#32
  let v1599 : BitVec 1 := Scalar.cmpi .ne v1598 c0_i32_915
  let v1603 : BitVec 1 := Scalar.andi v1602 v1599
  let v1604 : BitVec 32 := Scalar.addi v1598 v1597
  let v1605 : BitVec 32 := Scalar.select v1603 v1604 v1598
  let c256_i32_932 : BitVec 32 := 256#32
  let v1624 : BitVec 32 := Scalar.muli v1605 c256_i32_932
  let v1625 : BitVec 32 := v1624
  let c128_i32_947 : BitVec 32 := 128#32
  let v1646 : BitVec 32 := Scalar.subi v1625 c128_i32_947
  let v1647 : BitVec 32 := Scalar.maxsi c0_i32_948 v1646
  let v1648 : BitVec 32 := Scalar.minsi c768_i32_949 v1647
  v1648
def k0_mult21 (d0 : Dev nD) : BitVec 32 :=
  let c768_i32_1035 : BitVec 32 := 768#32
  let c0_i32_1034 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_924 : BitVec 32 := 1#32
  let v1612 : BitVec 32 := Scalar.addi v2 c1_i32_924
  let c2_i32_925 : BitVec 32 := 2#32
  let v1613 : BitVec 32 := Scalar.addi v1612 c2_i32_925
  let c4_i32_926 : BitVec 32 := 4#32
  let c0_i32_927 : BitVec 32 := 0#32
  let v1614 : BitVec 1 := Scalar.cmpi .eq c4_i32_926 c0_i32_927
  let c1_i32_928 : BitVec 32 := 1#32
  let v1615 : BitVec 32 := Scalar.select v1614 c1_i32_928 c4_i32_926
  let v1616 : BitVec 32 := Scalar.remsi v1613 v1615
  let c0_i32_930 : BitVec 32 := 0#32
  let v1618 : BitVec 1 := Scalar.cmpi .slt v1616 c0_i32_930
  let c0_i32_931 : BitVec 32 := 0#32
  let v1619 : BitVec 1 := Scalar.cmpi .slt v1615 c0_i32_931
  let v1620 : BitVec 1 := Scalar.xori v1618 v1619
  let c0_i32_929 : BitVec 32 := 0#32
  let v1617 : BitVec 1 := Scalar.cmpi .ne v1616 c0_i32_929
  let v1621 : BitVec 1 := Scalar.andi v1620 v1617
  let v1622 : BitVec 32 := Scalar.addi v1616 v1615
  let v1623 : BitVec 32 := Scalar.select v1621 v1622 v1616
  let c256_i32_933 : BitVec 32 := 256#32
  let v1626 : BitVec 32 := Scalar.muli v1623 c256_i32_933
  let c128_i32_934 : BitVec 32 := 128#32
  let v1627 : BitVec 32 := Scalar.addi v1626 c128_i32_934
  let v1628 : BitVec 32 := v1627
  let c128_i32_1033 : BitVec 32 := 128#32
  let v1855 : BitVec 32 := Scalar.subi v1628 c128_i32_1033
  let v1856 : BitVec 32 := Scalar.maxsi c0_i32_1034 v1855
  let v1857 : BitVec 32 := Scalar.minsi c768_i32_1035 v1856
  v1857
def k0_dev13 (d0 : Dev nD) : Nat :=
  let c0_i32_1145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1144 : BitVec 32 := 1#32
  let v2085 : BitVec 32 := Scalar.muli v25 c1_i32_1144
  let v2086 : BitVec 32 := Scalar.addi c0_i32_1145 v2085
  v2086.toNat
def k0_dev14 (d0 : Dev nD) : Nat :=
  let c0_i32_1171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1170 : BitVec 32 := 1#32
  let v2112 : BitVec 32 := Scalar.muli v14 c1_i32_1170
  let v2113 : BitVec 32 := Scalar.addi c0_i32_1171 v2112
  v2113.toNat
def k0_mult22 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1176 : BitVec 32 := 256#32
  let v2122 : BitVec 32 := Scalar.muli v2 c256_i32_1176
  let c128_i32_1177 : BitVec 32 := 128#32
  let v2123 : BitVec 32 := Scalar.addi v2122 c128_i32_1177
  v2123
def k0_mult23 (d0 : Dev nD) : BitVec 32 :=
  let c768_i32_1185 : BitVec 32 := 768#32
  let c0_i32_1184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_1176 : BitVec 32 := 256#32
  let v2122 : BitVec 32 := Scalar.muli v2 c256_i32_1176
  let c128_i32_1177 : BitVec 32 := 128#32
  let v2123 : BitVec 32 := Scalar.addi v2122 c128_i32_1177
  let v2124 : BitVec 32 := v2123
  let c128_i32_1183 : BitVec 32 := 128#32
  let v2133 : BitVec 32 := Scalar.subi v2124 c128_i32_1183
  let v2134 : BitVec 32 := Scalar.maxsi c0_i32_1184 v2133
  let v2135 : BitVec 32 := Scalar.minsi c768_i32_1185 v2134
  v2135
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x4096x32x128, .f32⟩
  | .hbm, ⟨3, _⟩ => ⟨S1x4096x32x128, .f32⟩
  | .hbm, ⟨4, _⟩ => ⟨S4096x1024, .bf16⟩
  | .hbm, ⟨5, _⟩ => ⟨S1x1024x4096, .f32⟩
  | .hbm, ⟨6, _⟩ => ⟨S1x1024x4096, .bf16⟩
  | .hbm, ⟨7, _⟩ => ⟨S1x1024x32x128, .bf16⟩
  | .hbm, ⟨8, _⟩ => ⟨S1x1024x32x128, .f32⟩
  | .hbm, ⟨9, _⟩ => ⟨S1024, .i32⟩
  | .hbm, ⟨10, _⟩ => ⟨S1024x1, .i32⟩
  | .hbm, ⟨11, _⟩ => ⟨S4096, .i32⟩
  | .hbm, ⟨12, _⟩ => ⟨S1x4096, .i32⟩
  | .hbm, ⟨13, _⟩ => ⟨S1024x4096, .i32⟩
  | .hbm, ⟨14, _⟩ => ⟨S1024x4096, .i32⟩
  | .hbm, ⟨15, _⟩ => ⟨S1024x4096, .i32⟩
  | .hbm, ⟨16, _⟩ => ⟨S1024x4096, .i32⟩
  | .hbm, ⟨17, _⟩ => ⟨S_, .i32⟩
  | .hbm, ⟨18, _⟩ => ⟨S1024x4096, .i32⟩
  | .hbm, ⟨19, _⟩ => ⟨S1024x4096, .i1⟩
  | .hbm, ⟨20, _⟩ => ⟨S1x32x1024x4096, .f32⟩
  | .hbm, ⟨21, _⟩ => ⟨S_, .f32⟩
  | .hbm, ⟨22, _⟩ => ⟨S1x32x1024x4096, .f32⟩
  | .hbm, ⟨23, _⟩ => ⟨S1x32x1024x4096, .f32⟩
  | .hbm, ⟨24, _⟩ => ⟨S1x1x1024x4096, .i1⟩
  | .hbm, ⟨25, _⟩ => ⟨S_, .f32⟩
  | .hbm, ⟨26, _⟩ => ⟨S_, .f32⟩
  | .hbm, ⟨27, _⟩ => ⟨S1x32x1024x4096, .i1⟩
  | .hbm, ⟨28, _⟩ => ⟨S1x32x1024x4096, .f32⟩
  | .hbm, ⟨29, _⟩ => ⟨S1x32x1024x4096, .f32⟩
  | .hbm, ⟨30, _⟩ => ⟨S_, .f32⟩
  | .hbm, ⟨31, _⟩ => ⟨S1x32x1024, .f32⟩
  | .hbm, ⟨32, _⟩ => ⟨S1x32x1024x1, .f32⟩
  | .hbm, ⟨33, _⟩ => ⟨S1x32x1024x4096, .f32⟩
  | .hbm, ⟨34, _⟩ => ⟨S1x32x1024x4096, .f32⟩
  | .hbm, ⟨35, _⟩ => ⟨S1x32x1024x4096, .f32⟩
  | .hbm, ⟨36, _⟩ => ⟨S_, .i1⟩
  | .hbm, ⟨37, _⟩ => ⟨S1024, .i1⟩
  | .hbm, ⟨38, _⟩ => ⟨S1x1x1024x1, .i1⟩
  | .hbm, ⟨39, _⟩ => ⟨S_, .f32⟩
  | .hbm, ⟨40, _⟩ => ⟨S1x32x1024, .f32⟩
  | .hbm, ⟨41, _⟩ => ⟨S1x32x1024x1, .f32⟩
  | .hbm, ⟨42, _⟩ => ⟨S_, .f32⟩
  | .hbm, ⟨43, _⟩ => ⟨S_, .f32⟩
  | .hbm, ⟨44, _⟩ => ⟨S1x32x1024x1, .i1⟩
  | .hbm, ⟨45, _⟩ => ⟨S1x32x1024x1, .f32⟩
  | .hbm, ⟨46, _⟩ => ⟨S1x32x1024x1, .f32⟩
  | .hbm, ⟨47, _⟩ => ⟨S1x32x1024x4096, .f32⟩
  | .hbm, ⟨48, _⟩ => ⟨S1x32x1024x4096, .f32⟩
  | .hbm, ⟨49, _⟩ => ⟨S_, .f32⟩
  | .hbm, ⟨50, _⟩ => ⟨S_, .f32⟩
  | .hbm, ⟨51, _⟩ => ⟨S1x32x1024x4096, .i1⟩
  | .hbm, ⟨52, _⟩ => ⟨S1x32x1024x4096, .f32⟩
  | .hbm, ⟨53, _⟩ => ⟨S1x32x1024x4096, .f32⟩
  | .hbm, ⟨54, _⟩ => ⟨S1x32x128x1024, .f32⟩
  | .hbm, ⟨55, _⟩ => ⟨S1x1024x32x128, .f32⟩
  | .hbm, ⟨56, _⟩ => ⟨S1x1024x4096, .f32⟩
  | .hbm, ⟨57, _⟩ => ⟨S4096x1024, .f32⟩
  | .hbm, ⟨58, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Exec

@[expose] public section

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra: the pipeline's staging rounds beside the exchange's (duties named by a truth value). -/
abbrev UB : Type := URounds (GSem nD τ sig) Bool
abbrev UU : Type := UR sig nD τ × UB

abbrev 𝒱₀ : Variants := Variants.none

/-- A printed part of the body takes the kernel's operands first; `α` is what it takes after them. -/
abbrev Operands (α : Type 1) : Type 1 :=
  (arg0 : Memref sig .tc .vmem S1x256x1024 .bf16) → (harg0 : arg0.IsWhole) → (arg1 : Memref sig .tc .vmem S1024x1024 .bf16) → (harg1 : arg1.IsWhole) →
  (arg2 : Memref sig .tc .hbm S1x4096x32x128 .f32) → (harg2 : arg2.IsWhole) → (arg3 : Memref sig .tc .hbm S1x4096x32x128 .f32) → (harg3 : arg3.IsWhole) →
  (arg4 : Memref sig .tc .vmem S1024x1024 .bf16) → (harg4 : arg4.IsWhole) → (arg5 : Memref sig .tc .vmem S1x256x1024 .f32) → (harg5 : arg5.IsWhole) →
  (arg6 : Memref sig .tc .vmem S1024x1024 .bf16) → (harg6 : arg6.IsWhole) → (arg7 : Memref sig .tc .vmem S256x1024 .bf16) → (harg7 : arg7.IsWhole) →
  (arg8 : Memref sig .tc .vmem S256x1024 .bf16) → (harg8 : arg8.IsWhole) → (arg9 : Memref sig .tc .vmem S256x1024 .f32) → (harg9 : arg9.IsWhole) →
  (arg10 : Memref sig .tc .vmem S8x1152x128 .f32) → (harg10 : arg10.IsWhole) → (arg11 : Memref sig .tc .vmem S8x1152x128 .f32) → (harg11 : arg11.IsWhole) →
  (arg12 : Memref sig .tc .vmem S3x128x1024 .bf16) → (harg12 : arg12.IsWhole) → (arg13 : Memref sig .tc .vmem S3x128x1024 .bf16) → (harg13 : arg13.IsWhole) →
  (arg14 : Memref sig .tc .vmem S3x128x1024 .bf16) → (harg14 : arg14.IsWhole) → (arg15 : Memref sig .tc .vmem S3x128x1024 .bf16) → (harg15 : arg15.IsWhole) →
  (arg16 : DmaSems sig S16) → (arg17 : DmaSems sig S3) → (arg18 : DmaSems sig S3) → (arg19 : DmaSems sig S3) → (arg20 : DmaSems sig S3) →
  (arg21 : DmaSems sig S3) → (arg22 : DmaSems sig S3) → (arg23 : DmaSems sig S3) → (arg24 : DmaSems sig S3) → α

/-- The part at the launch's own operands. -/
abbrev on {α : Type 1} (f : Operands α) : α :=
  f (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) cc0_scratch10 cc0_scratch11 cc0_scratch12 cc0_scratch13 cc0_scratch14 cc0_scratch15 cc0_scratch16 cc0_scratch17 cc0_scratch18

end Cert.KernelIdeal.Att

end
-- ==== Proof.Contents.lean ====
module

public import proofs.«01_k».proof.Proof.Base

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # What every buffer holds: the contents the run is proved to leave, in closed form over the launch's arrays -/

/-- The device `k` places on along the ring. -/
def sh (c : Dev nD) (k : ℕ) : Dev nD := ⟨(c.val + k) % 4, Nat.mod_lt _ (by decide)⟩

/-- The place of the device `k` on. -/
theorem sh_val (c : Dev nD) (k : ℕ) : (sh c k).val = (c.val + k) % 4 := rfl
/-- Steps along the ring add up, -/
theorem sh_sh (c : Dev nD) (a b : ℕ) : sh (sh c a) b = sh c (a + b) := by
  apply Fin.ext; simp only [sh_val]; omega
/-- four of them lead back, -/
theorem sh_four (c : Dev nD) : sh c 4 = c := by revert c; decide
/-- and none leads nowhere else. -/
theorem sh_zero (c : Dev nD) : sh c 0 = c := by revert c; decide

variable (m : (ℓ : Loc nD τ sig) → Buf (Elt F) ℓ)

/-- Device `d`'s arrays at launch. -/
def xA (d : Dev nD) : Vec F S1x256x1024 .bf16 := m ((d : Thread nD τ).loc main_arg0)
def wqA (d : Dev nD) : Vec F S1024x1024 .bf16 := m ((d : Thread nD τ).loc main_arg1)
def kA (d : Dev nD) : Vec F S1x4096x32x128 .f32 := m ((d : Thread nD τ).loc main_arg2)
def vA (d : Dev nD) : Vec F S1x4096x32x128 .f32 := m ((d : Thread nD τ).loc main_arg3)
def woA (d : Dev nD) : Vec F S1024x1024 .bf16 := m ((d : Thread nD τ).loc main_arg4)

/-- Indices by their coordinates. -/
def ix2 {a b : ℕ} (i : Fin a) (j : Fin b) : (⟨2, ![a, b]⟩ : Shape).Idx
  | ⟨0, _⟩ => i | ⟨1, _⟩ => j
def ix3 {a b d : ℕ} (i : Fin a) (j : Fin b) (k : Fin d) : (⟨3, ![a, b, d]⟩ : Shape).Idx
  | ⟨0, _⟩ => i | ⟨1, _⟩ => j | ⟨2, _⟩ => k
def ix4 {a b d e : ℕ} (i : Fin a) (j : Fin b) (k : Fin d) (l : Fin e) : (⟨4, ![a, b, d, e]⟩ : Shape).Idx
  | ⟨0, _⟩ => i | ⟨1, _⟩ => j | ⟨2, _⟩ => k | ⟨3, _⟩ => l

/-- The gathered rows of `x`: row `r` is row `r % 256` of device `r / 256`'s block. -/
def xgAll : Vec F S1024x1024 .bf16 := fun i =>
  xA m ⟨(i 0).val / 256, Nat.div_lt_of_lt_mul (i 0).isLt⟩ (ix3 0 ⟨(i 0).val % 256, Nat.mod_lt _ (by decide)⟩ (i 1))

/-- The keys and values a device copies in: the first 1152 rows of its eight heads. -/
def kB (c : Dev nD) : Vec F S8x1152x128 .f32 := fun i =>
  kA m c (ix4 0 ⟨(i 1).val, Nat.lt_trans (i 1).isLt (by decide)⟩
    ⟨8 * c.val + (i 0).val, by have h := (i 0).isLt; have hc := c.isLt; change (i 0).val < 8 at h; change c.val < 4 at hc; omega⟩ (i 2))
def vB (c : Dev nD) : Vec F S8x1152x128 .f32 := fun i =>
  vA m c (ix4 0 ⟨(i 1).val, Nat.lt_trans (i 1).isLt (by decide)⟩
    ⟨8 * c.val + (i 0).val, by have h := (i 0).isLt; have hc := c.isLt; change (i 0).val < 8 at h; change c.val < 4 at hc; omega⟩ (i 2))

/-- The first key a block of 128 queries beginning at row `R` looks at. -/
def w0 (R : ℕ) : ℕ := min 768 (R - 128)
/-- A window begins at key 768 at the latest. -/
theorem w0_le (R : ℕ) : w0 R ≤ 768 := Nat.min_le_left _ _

/-- The 384 rows of head `hh` from row `a` on, of keys (or values) held as `f`. -/
def win (f : Vec F S8x1152x128 .f32) (hh : Fin 8) (R : ℕ) : Vec F S1x384x128 .f32 := fun j =>
  f (ix3 hh ⟨w0 R + (j 1).val, by have h := (j 1).isLt; have := w0_le R; change (j 1).val < 384 at h; omega⟩ (j 2))

/-- The mask of a block of 128 queries whose first row is the word `w`: nought within 128 of the query, the named constant elsewhere. -/
def biasW (w : BitVec 32) : FVec F S128x384 .f32 := k0_pay30 w 128#32

/-- One head's context rows: the unnormalised weights' product with the values, divided by their sum. -/
def headVal (q : FVec F S128x128 .bf16) (bias : FVec F S128x384 .f32) (k v : Vec F S1x384x128 .f32) : FVec F S128x128 .bf16 :=
  have kk : FVec F S384x128 .bf16 := truncf .bf16 (shapeCast S384x128 k shapeCasts_S1x384x128_S384x128) bitsLt_bf16_f32
  have s : FVec F S128x384 .f32 := matmul dot_S128x128_S384x128_S128x384_1_1_0_0_n_n none q kk (constant S128x384 .f32 0x00000000#32)
  have e : FVec F S128x384 .f32 := exp (addf s bias)
  have z : FVec F S128 .f32 := multiReduction .add [1] S128 e 0x00000000#32 reduces_S128x384_S128 (.inl rfl) rfl
  have vv : FVec F S384x128 .bf16 := truncf .bf16 (shapeCast S384x128 v shapeCasts_S1x384x128_S384x128) bitsLt_bf16_f32
  have n : FVec F S128x128 .f32 := matmul dot_S128x384_S384x128_S128x128_1_0_0_1_n_n none (truncf .bf16 e bitsLt_bf16_f32) vv (constant S128x128 .f32 0x00000000#32)
  have r : FVec F S128x1 .f32 := divf (broadcast S128x1 (Scalar.ofBits .f32 0x3F800000#32)) (shapeCast S128x1 z shapeCasts_S128_S128x1)
  shapeCast S128x128 (truncf .bf16 (mulf n (broadcastTo S128x128 r broadcasts_S128x1_S128x128)) bitsLt_bf16_f32) shapeCasts_S128x128_S128x128

/-- Rows `128 * jj …` and columns `128 * hh …` of the queries. -/
def qsl {n : ℕ} (q : FVec F ⟨2, ![128 * n, 1024]⟩ .bf16) (jj : Fin n) (hh : Fin 8) : FVec F S128x128 .bf16 := fun j =>
  q (ix2 ⟨128 * jj.val + (j 0).val, by have h := (j 0).isLt; have := jj.isLt; change (j 0).val < 128 at h; omega⟩
    ⟨128 * hh.val + (j 1).val, by have h := (j 1).isLt; have := hh.isLt; change (j 1).val < 128 at h; omega⟩)

/-- Device `c`'s context of `n` blocks of 128 queries, block `jj` beginning at row `R jj`. -/
def ctxF {n : ℕ} (c : Dev nD) (q : FVec F ⟨2, ![128 * n, 1024]⟩ .bf16) (R : Fin n → ℕ) : FVec F ⟨2, ![128 * n, 1024]⟩ .bf16 := fun i =>
  have jj : Fin n := ⟨(i 0).val / 128, Nat.div_lt_of_lt_mul (i 0).isLt⟩
  have hh : Fin 8 := ⟨(i 1).val / 128, Nat.div_lt_of_lt_mul (i 1).isLt⟩
  headVal (qsl q jj hh) (biasW (BitVec.ofNat 32 (R jj))) (win (kB m c) hh (R jj)) (win (vB m c) hh (R jj))
    (ix2 ⟨(i 0).val % 128, Nat.mod_lt _ (by decide)⟩ ⟨(i 1).val % 128, Nat.mod_lt _ (by decide)⟩)

/-! ## Its own block of queries, a half at a time -/

def xOwn (c : Dev nD) (j : Fin 2) : Vec F S128x1024 .bf16 := fun i =>
  xA m c (ix3 0 ⟨128 * j.val + (i 0).val, by have h := (i 0).isLt; have := j.isLt; change (i 0).val < 128 at h; omega⟩ (i 1))
def qOwn (c : Dev nD) (j : Fin 2) : FVec F S128x1024 .bf16 := k0_pay2 (xOwn m c j) (wqA m c)
def rowOwn (c : Dev nD) (j : Fin 2) : ℕ := 256 * c.val + 128 * j.val
def ctxOwn (c : Dev nD) (j : Fin 2) : FVec F S128x1024 .bf16 := ctxF (n := 1) m c (qOwn m c j) (fun _ => rowOwn c j)
def oOwn (c : Dev nD) (j : Fin 2) : FVec F S128x1024 .f32 := k0_pay26 (ctxOwn m c j) (woA m c)

/-! ## A pair of foreign half blocks: the upper half from the left, the lower half from the right -/

/-- The device whose half block `jj` of a pair belongs to. -/
def src (c : Dev nD) (h : ℕ) (jj : Fin 2) : Dev nD := if jj = 0 then sh c (3 - h) else sh c (1 + h)
def rowPair (c : Dev nD) (h : ℕ) (jj : Fin 2) : ℕ := 256 * (src c h jj).val + 128 * jj.val
def xPair (c : Dev nD) (h : ℕ) : Vec F S256x1024 .bf16 := fun i =>
  xA m (src c h ⟨(i 0).val / 128, Nat.div_lt_of_lt_mul (i 0).isLt⟩) (ix3 0 (i 0) (i 1))
def qPair (c : Dev nD) (h : ℕ) : FVec F S256x1024 .bf16 := k0_pay29 (xPair m c h) (wqA m c)
def ctxPair (c : Dev nD) (h : ℕ) : FVec F S256x1024 .bf16 := ctxF (n := 2) m c (qPair m c h) (rowPair c h)
def oPair (c : Dev nD) (h : ℕ) : FVec F S256x1024 .f32 := k0_pay63 (ctxPair m c h) (woA m c)

/-- The partial sums travelling rightwards (upper halves) as they leave device `c` at step `h`, and leftwards (lower halves). -/
def accR : ℕ → Dev nD → FVec F S1x128x1024 .bf16
  | 0, c => k0_pay64 (ctxPair m c 0) (woA m c)
  | h + 1, c => k0_pay108 (oPair m c (h + 1)) (accR h (sh c 3))
def accL : ℕ → Dev nD → FVec F S1x128x1024 .bf16
  | 0, c => k0_pay65 (ctxPair m c 0) (woA m c)
  | h + 1, c => k0_pay107 (oPair m c (h + 1)) (accL h (sh c 1))

/-- All three steps' sums, as the three slots of a send buffer hold them. -/
def rsR (c : Dev nD) : Vec F S3x128x1024 .bf16 := fun i => accR m (i 0).val c (ix3 0 (i 1) (i 2))
def rsL (c : Dev nD) : Vec F S3x128x1024 .bf16 := fun i => accL m (i 0).val c (ix3 0 (i 1) (i 2))

/-- The kernel's result on device `c`. -/
def outC (c : Dev nD) : Vec F S1x256x1024 .f32 := fun i =>
  if (i 1).val < 128 then k0_pay172 (oOwn m c 0) (accR m 2 (sh c 3)) (ix3 0 ⟨(i 1).val % 128, Nat.mod_lt _ (by decide)⟩ (i 2))
  else k0_pay173 (oOwn m c 1) (accL m 2 (sh c 1)) (ix3 0 ⟨(i 1).val % 128, Nat.mod_lt _ (by decide)⟩ (i 2))

end Cert.KernelIdeal.Att

end
-- ==== Proof.Sched.lean ====
module

public import proofs.«01_k».proof.Proof.Contents

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! # The exchange's schedule: its cells, what each round pays with which contents, levels and debts -/

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Element sets of the buffers -/

/-- Block `r` of 128 rows of the gathered rows, slot `h` of the key buffers and of the travelling sums. -/
def xrow (r : ℕ) : Finset S1024x1024.Idx := Finset.univ.filter fun i => (i 0).val / 128 = r
def kslot (h : ℕ) : Finset S8x1152x128.Idx := Finset.univ.filter fun i => (i 0).val = h
def slot (h : ℕ) : Finset S3x128x1024.Idx := Finset.univ.filter fun i => (i 0).val = h
/-- The elements of the key array that slot `h` of device `c` copies; slot 8 is the rest. -/
def hlab (c : Dev nD) (i : S1x4096x32x128.Idx) : ℕ :=
  if (i 1).val < 1152 ∧ 8 * c.val ≤ (i 2).val ∧ (i 2).val < 8 * c.val + 8 then (i 2).val - 8 * c.val else 8
def hsrc (c : Dev nD) (h : ℕ) : Finset S1x4096x32x128.Idx := Finset.univ.filter fun i => hlab c i = h

/-- A buffer falls into its labels' pieces. -/
theorem split_lab (ℓ : Loc nD τ sig) (q : PosShare TreeShare) (f : Buf (Elt F) ℓ) (n : ℕ) (lab : Idx ℓ → ℕ) (h : ∀ i, lab i < n) :
    (ℓ ↦{q} f : sProp 𝕄) = bigSep (Finset.range n) fun r => ℓ ↦[Finset.univ.filter fun i => lab i = r]{q} f := by
  rw [← pointsTo_biUnion]
  · congr 1
    ext i
    simp only [Finset.mem_univ, Finset.mem_biUnion, Finset.mem_range, Finset.mem_filter, true_and, true_iff]
    exact ⟨lab i, h i, rfl⟩
  · intro a _ b _ hab
    rw [Finset.disjoint_left]
    intro i hi hj
    exact hab ((Finset.mem_filter.mp hi).2.symm.trans (Finset.mem_filter.mp hj).2)

/-! ## Holdings -/

abbrev xgM : Memref sig .tc .vmem S1024x1024 .bf16 := Memref.whole cc0_scratch0
abbrev kM : Memref sig .tc .vmem S8x1152x128 .f32 := Memref.whole cc0_scratch4
abbrev vM : Memref sig .tc .vmem S8x1152x128 .f32 := Memref.whole cc0_scratch5
abbrev txrM : Memref sig .tc .vmem S3x128x1024 .bf16 := Memref.whole cc0_scratch6
abbrev rxrM : Memref sig .tc .vmem S3x128x1024 .bf16 := Memref.whole cc0_scratch7
abbrev txlM : Memref sig .tc .vmem S3x128x1024 .bf16 := Memref.whole cc0_scratch8
abbrev rxlM : Memref sig .tc .vmem S3x128x1024 .bf16 := Memref.whole cc0_scratch9
abbrev kIn : Memref sig .tc .hbm S1x4096x32x128 .f32 := Memref.whole main_arg2
abbrev vIn : Memref sig .tc .hbm S1x4096x32x128 .f32 := Memref.whole main_arg3

/-- Elements `S` of device `d`'s whole buffer `M` at share `q` and contents `f`. -/
abbrev pt {sp : Space} {s : Shape} {e : EltTy} (M : Memref sig .tc sp s e) (d : Dev nD) (S : Finset (Idx (M.view.loc (d : Thread nD τ)))) (q : PosShare TreeShare)
    (f : Buf (Elt F) (M.view.loc (d : Thread nD τ))) : sProp 𝕄 := M.view.loc (d : Thread nD τ) ↦[S]{q} f

def xgP (d : Dev nD) (r : ℕ) (q : PosShare TreeShare) (f : Vec F S1024x1024 .bf16) : sProp 𝕄 := pt xgM d (xrow r) q f
def txrP (d : Dev nD) (h : ℕ) (f : Vec F S3x128x1024 .bf16) : sProp 𝕄 := pt txrM d (slot h) fullShare f
def rxrP (d : Dev nD) (h : ℕ) (f : Vec F S3x128x1024 .bf16) : sProp 𝕄 := pt rxrM d (slot h) fullShare f
def txlP (d : Dev nD) (h : ℕ) (f : Vec F S3x128x1024 .bf16) : sProp 𝕄 := pt txlM d (slot h) fullShare f
def rxlP (d : Dev nD) (h : ℕ) (f : Vec F S3x128x1024 .bf16) : sProp 𝕄 := pt rxlM d (slot h) fullShare f
def kP (d : Dev nD) (h : ℕ) (f : Vec F S8x1152x128 .f32) : sProp 𝕄 := pt kM d (kslot h) fullShare f
def vP (d : Dev nD) (h : ℕ) (f : Vec F S8x1152x128 .f32) : sProp 𝕄 := pt vM d (kslot h) fullShare f
def kInP (d : Dev nD) (h : ℕ) : sProp 𝕄 := pt kIn d (hsrc d h) fullShare (kA m d)
def vInP (d : Dev nD) (h : ℕ) : sProp 𝕄 := pt vIn d (hsrc d h) fullShare (vA m d)

/-! ## Cells -/

abbrev barS : Sem sig := (SemArray.scalar (sig.barrier 0 rfl) : Sems sig S_).sem
abbrev dsem (k : Fin 44) : DmaSem sig := k
abbrev barCell (c : Dev nD) : GSem nD τ sig := ((c : Thread nD τ), .reg barS)
abbrev dCell (c : Dev nD) (k : Fin 44) : GSem nD τ sig := ((c : Thread nD τ), .dma (dsem k))

/-- The exchange's semaphores: the barrier, then the forty of the scratch. -/
def csem (k : Fin 41) : SemLoc sig := if k.val = 0 then .reg barS else .dma (dsem ⟨k.val + 3, by omega⟩)
abbrev kcell (ck : Dev nD × Fin 41) : GSem nD τ sig := ((ck.1 : Thread nD τ), csem ck.2)

/-- Credits: a head's keys, a block's rows. -/
def NK : ℕ := ((kM.slice (Rect.unit (s := S8x1152x128) ![0, 0, 0] S1x1152x128.size inb_S8x1152x128_S1x1152x128_0_0_0) (fun _ => rfl)).squeeze S1152x128 squeezes_S1x1152x128_S1152x128).view.dmaCredit
def NX : ℕ := ((txrM.slice (Rect.unit (s := S3x128x1024) ![0, 0, 0] S1x128x1024.size inb_S3x128x1024_S1x128x1024_0_0_0) (fun _ => rfl)).squeeze S128x1024 squeezes_S1x128x1024_S128x1024).view.dmaCredit
/-- A head's copy counts something, -/
theorem NK_pos : 0 < NK := View.dmaCredit_pos _ (by decide)
/-- and so does a half block's. -/
theorem NX_pos : 0 < NX := View.dmaCredit_pos _ (by decide)

def amt (k : ℕ) : ℕ := if k < 20 then NK else NX

def kPay (c : Dev nD) (h : ℕ) : sProp 𝕄 := iprop(kP c h (kB m c) ∗ kInP m c h)
def vPay (c : Dev nD) (h : ℕ) : sProp 𝕄 := iprop(vP c h (vB m c) ∗ vInP m c h)

/-- What the one round of semaphore `k` of device `c` pays. -/
def dmaPay (c : Dev nD) (k : ℕ) : sProp 𝕄 :=
  if k < 20 then (if k % 2 = 0 then kPay m c ((k - 4) / 2) else vPay m c ((k - 4) / 2))
  else if k < 23 then xgP c (2 * (sh c (4 - (k - 20))).val) fullShare.left (xgAll m)
  else if k < 26 then xgP c (2 * (sh c (3 - (k - 23))).val) fullShare (xgAll m)
  else if k < 29 then xgP c (2 * (sh c (k - 26)).val + 1) fullShare.left (xgAll m)
  else if k < 32 then xgP c (2 * (sh c (1 + (k - 29))).val + 1) fullShare (xgAll m)
  else if k < 35 then txrP c (k - 32) (rsR m c)
  else if k < 38 then rxrP c (k - 35) (rsR m (sh c 3))
  else if k < 41 then txlP c (k - 38) (rsL m c)
  else rxlP c (k - 41) (rsL m (sh c 1))

/-- What a neighbour hands over with its signal: the row blocks and the slots of its own that the receiver of the signal will write. -/
def fromR (c : Dev nD) : sProp 𝕄 :=
  iprop((∃ f, xgP (sh c 1) (2 * (sh c 4).val) fullShare f) ∗ (∃ f, xgP (sh c 1) (2 * (sh c 3).val) fullShare f) ∗ (∃ f, xgP (sh c 1) (2 * (sh c 2).val) fullShare f)
    ∗ (∃ f, rxrP (sh c 1) 0 f) ∗ (∃ f, rxrP (sh c 1) 1 f) ∗ (∃ f, rxrP (sh c 1) 2 f))
def fromL (c : Dev nD) : sProp 𝕄 :=
  iprop((∃ f, xgP (sh c 3) (2 * (sh c 0).val + 1) fullShare f) ∗ (∃ f, xgP (sh c 3) (2 * (sh c 1).val + 1) fullShare f) ∗ (∃ f, xgP (sh c 3) (2 * (sh c 2).val + 1) fullShare f)
    ∗ (∃ f, rxlP (sh c 3) 0 f) ∗ (∃ f, rxlP (sh c 3) 1 f) ∗ (∃ f, rxlP (sh c 3) 2 f))

/-- The schedule. Every cell has one round: a barrier cell two duties of one unit (`true` the right neighbour's), every other of the scratch one duty. -/
def Rd : Rounds.Schedule (GSem nD τ sig) Bool 𝕄 where
  duties g r := if r = 0 ∧ g.1.2 = .tc then (match g.2 with | .reg _ => Finset.univ | .dma q => if 4 ≤ q.val then {false} else ∅) else ∅
  unitless _ := False
  amount g _ _ := match g.2 with | .reg _ => 1 | .dma q => amt q.val
  payload g _ d := match g.2 with
    | .reg _ => if d then fromR g.1.1 else fromL g.1.1
    | .dma q => dmaPay m g.1.1 q.val
  amount_pos g _ _ _ := by
    rcases g with ⟨t, _ | q⟩
    · exact Nat.one_pos
    · show 0 < amt q.val
      unfold amt; split
      · exact NK_pos
      · exact NX_pos

instance Rd_storable (g : GSem nD τ sig) (r : ℕ) (d : Bool) : BI.Storable (upEmb : UEmb _ 𝕄) ((Rd m).payload g r d) := by
  rcases g with ⟨t, _ | q⟩
  · show BI.Storable upEmb (if d then fromR t.1 else fromL t.1)
    unfold fromR fromL xgP rxrP rxlP; split <;> infer_instance
  · show BI.Storable upEmb (dmaPay m t.1 q.val)
    unfold dmaPay kPay vPay xgP txrP rxrP txlP rxlP kP vP kInP vInP
    (repeat' split) <;> infer_instance

section Tables
variable (c : Dev nD)

/-- A barrier cell is paid by both neighbours, -/
theorem duties_bar : (Rd m).duties (barCell c) 0 = Finset.univ := by dsimp only [Rd]; exact if_pos ⟨rfl, rfl⟩
/-- every other cell once, -/
theorem duties_dma (k : Fin 44) (hk : 4 ≤ k.val) : (Rd m).duties (dCell c k) 0 = {false} := by
  dsimp only [Rd]; rw [if_pos ⟨rfl, rfl⟩]; exact if_pos hk
/-- and none after its one round. -/
theorem duties_later (g : GSem nD τ sig) : ∀ r, 1 ≤ r → (Rd m).duties g r = ∅ :=
  fun r hr => by dsimp only [Rd]; rw [if_neg fun h => by omega]
/-- A signal at the barrier is one unit, -/
theorem amount_bar (d : Bool) : (Rd m).amount (barCell c) 0 d = 1 := rfl
/-- a copy its count. -/
theorem amount_dma (k : Fin 44) (d : Bool) : (Rd m).amount (dCell c k) 0 d = amt k.val := rfl
/-- The barrier expects two units, -/
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
/-- another cell the count of its copy. -/
theorem expect_dma (k : Fin 44) (hk : 4 ≤ k.val) : (Rd m).expect (dCell c k) 0 = amt k.val := by
  unfold Schedule.expect Schedule.amountOf; rw [duties_dma m c k hk, Finset.sum_singleton, amount_dma]
/-- The right neighbour's signal hands over what it lets its left neighbour write, -/
theorem payload_true : (Rd m).payload (barCell c) 0 true = fromR c := by dsimp only [Rd]; exact if_pos rfl
/-- the left neighbour's what it lets its right neighbour write, -/
theorem payload_false : (Rd m).payload (barCell c) 0 false = fromL c := by dsimp only [Rd]; exact if_neg Bool.false_ne_true
/-- a copy what its semaphore stands for. -/
theorem payload_dma (k : Fin 44) (d : Bool) : (Rd m).payload (dCell c k) 0 d = dmaPay m c k.val := rfl
/-- The barrier's round pays both neighbours' parts, -/
theorem rest_bar : bigSep ((Rd m).duties (barCell c) 0 \ ∅) (fun d => (Rd m).payload (barCell c) 0 d) = iprop(fromL c ∗ fromR c) := by
  rw [Finset.sdiff_empty, duties_bar, bigSep_univ_eq_bigSepL [false, true] (by decide) (by decide), bigSepL_cons_cons, bigSepL_singleton,
    payload_false, payload_true]
  rfl
/-- another cell's round the one part. -/
theorem rest_dma (k : Fin 44) (hk : 4 ≤ k.val) :
    bigSep ((Rd m).duties (dCell c k) 0 \ ∅) (fun d => (Rd m).payload (dCell c k) 0 d) = dmaPay m c k.val := by
  rw [Finset.sdiff_empty, duties_dma m c k hk, bigSep_singleton, payload_dma]

end Tables

/-! ## Levels and debts -/

def L (g : GSem nD τ sig) : Finset Unit := if g.1.2 = .tc then {()} else ∅
/-- Where a semaphore stands in the order of waiting. -/
def lvS : SemLoc sig → ℕ
  | .reg _ => 1
  | .dma q => match q.val with
    | 23 | 29 => 2 | 24 | 30 => 3 | 25 | 31 => 4 | 35 | 41 => 5 | 36 | 42 => 6 | 37 | 43 => 7 | _ => 0
def lv (g : GSem nD τ sig) (_ : Unit) : ℕ := lvS g.2

/-- Only the cores that run the kernel have levels; -/
theorem L_of_ne (g : GSem nD τ sig) (h : g.1.2 ≠ .tc) : L g = ∅ := if_neg h
/-- these have one for each semaphore. -/
theorem L_tc (c : Dev nD) (sm : SemLoc sig) : L ((c : Thread nD τ), sm) = {()} := if_pos rfl

/-- A list of debts, next payment first: device, semaphore, amount. -/
abbrev Debt : Type := List (Dev nD × SemLoc sig × ℕ)
def Osum : Debt → CellTallies nD τ sig Unit
  | [] => 0
  | p :: l => Osum l + tallyAt ((p.1 : Thread nD τ), p.2.1) () p.2.2

/-- What is owed somewhere is owed by an entry of the list. -/
theorem Osum_pos (l : Debt) {g : GSem nD τ sig} {u : Unit} (h : 0 < Osum l g u) : ∃ p ∈ l, g = ((p.1 : Thread nD τ), p.2.1) := by
  induction l with
  | nil => exact absurd h (Nat.lt_irrefl 0)
  | cons p l ih =>
    rw [Osum, Pi.add_apply, Finsupp.add_apply, tallyAt_apply] at h
    by_cases hg : g = ((p.1 : Thread nD τ), p.2.1)
    · exact ⟨p, List.mem_cons_self, hg⟩
    · rw [if_neg (fun h' => hg h'.1), Nat.add_zero] at h
      obtain ⟨p', hp', e⟩ := ih h
      exact ⟨p', List.mem_cons_of_mem _ hp', e⟩

/-- A device may wait where all it still owes stands later in the order. -/
theorem mayWait (c : Dev nD) (sm : SemLoc sig) (l : Debt) (hl : ∀ p ∈ l, lvS sm < lvS p.2.1) :
    (levAts L lv : sProp 𝕄) ⊢ MayWait (c : Thread nD τ) sm () (Osum l) :=
  MayOwe.of_cut (L := L) (lev := lv) (lvS sm) (fun p hp => by rw [Finset.mem_singleton.mp hp, L_tc]; exact Finset.mem_singleton_self _)
    (fun g u hg => by obtain ⟨p, -, rfl⟩ := Osum_pos l hg; rw [L_tc]; exact Finset.mem_singleton_self _)
    (fun p hp => by rw [Finset.mem_singleton.mp hp]; exact Nat.le_refl _)
    (fun g u hg => by obtain ⟨p, hp, rfl⟩ := Osum_pos l hg; exact hl p hp)

/-- What a device still owes, whatever waits it has made. -/
def owesE (c : Dev nD) (l : Debt) : sProp 𝕄 := iprop(∃ W, owes (c : Thread nD τ) (Osum l) W)

/-! ## The cells' records -/

variable (K : Dev nD × Fin 41 → ℕ)

def record (ck : Dev nD × Fin 41) : sProp 𝕄 := iprop(cellInv ER (Rd m) (K ck) (kcell ck) ∗ reached ER (kcell ck) 0)
def records : sProp 𝕄 := bigSep Finset.univ (record m K)
instance record_persistent (ck : Dev nD × Fin 41) : BI.Persistent (record m K ck) := by unfold record; infer_instance
instance records_persistent : BI.Persistent (records m K) := by unfold records; infer_instance

/-- The record of one cell among them all. -/
theorem record_of (ck : Dev nD × Fin 41) : records m K ⊢ record m K ck := by
  unfold records; rw [BI.bigSep_erase (Finset.mem_univ ck)]; exact BI.Laws.sep_elim_left

/-- The index of semaphore `k` among the cells. -/
abbrev ci (k : Fin 44) (hk : 4 ≤ k.val) : Fin 41 := ⟨k.val - 3, by omega⟩
/-- The cell of a copy's semaphore among the exchange's, -/
theorem kcell_dma (c : Dev nD) (k : Fin 44) (hk : 4 ≤ k.val) : kcell (c, ci k hk) = dCell c k := by
  show ((c : Thread nD τ), csem (ci k hk)) = _
  unfold csem
  rw [if_neg (show ¬ (k.val - 3 = 0) by omega)]
  congr 3
  exact Fin.ext (by show k.val - 3 + 3 = k.val; omega)
/-- and the barrier's. -/
theorem kcell_bar (c : Dev nD) : kcell (c, 0) = barCell c := rfl

/-- The record of a copy's semaphore, -/
theorem rec_dma (c : Dev nD) (k : Fin 44) (hk : 4 ≤ k.val) :
    records m K ⊢ iprop(cellInv ER (Rd m) (K (c, ci k hk)) (dCell c k) ∗ reached ER (dCell c k) 0) := by
  have h := record_of m K (c, ci k hk)
  unfold record at h
  rwa [kcell_dma] at h
/-- and the barrier's. -/
theorem rec_bar (c : Dev nD) : records m K ⊢ iprop(cellInv ER (Rd m) (K (c, 0)) (barCell c) ∗ reached ER (barCell c) 0) := record_of m K (c, 0)

end Cert.KernelIdeal.Att

end
-- ==== Proof.Steps.lean ====
module

public import proofs.«01_k».proof.Proof.Sched

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! # One rule per kind of effect of the body -/

/-! ## Offsets and neighbours in closed form -/

/-- Where head 0's window of keys begins for an own half block. -/
theorem off5_eq : ∀ d : Dev nD, ∀ r : Fin 2, k0_off5 d (BitVec.ofNat 32 (128 * r.val)) = ![0, w0 (256 * d.val + 128 * r.val), 0] := by decide +kernel
/-- Where head 1's window of keys begins for an own half block. -/
theorem off6_eq : ∀ d : Dev nD, ∀ r : Fin 2, k0_off6 d (BitVec.ofNat 32 (128 * r.val)) = ![1, w0 (256 * d.val + 128 * r.val), 0] := by decide +kernel
/-- Where head 2's window of keys begins for an own half block. -/
theorem off7_eq : ∀ d : Dev nD, ∀ r : Fin 2, k0_off7 d (BitVec.ofNat 32 (128 * r.val)) = ![2, w0 (256 * d.val + 128 * r.val), 0] := by decide +kernel
/-- Where head 3's window of keys begins for an own half block. -/
theorem off8_eq : ∀ d : Dev nD, ∀ r : Fin 2, k0_off8 d (BitVec.ofNat 32 (128 * r.val)) = ![3, w0 (256 * d.val + 128 * r.val), 0] := by decide +kernel
/-- Where head 4's window of keys begins for an own half block. -/
theorem off9_eq : ∀ d : Dev nD, ∀ r : Fin 2, k0_off9 d (BitVec.ofNat 32 (128 * r.val)) = ![4, w0 (256 * d.val + 128 * r.val), 0] := by decide +kernel
/-- Where head 5's window of keys begins for an own half block. -/
theorem off10_eq : ∀ d : Dev nD, ∀ r : Fin 2, k0_off10 d (BitVec.ofNat 32 (128 * r.val)) = ![5, w0 (256 * d.val + 128 * r.val), 0] := by decide +kernel
/-- Where head 6's window of keys begins for an own half block. -/
theorem off11_eq : ∀ d : Dev nD, ∀ r : Fin 2, k0_off11 d (BitVec.ofNat 32 (128 * r.val)) = ![6, w0 (256 * d.val + 128 * r.val), 0] := by decide +kernel
/-- Where head 7's window of keys begins for an own half block. -/
theorem off12_eq : ∀ d : Dev nD, ∀ r : Fin 2, k0_off12 d (BitVec.ofNat 32 (128 * r.val)) = ![7, w0 (256 * d.val + 128 * r.val), 0] := by decide +kernel
/-- The half block that goes on rightwards at step `h`, -/
theorem off13_eq : ∀ d : Dev nD, ∀ h : Fin 2, k0_off13 d (BitVec.ofNat 32 h.val) = ![128 * (2 * (sh d (3 - h.val)).val), 0] := by decide +kernel
/-- and the one that goes on leftwards. -/
theorem off14_eq : ∀ d : Dev nD, ∀ h : Fin 2, k0_off14 d (BitVec.ofNat 32 h.val) = ![128 * (2 * (sh d (1 + h.val)).val + 1), 0] := by decide +kernel
/-- The upper half of the pair of step `h` among the gathered rows, -/
theorem off15_eq : ∀ d : Dev nD, ∀ h : Fin 3, k0_off15 d (BitVec.ofNat 32 h.val) = ![128 * (2 * (sh d (3 - h.val)).val), 0] := by decide +kernel
/-- and its lower half. -/
theorem off16_eq : ∀ d : Dev nD, ∀ h : Fin 3, k0_off16 d (BitVec.ofNat 32 h.val) = ![128 * (2 * (sh d (1 + h.val)).val + 1), 0] := by decide +kernel
/-- Where head 0's window begins for the upper half of a pair. -/
theorem off17_eq : ∀ d : Dev nD, ∀ h : Fin 3, k0_off17 d (BitVec.ofNat 32 h.val) = ![0, w0 (256 * (sh d (3 - h.val)).val), 0] := by decide +kernel
/-- Where head 1's window begins for the upper half of a pair. -/
theorem off18_eq : ∀ d : Dev nD, ∀ h : Fin 3, k0_off18 d (BitVec.ofNat 32 h.val) = ![1, w0 (256 * (sh d (3 - h.val)).val), 0] := by decide +kernel
/-- Where head 2's window begins for the upper half of a pair. -/
theorem off19_eq : ∀ d : Dev nD, ∀ h : Fin 3, k0_off19 d (BitVec.ofNat 32 h.val) = ![2, w0 (256 * (sh d (3 - h.val)).val), 0] := by decide +kernel
/-- Where head 3's window begins for the upper half of a pair. -/
theorem off20_eq : ∀ d : Dev nD, ∀ h : Fin 3, k0_off20 d (BitVec.ofNat 32 h.val) = ![3, w0 (256 * (sh d (3 - h.val)).val), 0] := by decide +kernel
/-- Where head 4's window begins for the upper half of a pair. -/
theorem off21_eq : ∀ d : Dev nD, ∀ h : Fin 3, k0_off21 d (BitVec.ofNat 32 h.val) = ![4, w0 (256 * (sh d (3 - h.val)).val), 0] := by decide +kernel
/-- Where head 5's window begins for the upper half of a pair. -/
theorem off22_eq : ∀ d : Dev nD, ∀ h : Fin 3, k0_off22 d (BitVec.ofNat 32 h.val) = ![5, w0 (256 * (sh d (3 - h.val)).val), 0] := by decide +kernel
/-- Where head 6's window begins for the upper half of a pair. -/
theorem off23_eq : ∀ d : Dev nD, ∀ h : Fin 3, k0_off23 d (BitVec.ofNat 32 h.val) = ![6, w0 (256 * (sh d (3 - h.val)).val), 0] := by decide +kernel
/-- Where head 7's window begins for the upper half of a pair. -/
theorem off24_eq : ∀ d : Dev nD, ∀ h : Fin 3, k0_off24 d (BitVec.ofNat 32 h.val) = ![7, w0 (256 * (sh d (3 - h.val)).val), 0] := by decide +kernel
/-- Where head 0's window begins for the lower half of a pair. -/
theorem off25_eq : ∀ d : Dev nD, ∀ h : Fin 3, k0_off25 d (BitVec.ofNat 32 h.val) = ![0, w0 (256 * (sh d (1 + h.val)).val + 128), 0] := by decide +kernel
/-- Where head 1's window begins for the lower half of a pair. -/
theorem off26_eq : ∀ d : Dev nD, ∀ h : Fin 3, k0_off26 d (BitVec.ofNat 32 h.val) = ![1, w0 (256 * (sh d (1 + h.val)).val + 128), 0] := by decide +kernel
/-- Where head 2's window begins for the lower half of a pair. -/
theorem off27_eq : ∀ d : Dev nD, ∀ h : Fin 3, k0_off27 d (BitVec.ofNat 32 h.val) = ![2, w0 (256 * (sh d (1 + h.val)).val + 128), 0] := by decide +kernel
/-- Where head 3's window begins for the lower half of a pair. -/
theorem off28_eq : ∀ d : Dev nD, ∀ h : Fin 3, k0_off28 d (BitVec.ofNat 32 h.val) = ![3, w0 (256 * (sh d (1 + h.val)).val + 128), 0] := by decide +kernel
/-- Where head 4's window begins for the lower half of a pair. -/
theorem off29_eq : ∀ d : Dev nD, ∀ h : Fin 3, k0_off29 d (BitVec.ofNat 32 h.val) = ![4, w0 (256 * (sh d (1 + h.val)).val + 128), 0] := by decide +kernel
/-- Where head 5's window begins for the lower half of a pair. -/
theorem off30_eq : ∀ d : Dev nD, ∀ h : Fin 3, k0_off30 d (BitVec.ofNat 32 h.val) = ![5, w0 (256 * (sh d (1 + h.val)).val + 128), 0] := by decide +kernel
/-- Where head 6's window begins for the lower half of a pair. -/
theorem off31_eq : ∀ d : Dev nD, ∀ h : Fin 3, k0_off31 d (BitVec.ofNat 32 h.val) = ![6, w0 (256 * (sh d (1 + h.val)).val + 128), 0] := by decide +kernel
/-- Where head 7's window begins for the lower half of a pair. -/
theorem off32_eq : ∀ d : Dev nD, ∀ h : Fin 3, k0_off32 d (BitVec.ofNat 32 h.val) = ![7, w0 (256 * (sh d (1 + h.val)).val + 128), 0] := by decide +kernel

/-- Signal or copy 1 goes to the left neighbour. -/
theorem dev1_eq : ∀ c : Dev nD, (⟨k0_dev1 c, k0_dev1_lt c⟩ : Dev nD) = sh c 3 := by decide +kernel
/-- Signal or copy 2 goes to the right neighbour. -/
theorem dev2_eq : ∀ c : Dev nD, (⟨k0_dev2 c, k0_dev2_lt c⟩ : Dev nD) = sh c 1 := by decide +kernel
/-- Signal or copy 3 goes to the right neighbour. -/
theorem dev3_eq : ∀ c : Dev nD, (⟨k0_dev3 c, k0_dev3_lt c⟩ : Dev nD) = sh c 1 := by decide +kernel
/-- Signal or copy 4 goes to the left neighbour. -/
theorem dev4_eq : ∀ c : Dev nD, (⟨k0_dev4 c, k0_dev4_lt c⟩ : Dev nD) = sh c 3 := by decide +kernel
/-- Signal or copy 5 goes to the right neighbour. -/
theorem dev5_eq : ∀ c : Dev nD, (⟨k0_dev5 c, k0_dev5_lt c⟩ : Dev nD) = sh c 1 := by decide +kernel
/-- Signal or copy 6 goes to the left neighbour. -/
theorem dev6_eq : ∀ c : Dev nD, (⟨k0_dev6 c, k0_dev6_lt c⟩ : Dev nD) = sh c 3 := by decide +kernel
/-- Signal or copy 7 goes to the right neighbour. -/
theorem dev7_eq : ∀ c : Dev nD, (⟨k0_dev7 c, k0_dev7_lt c⟩ : Dev nD) = sh c 1 := by decide +kernel
/-- Signal or copy 8 goes to the left neighbour. -/
theorem dev8_eq : ∀ c : Dev nD, (⟨k0_dev8 c, k0_dev8_lt c⟩ : Dev nD) = sh c 3 := by decide +kernel
/-- Signal or copy 9 goes to the right neighbour. -/
theorem dev9_eq : ∀ c : Dev nD, (⟨k0_dev9 c, k0_dev9_lt c⟩ : Dev nD) = sh c 1 := by decide +kernel
/-- Signal or copy 10 goes to the left neighbour. -/
theorem dev10_eq : ∀ c : Dev nD, (⟨k0_dev10 c, k0_dev10_lt c⟩ : Dev nD) = sh c 3 := by decide +kernel
/-- Signal or copy 11 goes to the left neighbour. -/
theorem dev11_eq : ∀ c : Dev nD, (⟨k0_dev11 c, k0_dev11_lt c⟩ : Dev nD) = sh c 3 := by decide +kernel
/-- Signal or copy 12 goes to the right neighbour. -/
theorem dev12_eq : ∀ c : Dev nD, (⟨k0_dev12 c, k0_dev12_lt c⟩ : Dev nD) = sh c 1 := by decide +kernel
/-- Signal or copy 13 goes to the right neighbour. -/
theorem dev13_eq : ∀ c : Dev nD, (⟨k0_dev13 c, k0_dev13_lt c⟩ : Dev nD) = sh c 1 := by decide +kernel
/-- Signal or copy 14 goes to the left neighbour. -/
theorem dev14_eq : ∀ c : Dev nD, (⟨k0_dev14 c, k0_dev14_lt c⟩ : Dev nD) = sh c 3 := by decide +kernel

/-! ## The views' element sets -/

/-- The rectangle of a half block is its rows, -/
theorem xrow_set {r : ℕ} {off : Fin 2 → ℕ} (hoff : off = ![128 * r, 0]) (inb) :
    (Rect.unit (s := S1024x1024) off S128x1024.size inb).set = xrow r := by
  subst hoff
  ext i
  rw [Rect.mem_set_unit, xrow, Finset.mem_filter]
  have h1 := (i 1).isLt
  constructor
  · intro h; refine ⟨Finset.mem_univ _, ?_⟩
    have h0 : 128 * r ≤ (i 0).val ∧ (i 0).val < 128 * r + 128 := h 0
    omega
  · rintro ⟨-, h⟩ a
    fin_cases a
    · show 128 * r ≤ (i 0).val ∧ (i 0).val < 128 * r + 128; omega
    · show 0 ≤ (i 1).val ∧ (i 1).val < 0 + 1024; change (i 1).val < 1024 at h1; omega

/-- that of a sum's slot the slot, -/
theorem slot_set {h : ℕ} {off : Fin 3 → ℕ} (hoff : off = ![h, 0, 0]) (inb) :
    (Rect.unit (s := S3x128x1024) off S1x128x1024.size inb).set = slot h := by
  subst hoff
  ext i
  rw [Rect.mem_set_unit, slot, Finset.mem_filter]
  have h1 := (i 1).isLt; have h2 := (i 2).isLt
  constructor
  · intro hh; refine ⟨Finset.mem_univ _, ?_⟩
    have h0 : h ≤ (i 0).val ∧ (i 0).val < h + 1 := hh 0
    omega
  · rintro ⟨-, hh⟩ a
    fin_cases a
    · show h ≤ (i 0).val ∧ (i 0).val < h + 1; omega
    · show 0 ≤ (i 1).val ∧ (i 1).val < 0 + 128; change (i 1).val < 128 at h1; omega
    · show 0 ≤ (i 2).val ∧ (i 2).val < 0 + 1024; change (i 2).val < 1024 at h2; omega

/-- that of a head's slot the slot, -/
theorem kslot_set {h : ℕ} {off : Fin 3 → ℕ} (hoff : off = ![h, 0, 0]) (inb) :
    (Rect.unit (s := S8x1152x128) off S1x1152x128.size inb).set = kslot h := by
  subst hoff
  ext i
  rw [Rect.mem_set_unit, kslot, Finset.mem_filter]
  have h1 := (i 1).isLt; have h2 := (i 2).isLt
  constructor
  · intro hh; refine ⟨Finset.mem_univ _, ?_⟩
    have h0 : h ≤ (i 0).val ∧ (i 0).val < h + 1 := hh 0
    omega
  · rintro ⟨-, hh⟩ a
    fin_cases a
    · show h ≤ (i 0).val ∧ (i 0).val < h + 1; omega
    · show 0 ≤ (i 1).val ∧ (i 1).val < 0 + 1152; change (i 1).val < 1152 at h1; omega
    · show 0 ≤ (i 2).val ∧ (i 2).val < 0 + 128; change (i 2).val < 128 at h2; omega

/-- and that of a head in the whole keys what its slot copies. -/
theorem hsrc_set (c : Dev nD) {h : ℕ} (hh : h < 8) {off : Fin 4 → ℕ} (hoff : off = ![0, 0, 8 * c.val + h, 0]) (inb) :
    (Rect.unit (s := S1x4096x32x128) off S1x1152x1x128.size inb).set = hsrc c h := by
  subst hoff
  ext i
  rw [Rect.mem_set_unit, hsrc, Finset.mem_filter, hlab]
  have h0 := (i 0).isLt; have h3 := (i 3).isLt
  change (i 0).val < 1 at h0; change (i 3).val < 128 at h3
  constructor
  · intro hx; refine ⟨Finset.mem_univ _, ?_⟩
    have h1 : 0 ≤ (i 1).val ∧ (i 1).val < 0 + 1152 := hx 1
    have h2 : 8 * c.val + h ≤ (i 2).val ∧ (i 2).val < 8 * c.val + h + 1 := hx 2
    rw [if_pos (by omega)]; omega
  · rintro ⟨-, hx⟩
    split at hx
    · intro a
      fin_cases a
      · show 0 ≤ (i 0).val ∧ (i 0).val < 0 + 1; omega
      · show 0 ≤ (i 1).val ∧ (i 1).val < 0 + 1152; omega
      · show 8 * c.val + h ≤ (i 2).val ∧ (i 2).val < 8 * c.val + h + 1; omega
      · show 0 ≤ (i 3).val ∧ (i 3).val < 0 + 128; omega
    · omega

/-! ## Loads of held pieces -/

/-- Rows `128 * r …` of the gathered rows. -/
def rows (f : Vec F S1024x1024 .bf16) (r : ℕ) : Vec F S128x1024 .bf16 := fun j =>
  f (ix2 ⟨(128 * r + (j 0).val) % 1024, Nat.mod_lt _ (by decide)⟩ (j 1))

/-- Reading a half block of the gathered rows gives its rows, -/
theorem readAt_rows (f : Vec F S1024x1024 .bf16) {r : ℕ} {off : Fin 2 → ℕ} (hoff : off = ![128 * r, 0]) (inb) :
    View.readAt (Elt F) xgM.view (Rect.unit (s := S1024x1024) off S128x1024.size inb).toLoadRect f = rows f r := by
  subst hoff
  funext j
  have hb := inb 0
  change 128 * r + 128 ≤ 1024 at hb
  have hj := (j 0).isLt
  change (j 0).val < 128 at hj
  show f _ = f _
  congr 1
  funext a
  apply Fin.ext
  fin_cases a
  · show 128 * r + 1 * (j 0).val = (128 * r + (j 0).val) % 1024; omega
  · show 0 + 1 * (j 1).val = (j 1).val; omega

/-- reading a window of a head's keys gives the window, -/
theorem readAt_k (f : Vec F S8x1152x128 .f32) {hh : Fin 8} {R : ℕ} {off : Fin 3 → ℕ} (hoff : off = ![hh.val, w0 R, 0]) (inb) :
    View.readAt (Elt F) kM.view (Rect.unit (s := S8x1152x128) off S1x384x128.size inb).toLoadRect f = win f hh R := by
  subst hoff
  funext j
  have h0 := (j 0).isLt
  change (j 0).val < 1 at h0
  show f _ = f _
  congr 1
  funext a
  apply Fin.ext
  fin_cases a
  · show hh.val + 1 * (j 0).val = hh.val; omega
  · show w0 R + 1 * (j 1).val = w0 R + (j 1).val; omega
  · show 0 + 1 * (j 2).val = (j 2).val; omega

/-- and so for the values. -/
theorem readAt_v (f : Vec F S8x1152x128 .f32) {hh : Fin 8} {R : ℕ} {off : Fin 3 → ℕ} (hoff : off = ![hh.val, w0 R, 0]) (inb) :
    View.readAt (Elt F) vM.view (Rect.unit (s := S8x1152x128) off S1x384x128.size inb).toLoadRect f = win f hh R := readAt_k f hoff inb

section Steps
/-- A load of a half block of the gathered rows, -/
theorem ld_x (c : Dev nD) (r : ℕ) (q : PosShare TreeShare) (f : Vec F S1024x1024 .bf16) {off : Fin 2 → ℕ} (hoff : off = ![128 * r, 0]) {inb}
    {hl : (xgM.view).LoadsAt (Rect.unit (s := S1024x1024) off S128x1024.size inb).toLoadRect}
    {α : Type} {Q : α → sProp 𝕄} {k : ((Rect.unit (s := S1024x1024) off S128x1024.size inb).toLoadRect.shape.Idx → Elt F .bf16) → Prog (TpuEff nD τ sig (Elt F) Λ₀ .tc) α} :
    xgP c r q f ⊢ iprop((xgP c r q f -∗ wp frame (wpE (defs₀ (F := F)) 𝒱₀ (c : Thread nD τ) none) Set.univ (k (rows f r)) Q)
      -∗ wp frame (wpE (defs₀ (F := F)) 𝒱₀ (c : Thread nD τ) none) Set.univ (.op (.load xgM (Rect.unit (s := S1024x1024) off S128x1024.size inb).toLoadRect hl) k) Q) := by
  unfold xgP
  rw [← readAt_rows f hoff inb]
  refine wp_load 𝒱₀ (c : Thread nD τ) none Set.univ ?_
  show View.setOn _ _ ⊆ _
  intro i hi
  obtain ⟨x, hx, rfl⟩ := Finset.mem_map.mp hi
  rw [← xrow_set hoff inb]
  exact hx

/-- a load of a window of a head's keys, -/
theorem ld_k (c : Dev nD) (hh : Fin 8) (R : ℕ) (f : Vec F S8x1152x128 .f32) {off : Fin 3 → ℕ} (hoff : off = ![hh.val, w0 R, 0]) {inb}
    {hl : (kM.view).LoadsAt (Rect.unit (s := S8x1152x128) off S1x384x128.size inb).toLoadRect}
    {α : Type} {Q : α → sProp 𝕄} {k : ((Rect.unit (s := S8x1152x128) off S1x384x128.size inb).toLoadRect.shape.Idx → Elt F .f32) → Prog (TpuEff nD τ sig (Elt F) Λ₀ .tc) α} :
    kP c hh.val f ⊢ iprop((kP c hh.val f -∗ wp frame (wpE (defs₀ (F := F)) 𝒱₀ (c : Thread nD τ) none) Set.univ (k (win f hh R)) Q)
      -∗ wp frame (wpE (defs₀ (F := F)) 𝒱₀ (c : Thread nD τ) none) Set.univ (.op (.load kM (Rect.unit (s := S8x1152x128) off S1x384x128.size inb).toLoadRect hl) k) Q) := by
  unfold kP
  rw [← readAt_k f hoff inb]
  refine wp_load 𝒱₀ (c : Thread nD τ) none Set.univ ?_
  intro i hi
  obtain ⟨x, hx, rfl⟩ := Finset.mem_map.mp hi
  rw [kslot, Finset.mem_filter]
  refine ⟨Finset.mem_univ _, ?_⟩
  have := (Rect.mem_set_unit.mp hx) 0
  subst hoff
  change hh.val ≤ (x 0).val ∧ (x 0).val < hh.val + 1 at this
  show (x 0).val = hh.val
  omega

/-- and one of a window of a head's values. -/
theorem ld_v (c : Dev nD) (hh : Fin 8) (R : ℕ) (f : Vec F S8x1152x128 .f32) {off : Fin 3 → ℕ} (hoff : off = ![hh.val, w0 R, 0]) {inb}
    {hl : (vM.view).LoadsAt (Rect.unit (s := S8x1152x128) off S1x384x128.size inb).toLoadRect}
    {α : Type} {Q : α → sProp 𝕄} {k : ((Rect.unit (s := S8x1152x128) off S1x384x128.size inb).toLoadRect.shape.Idx → Elt F .f32) → Prog (TpuEff nD τ sig (Elt F) Λ₀ .tc) α} :
    vP c hh.val f ⊢ iprop((vP c hh.val f -∗ wp frame (wpE (defs₀ (F := F)) 𝒱₀ (c : Thread nD τ) none) Set.univ (k (win f hh R)) Q)
      -∗ wp frame (wpE (defs₀ (F := F)) 𝒱₀ (c : Thread nD τ) none) Set.univ (.op (.load vM (Rect.unit (s := S8x1152x128) off S1x384x128.size inb).toLoadRect hl) k) Q) := by
  unfold vP
  rw [← readAt_v f hoff inb]
  refine wp_load 𝒱₀ (c : Thread nD τ) none Set.univ ?_
  intro i hi
  obtain ⟨x, hx, rfl⟩ := Finset.mem_map.mp hi
  rw [kslot, Finset.mem_filter]
  refine ⟨Finset.mem_univ _, ?_⟩
  have := (Rect.mem_set_unit.mp hx) 0
  subst hoff
  change hh.val ≤ (x 0).val ∧ (x 0).val < hh.val + 1 at this
  show (x 0).val = hh.val
  omega

/-! ## Waits -/

variable (K : Dev nD × Fin 41 → ℕ)

/-- Wait for the one round of DMA semaphore `k`: its payload arrives and the cell, which has no other round, closes at nought. -/
theorem wait_step (c : Dev nD) (k : Fin 44) (hk : 4 ≤ k.val) (l : Debt) (hl : ∀ p ∈ l, lvS (.dma (dsem k)) < lvS p.2.1)
    {sp sp' : Space} {s s' : Shape} {e e' : EltTy} {src : Memref sig .tc sp' s' e'} {κ' : Kind} {dst : Memref sig κ' sp s e}
    (hN : dst.view.dmaCredit = amt k.val)
    {hsrc : src.view.WordExact} {hdst : dst.view.WordExact} {α : Type} {Q : α → sProp 𝕄} {kt : PUnit → Prog (TpuEff nD τ sig (Elt F) Λ₀ .tc) α} :
    iprop(records m K ∗ levAts L lv ∗ cred (tallyAt (dCell c k) () (amt k.val)) ∗ owesE c l ∗ atPos ER (dCell c k) 0 ∅ 0)
      ⊢ iprop(((owesE c l ∗ semVal (dCell c k) 0 ∗ dmaPay m c k.val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem k) src dst hsrc hdst) kt) Q) := by
  unfold owesE
  iintro ⟨#Hrec, #Hlev, Hc, ⟨%W, HO⟩, Hat⟩ Hk
  ihave Hr := (rec_dma m K c k hk) $$ Hrec
  icases Hr with ⟨#HI, #Hr0⟩
  iapply (Rounds.wp_wait_rest_token 𝒱₀ ER (Rd m) (c : Thread nD τ) none (κ := K (c, ci k hk))
      (wpE_waitDma2_eq 𝒱₀ (c : Thread nD τ) none Set.univ) (Set.mem_univ _) () (O := Osum l) (W := W) (R := 0) (m := 0) (T := ∅)
      (by rw [Nat.zero_add, expect_dma m c k hk, hN])) $$ [Hc HO Hat]
  · isplitr; · iexact HI
    isplitl [Hc]; · rw [hN]; iexact Hc
    isplitl [HO]; · iexact HO
    isplitr; · iapply (mayWait c _ l hl); iexact Hlev
    iexact Hat
  iintro ⟨HO, Hat, -, Hpay⟩
  ihave Hp := (Entails.of_eq (rest_dma m c k hk)) $$ Hpay
  imod (Rounds.cell_close ER (Rd m) (Set.mem_univ (K (c, ci k hk))) (fun h => h) (R := 0 + 1) (duties_later m (dCell c k))) $$ [Hat] with Hz
  · isplitr; · iexact HI
    iexact Hat
  iapply Hk
  isplitl [HO]; · iexists _; iexact HO
  isplitl [Hz]; · iexact Hz
  iexact Hp

/-- The wait on the barrier: both neighbours' buffers, and the cell closes. -/
theorem wait_bar (c : Dev nD) (l : Debt) (hl : ∀ p ∈ l, lvS (.reg barS) < lvS p.2.1)
    {α : Type} {Q : α → sProp 𝕄} {kt : PUnit → Prog (TpuEff nD τ sig (Elt F) Λ₀ .tc) α} :
    iprop(records m K ∗ levAts L lv ∗ cred (tallyAt (barCell c) () 2) ∗ owesE c l ∗ atPos ER (barCell c) 0 ∅ 0)
      ⊢ iprop(((owesE c l ∗ semVal (barCell c) 0 ∗ fromL c ∗ fromR c)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS 2) kt) Q) := by
  unfold owesE
  iintro ⟨#Hrec, #Hlev, Hc, ⟨%W, HO⟩, Hat⟩ Hk
  ihave Hr := (rec_bar m K c) $$ Hrec
  icases Hr with ⟨#HI, #Hr0⟩
  iapply (Rounds.wp_wait_rest_token 𝒱₀ ER (Rd m) (c : Thread nD τ) none (κ := K (c, 0))
      (wpE_semWait_eq 𝒱₀ (c : Thread nD τ) none Set.univ) (Set.mem_univ _) () (O := Osum l) (W := W) (R := 0) (m := 0) (T := ∅)
      (by rw [expect_bar])) $$ [Hc HO Hat]
  · isplitr; · iexact HI
    isplitl [Hc]; · iexact Hc
    isplitl [HO]; · iexact HO
    isplitr; · iapply (mayWait c _ l hl); iexact Hlev
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A signal to a neighbour's barrier. -/
theorem signal_step (c n n' : Dev nD) (hn : n' = n) (d : Bool) (l : Debt) {α : Type} {Q : α → sProp 𝕄} {kt : PUnit → Prog (TpuEff nD τ sig (Elt F) Λ₀ .tc) α} :
    iprop(records m K ∗ owesE c ((n, .reg barS, 1) :: l) ∗ dutyTok ER (barCell n) 0 d ∗ (if d then fromR n else fromL n))
      ⊢ iprop((owesE c l -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n' : Thread nD τ) barS 1) kt) Q) := by
  subst hn
  unfold owesE
  iintro ⟨#Hrec, ⟨%W, HO⟩, Ht, Hp⟩ Hk
  ihave Hr := (rec_bar m K n') $$ Hrec
  icases Hr with ⟨#HI, #Hr0⟩
  iapply (Rounds.wp_signal 𝒱₀ ER (Rd m) (c : Thread nD τ) none (dst := (n' : Thread nD τ)) (κ := K (n', 0))
      (d := d) (by rw [duties_bar]; exact Finset.mem_univ _) ((amount_bar m n' d).trans (by decide)) () (Osum l) rfl) $$ [HO Ht Hp]
  · isplitr; · iexact HI
    isplitl [HO]; · iexact HO
    isplitl [Ht]; · iexact Ht
    isplitl [Hp]; · rw [show (Rd m).payload (barCell n') 0 d = (if d then fromR n' else fromL n') from rfl]; iexact Hp
    iexact Hr0
  iintro HO
  iapply Hk
  iexists _; iexact HO

/-! ## Transfers -/

/-- A transfer to a neighbour, paying its own source cell and the neighbour's destination cell. -/
theorem send_step (c n n' : Dev nD) (hn : n' = n) (kS kR : Fin 44) (hkS : 4 ≤ kS.val) (hkR : 4 ≤ kR.val)
    (hS : amt kS.val = NX) (hR : amt kR.val = NX) (l : Debt)
    {src : Memref sig .tc .vmem S128x1024 .bf16} {dst : Memref sig .tc .vmem S128x1024 .bf16}
    (hN : dst.view.amount (.dma (dsem kR)) = NX) (q : PosShare TreeShare) (fs : Buf (Elt F) (src.view.loc (c : Thread nD τ))) (fd : Buf (Elt F) (dst.view.loc (n : Thread nD τ)))
    (hp₁ : (src.view.loc (c : Thread nD τ) ↦[src.view.set]{q} fs : sProp 𝕄) ⊢ dmaPay m c kS.val)
    (hp₂ : (dst.view.loc (n : Thread nD τ) ↦[dst.view.set]{fullShare} (dst.view.write (Elt F) fd (src.view.read (Elt F) fs) Finset.univ) : sProp 𝕄) ⊢ dmaPay m n kR.val)
    {hsc : (dst : Memref sig (Dev.tc n' : Thread nD τ).2.kind .vmem S128x1024 .bf16).view.ref.isScScratch = false}
    {hsrc : src.view.WordExact} {hdst : dst.view.WordExact}
    {hsem : DmaTarget.Typed .vmem (.dma (dsem kR)) (.remote (Dev.tc n' : Thread nD τ) dst (.dma (dsem kS)) hsc)}
    {α : Type} {Q : α → sProp 𝕄} {kt : PUnit → Prog (TpuEff nD τ sig (Elt F) Λ₀ .tc) α} :
    iprop(records m K ∗ (src.view.loc (c : Thread nD τ) ↦[src.view.set]{q} fs) ∗ (dst.view.loc (n : Thread nD τ) ↦[dst.view.set]{fullShare} fd)
        ∗ owesE c ((n, .dma (dsem kR), NX) :: l) ∗ dutyTok ER (dCell c kS) 0 false ∗ dutyTok ER (dCell n kR) 0 false)
      ⊢ iprop(((cred (tallyAt (dCell c kS) () (amt kS.val)) ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n' : Thread nD τ) dst (.dma (dsem kS)) hsc) (.dma (dsem kR)) hsrc hdst hsem) kt) Q) := by
  subst hn
  unfold owesE
  iintro ⟨#Hrec, Hs, Hd, ⟨%W, HO⟩, Ht1, Ht2⟩ Hk
  ihave Hr := (rec_dma m K c kS hkS) $$ Hrec
  icases Hr with ⟨#HI1, #Hr1⟩
  ihave Hr := (rec_dma m K n' kR hkR) $$ Hrec
  icases Hr with ⟨#HI2, #Hr2⟩
  iapply (Rounds.wp_send_pointsTo 𝒱₀ ER (Rd m) (c : Thread nD τ) none (κ₁ := K (c, ci kS hkS)) (κ₂ := K (n', ci kR hkR))
    (r₁ := 0) (r₂ := 0) (d₁ := false) (d₂ := false) (fd := fd) (fs := fs) (q := q)
    (by rw [duties_dma m c kS hkS]; exact Finset.mem_singleton_self _) (by rw [duties_dma m n' kR hkR]; exact Finset.mem_singleton_self _)
    () () NX hN ((amount_dma m c kS false).trans hS) ((amount_dma m n' kR false).trans hR) (Osum l) rfl (W := W)
    (by rw [payload_dma]; exact hp₁) (by rw [payload_dma]; exact hp₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  rw [hS]
  isplitl [Hc]; · iexact Hc
  iexists _; iexact HO

end Steps

end Cert.KernelIdeal.Att

end
-- ==== Proof.Moves.lean ====
module

public import proofs.«01_k».proof.Proof.Steps

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # The body's transfers: what each takes, and that it pays what the schedule says -/

/-- A rectangle of the gathered rows as the transfers name it. -/
abbrev xsl (off : Fin 2 → ℕ) (inb : ∀ a, off a + S128x1024.size a ≤ S1024x1024.size a) : Memref sig .tc .vmem S128x1024 .bf16 :=
  xgM.slice (Rect.unit (s := S1024x1024) off S128x1024.size inb) (fun _ => rfl)
/-- A slot of a buffer of travelling sums as the transfers name it. -/
abbrev ssl (M : Memref sig .tc .vmem S3x128x1024 .bf16) (off : Fin 3 → ℕ) (inb : ∀ a, off a + S1x128x1024.size a ≤ S3x128x1024.size a) :
    Memref sig .tc .vmem S128x1024 .bf16 :=
  (M.slice (Rect.unit (s := S3x128x1024) off S1x128x1024.size inb) (fun _ => rfl)).squeeze S128x1024 squeezes_S1x128x1024_S128x1024
/-- A head's slot of the key buffer, and where it is copied from. -/
abbrev ksl (M : Memref sig .tc .vmem S8x1152x128 .f32) (off : Fin 3 → ℕ) (inb : ∀ a, off a + S1x1152x128.size a ≤ S8x1152x128.size a) :
    Memref sig .tc .vmem S1152x128 .f32 :=
  (M.slice (Rect.unit (s := S8x1152x128) off S1x1152x128.size inb) (fun _ => rfl)).squeeze S1152x128 squeezes_S1x1152x128_S1152x128
abbrev isl (M : Memref sig .tc .hbm S1x4096x32x128 .f32) (off : Fin 4 → ℕ) (inb : ∀ a, off a + S1x1152x1x128.size a ≤ S1x4096x32x128.size a) :
    Memref sig .tc .hbm S1152x128 .f32 :=
  (M.slice (Rect.unit (s := S1x4096x32x128) off S1x1152x1x128.size inb) (fun _ => rfl)).squeeze S1152x128 squeezes_S1x1152x1x128_S1152x128

/-- The elements of a half block of the gathered rows, -/
theorem xsl_set {r : ℕ} {off : Fin 2 → ℕ} (hoff : off = ![128 * r, 0]) (inb) : (xsl off inb).view.set = xrow r := by
  show (View.slice _ _).set = _
  rw [View.set_slice_whole]; exact xrow_set hoff inb
/-- of a slot of the sums to send rightwards, -/
theorem ssl_set_txr {h : ℕ} {off : Fin 3 → ℕ} (hoff : off = ![h, 0, 0]) (inb) : (ssl txrM off inb).view.set = slot h := by
  show (View.reshape _ _ _).set = _
  rw [View.set_reshape]; show (View.slice _ _).set = _
  rw [View.set_slice_whole]; exact slot_set hoff inb
/-- of a slot of the sums received from the left, -/
theorem ssl_set_rxr {h : ℕ} {off : Fin 3 → ℕ} (hoff : off = ![h, 0, 0]) (inb) : (ssl rxrM off inb).view.set = slot h := by
  show (View.reshape _ _ _).set = _
  rw [View.set_reshape]; show (View.slice _ _).set = _
  rw [View.set_slice_whole]; exact slot_set hoff inb
/-- of a slot of the sums to send leftwards, -/
theorem ssl_set_txl {h : ℕ} {off : Fin 3 → ℕ} (hoff : off = ![h, 0, 0]) (inb) : (ssl txlM off inb).view.set = slot h := by
  show (View.reshape _ _ _).set = _
  rw [View.set_reshape]; show (View.slice _ _).set = _
  rw [View.set_slice_whole]; exact slot_set hoff inb
/-- of a slot of the sums received from the right, -/
theorem ssl_set_rxl {h : ℕ} {off : Fin 3 → ℕ} (hoff : off = ![h, 0, 0]) (inb) : (ssl rxlM off inb).view.set = slot h := by
  show (View.reshape _ _ _).set = _
  rw [View.set_reshape]; show (View.slice _ _).set = _
  rw [View.set_slice_whole]; exact slot_set hoff inb
/-- of a head's slot of the keys, -/
theorem ksl_set_k {h : ℕ} {off : Fin 3 → ℕ} (hoff : off = ![h, 0, 0]) (inb) : (ksl kM off inb).view.set = kslot h := by
  show (View.reshape _ _ _).set = _
  rw [View.set_reshape]; show (View.slice _ _).set = _
  rw [View.set_slice_whole]; exact kslot_set hoff inb
/-- of a head's slot of the values, -/
theorem ksl_set_v {h : ℕ} {off : Fin 3 → ℕ} (hoff : off = ![h, 0, 0]) (inb) : (ksl vM off inb).view.set = kslot h := by
  show (View.reshape _ _ _).set = _
  rw [View.set_reshape]; show (View.slice _ _).set = _
  rw [View.set_slice_whole]; exact kslot_set hoff inb
/-- of a head's rows of the whole keys, -/
theorem isl_set_k (c : Dev nD) {h : ℕ} (hh : h < 8) {off : Fin 4 → ℕ} (hoff : off = ![0, 0, 8 * c.val + h, 0]) (inb) : (isl kIn off inb).view.set = hsrc c h := by
  show (View.reshape _ _ _).set = _
  rw [View.set_reshape]; show (View.slice _ _).set = _
  rw [View.set_slice_whole]; exact hsrc_set c hh hoff inb
/-- and of the whole values. -/
theorem isl_set_v (c : Dev nD) {h : ℕ} (hh : h < 8) {off : Fin 4 → ℕ} (hoff : off = ![0, 0, 8 * c.val + h, 0]) (inb) : (isl vIn off inb).view.set = hsrc c h := by
  show (View.reshape _ _ _).set = _
  rw [View.set_reshape]; show (View.slice _ _).set = _
  rw [View.set_slice_whole]; exact hsrc_set c hh hoff inb

/-- What a head's copy leaves at a place of its slot. -/
theorem kcopy_val (A : Vec F S1x4096x32x128 .f32) (c : Dev nD) {h : ℕ} (hh : h < 8) (B : Vec F S8x1152x128 .f32)
    (hB : ∀ i : S8x1152x128.Idx, (i 0).val = h → ∀ j : S1x4096x32x128.Idx, (j 1).val = (i 1).val → (j 2).val = 8 * c.val + h → (j 3).val = (i 2).val → B i = A j)
    {off : Fin 4 → ℕ} (hoff : off = ![0, 0, 8 * c.val + h, 0]) (inb) {off' : Fin 3 → ℕ} (hoff' : off' = ![h, 0, 0]) (inb') (x : S1152x128.Idx) :
    B ((Rect.unit (s := S8x1152x128) off' S1x1152x128.size inb').emb (Shape.reshapeEquiv squeezes_S1x1152x128_S1152x128.numel_eq x))
      = A ((Rect.unit (s := S1x4096x32x128) off S1x1152x1x128.size inb).emb (Shape.reshapeEquiv squeezes_S1x1152x1x128_S1152x128.numel_eq x)) := by
  subst hoff hoff'
  obtain ⟨i, j, rfl⟩ : ∃ (i : Fin 1152) (j : Fin 128), x = ix2 i j := ⟨x 0, x 1, by funext a; fin_cases a <;> rfl⟩
  have e1 : (Shape.reshapeEquiv squeezes_S1x1152x128_S1152x128.numel_eq (ix2 i j : S1152x128.Idx) : S1x1152x128.Idx) = ix3 (0 : Fin 1) i j := by
    apply Shape.reshapeEquiv_eq_of_rowMajor
    refine (Shape.rowMajor_val_three (d := ![1, 1152, 128]) (ix3 (0 : Fin 1) i j)).trans (Eq.trans ?_ (Shape.rowMajor_val_two (d := ![1152, 128]) (ix2 i j)).symm)
    show (0 * 1152 + i.val) * 128 + j.val = i.val * 128 + j.val
    omega
  have e2 : (Shape.reshapeEquiv squeezes_S1x1152x1x128_S1152x128.numel_eq (ix2 i j : S1152x128.Idx) : S1x1152x1x128.Idx) = ix4 (0 : Fin 1) i (0 : Fin 1) j := by
    apply Shape.reshapeEquiv_eq_of_rowMajor
    refine (Shape.rowMajor_val_four (d := ![1, 1152, 1, 128]) (ix4 (0 : Fin 1) i (0 : Fin 1) j)).trans (Eq.trans ?_ (Shape.rowMajor_val_two (d := ![1152, 128]) (ix2 i j)).symm)
    show ((0 * 1152 + i.val) * 1 + 0) * 128 + j.val = i.val * 128 + j.val
    omega
  rw [e1, e2]
  apply hB
  · show h + 1 * 0 = h; omega
  · rfl
  · show 8 * c.val + h + 1 * 0 = 8 * c.val + h; omega
  · rfl

/-- An element of the copied keys is the one of the whole keys that it was copied from, -/
theorem kB_at (c : Dev nD) {h : ℕ} (i : S8x1152x128.Idx) (hi : (i 0).val = h) (j : S1x4096x32x128.Idx) (h1 : (j 1).val = (i 1).val)
    (h2 : (j 2).val = 8 * c.val + h) (h3 : (j 3).val = (i 2).val) : kB m c i = kA m c j := by
  unfold kB
  congr 1
  funext a
  apply Fin.ext
  have h0 := (j 0).isLt
  change (j 0).val < 1 at h0
  fin_cases a
  · show 0 = (j 0).val; omega
  · exact h1.symm
  · show 8 * c.val + (i 0).val = (j 2).val; omega
  · exact h3.symm
/-- and an element of the copied values that of the whole values. -/
theorem vB_at (c : Dev nD) {h : ℕ} (i : S8x1152x128.Idx) (hi : (i 0).val = h) (j : S1x4096x32x128.Idx) (h1 : (j 1).val = (i 1).val)
    (h2 : (j 2).val = 8 * c.val + h) (h3 : (j 3).val = (i 2).val) : vB m c i = vA m c j := by
  unfold vB
  congr 1
  funext a
  apply Fin.ext
  have h0 := (j 0).isLt
  change (j 0).val < 1 at h0
  fin_cases a
  · show 0 = (j 0).val; omega
  · exact h1.symm
  · show 8 * c.val + (i 0).val = (j 2).val; omega
  · exact h3.symm

/-- The start of a head's key copy. -/
theorem k_issue (c : Dev nD) (h : ℕ) (hh : h < 8) {off : Fin 4 → ℕ} (hoff : off = ![0, 0, 8 * c.val + h, 0]) {inb} {off' : Fin 3 → ℕ} (hoff' : off' = ![h, 0, 0]) {inb'}
    (k : Fin 44) (hk : k.val = 4 + 2 * h) (hN : (ksl kM off' inb').view.amount (.dma (dsem k)) = NK)
    {hsrc : (isl kIn off inb).view.WordExact} {hdst : (ksl kM off' inb').view.WordExact}
    {hsem : DmaTarget.Typed (nD := nD) (p := (c : Thread nD τ).2) .hbm (.dma (dsem k)) (.here (ksl kM off' inb'))}
    {α : Type} {Q : α → sProp 𝕄} {kt : PUnit → Prog (TpuEff nD τ sig (Elt F) Λ₀ .tc) α} :
    iprop(records m K ∗ (∃ f, kP c h f) ∗ kInP m c h ∗ dutyTok ER (dCell c k) 0 false)
      ⊢ iprop((cred (tallyAt (dCell c k) () NK) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (isl kIn off inb) (.here (ksl kM off' inb')) (.dma (dsem k)) hsrc hdst hsem) kt) Q) := by
  have hk4 : 4 ≤ k.val := by omega
  have hk20 : k.val < 20 := by omega
  iintro ⟨#Hrec, ⟨%f, Hd⟩, Hs, Ht⟩ Hk
  ihave Hr := (rec_dma m K c k hk4) $$ Hrec
  icases Hr with ⟨#HI, #Hr0⟩
  iapply (Rounds.wp_copy_pointsTo 𝒱₀ ER (Rd m) (c : Thread nD τ) none (κ := K (c, ci k hk4)) (r := 0) (d := false) (q := fullShare) (fs := kA m c) (fd := f)
    (by rw [duties_dma m c k hk4]; exact Finset.mem_singleton_self _) () NK hN
    ((amount_dma m c k false).trans (by unfold amt; rw [if_pos hk20]))
    (by
      rw [payload_dma]; unfold dmaPay; rw [if_pos hk20, if_pos (by omega), show (k.val - 4) / 2 = h by omega]
      unfold kPay kP kInP pt
      rw [ksl_set_k hoff', isl_set_k c hh hoff]
      refine BI.sep_mono (Entails.of_eq (pointsTo_congr fun i hi => ?_)) (Entails.refl _)
      rw [← ksl_set_k hoff' inb'] at hi
      obtain ⟨x, -, rfl⟩ := Finset.mem_map.mp hi
      refine (View.write_emb_of_mem _ _ (Finset.mem_univ x)).trans ?_
      exact (kcopy_val (kA m c) c hh (kB m c) (fun i hi j => kB_at m c i hi j) hoff inb hoff' inb' x).symm)) $$ [Hd Hs Ht]
  · isplitr; · iexact HI
    isplitl [Hs]; · rw [isl_set_k c hh hoff]; unfold kInP; iexact Hs
    isplitl [Hd]; · rw [ksl_set_k hoff']; unfold kP; iexact Hd
    isplitl [Ht]; · iexact Ht
    iexact Hr0
  iexact Hk

/-- The start of a head's value copy. -/
theorem v_issue (c : Dev nD) (h : ℕ) (hh : h < 8) {off : Fin 4 → ℕ} (hoff : off = ![0, 0, 8 * c.val + h, 0]) {inb} {off' : Fin 3 → ℕ} (hoff' : off' = ![h, 0, 0]) {inb'}
    (k : Fin 44) (hk : k.val = 5 + 2 * h) (hN : (ksl vM off' inb').view.amount (.dma (dsem k)) = NK)
    {hsrc : (isl vIn off inb).view.WordExact} {hdst : (ksl vM off' inb').view.WordExact}
    {hsem : DmaTarget.Typed (nD := nD) (p := (c : Thread nD τ).2) .hbm (.dma (dsem k)) (.here (ksl vM off' inb'))}
    {α : Type} {Q : α → sProp 𝕄} {kt : PUnit → Prog (TpuEff nD τ sig (Elt F) Λ₀ .tc) α} :
    iprop(records m K ∗ (∃ f, vP c h f) ∗ vInP m c h ∗ dutyTok ER (dCell c k) 0 false)
      ⊢ iprop((cred (tallyAt (dCell c k) () NK) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (isl vIn off inb) (.here (ksl vM off' inb')) (.dma (dsem k)) hsrc hdst hsem) kt) Q) := by
  have hk4 : 4 ≤ k.val := by omega
  have hk20 : k.val < 20 := by omega
  iintro ⟨#Hrec, ⟨%f, Hd⟩, Hs, Ht⟩ Hk
  ihave Hr := (rec_dma m K c k hk4) $$ Hrec
  icases Hr with ⟨#HI, #Hr0⟩
  iapply (Rounds.wp_copy_pointsTo 𝒱₀ ER (Rd m) (c : Thread nD τ) none (κ := K (c, ci k hk4)) (r := 0) (d := false) (q := fullShare) (fs := vA m c) (fd := f)
    (by rw [duties_dma m c k hk4]; exact Finset.mem_singleton_self _) () NK hN
    ((amount_dma m c k false).trans (by unfold amt; rw [if_pos hk20]))
    (by
      rw [payload_dma]; unfold dmaPay; rw [if_pos hk20, if_neg (by omega), show (k.val - 4) / 2 = h by omega]
      unfold vPay vP vInP pt
      rw [ksl_set_v hoff', isl_set_v c hh hoff]
      refine BI.sep_mono (Entails.of_eq (pointsTo_congr fun i hi => ?_)) (Entails.refl _)
      rw [← ksl_set_v hoff' inb'] at hi
      obtain ⟨x, -, rfl⟩ := Finset.mem_map.mp hi
      refine (View.write_emb_of_mem _ _ (Finset.mem_univ x)).trans ?_
      exact (kcopy_val (vA m c) c hh (vB m c) (fun i hi j => vB_at m c i hi j) hoff inb hoff' inb' x).symm)) $$ [Hd Hs Ht]
  · isplitr; · iexact HI
    isplitl [Hs]; · rw [isl_set_v c hh hoff]; unfold vInP; iexact Hs
    isplitl [Hd]; · rw [ksl_set_v hoff']; unfold vP; iexact Hd
    isplitl [Ht]; · iexact Ht
    iexact Hr0
  iexact Hk

/-- Passing a block of rows on. -/
theorem ag_send (c n n' : Dev nD) (hn : n' = n) (r : ℕ) {off : Fin 2 → ℕ} (hoff : off = ![128 * r, 0]) {inb} (kS kR : Fin 44) (hkS : 20 ≤ kS.val) (hkR : 20 ≤ kR.val)
    (l : Debt) (hN : (xsl off inb).view.amount (.dma (dsem kR)) = NX)
    (hp₁ : dmaPay m c kS.val = xgP c r fullShare.left (xgAll m)) (hp₂ : dmaPay m n kR.val = xgP n r fullShare (xgAll m))
    {hsc : (xsl off inb : Memref sig (Dev.tc n' : Thread nD τ).2.kind .vmem S128x1024 .bf16).view.ref.isScScratch = false}
    {hsrc : (xsl off inb).view.WordExact} {hdst : (xsl off inb).view.WordExact}
    {hsem : DmaTarget.Typed .vmem (.dma (dsem kR)) (.remote (Dev.tc n' : Thread nD τ) (xsl off inb) (.dma (dsem kS)) hsc)}
    {α : Type} {Q : α → sProp 𝕄} {kt : PUnit → Prog (TpuEff nD τ sig (Elt F) Λ₀ .tc) α} :
    iprop(records m K ∗ xgP c r fullShare.left (xgAll m) ∗ (∃ f, xgP n r fullShare f)
        ∗ owesE c ((n, .dma (dsem kR), NX) :: l) ∗ dutyTok ER (dCell c kS) 0 false ∗ dutyTok ER (dCell n kR) 0 false)
      ⊢ iprop(((cred (tallyAt (dCell c kS) () (amt kS.val)) ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xsl off inb) (.remote (Dev.tc n' : Thread nD τ) (xsl off inb) (.dma (dsem kS)) hsc) (.dma (dsem kR)) hsrc hdst hsem) kt) Q) := by
  iintro ⟨#Hrec, Hs, ⟨%f, Hd⟩, HO, Ht1, Ht2⟩ Hk
  have hset := xsl_set hoff inb
  iapply (send_step m K c n n' hn kS kR (by omega) (by omega) (by unfold amt; rw [if_neg (by omega)]) (by unfold amt; rw [if_neg (by omega)]) l
    (src := xsl off inb) (dst := xsl off inb) hN fullShare.left (xgAll m) f
    (by rw [hset, hp₁]; unfold xgP; exact Entails.refl _)
    (by
      rw [hset, hp₂]; unfold xgP
      refine Entails.of_eq (pointsTo_congr fun i hi => ?_)
      rw [← hset] at hi
      obtain ⟨x, -, rfl⟩ := Finset.mem_map.mp hi
      exact View.write_emb_of_mem _ _ (Finset.mem_univ x))) $$ [Hs Hd HO Ht1 Ht2]
  · isplitr; · iexact Hrec
    isplitl [Hs]; · rw [hset]; unfold xgP; iexact Hs
    isplitl [Hd]; · rw [hset]; unfold xgP; iexact Hd
    isplitl [HO]; · iexact HO
    isplitl [Ht1]; · iexact Ht1
    iexact Ht2
  iexact Hk

/-- Sending a sum on, rightwards. -/
theorem rsr_send (c n n' : Dev nD) (hn : n' = n) (h : ℕ) {off : Fin 3 → ℕ} (hoff : off = ![h, 0, 0]) {inb} (kS kR : Fin 44) (hkS : 20 ≤ kS.val) (hkR : 20 ≤ kR.val)
    (l : Debt) (hN : (ssl rxrM off inb).view.amount (.dma (dsem kR)) = NX)
    (hp₁ : dmaPay m c kS.val = txrP c h (rsR m c)) (hp₂ : dmaPay m n kR.val = rxrP n h (rsR m c))
    {hsc : (ssl rxrM off inb : Memref sig (Dev.tc n' : Thread nD τ).2.kind .vmem S128x1024 .bf16).view.ref.isScScratch = false}
    {hsrc : (ssl txrM off inb).view.WordExact} {hdst : (ssl rxrM off inb).view.WordExact}
    {hsem : DmaTarget.Typed .vmem (.dma (dsem kR)) (.remote (Dev.tc n' : Thread nD τ) (ssl rxrM off inb) (.dma (dsem kS)) hsc)}
    {α : Type} {Q : α → sProp 𝕄} {kt : PUnit → Prog (TpuEff nD τ sig (Elt F) Λ₀ .tc) α} :
    iprop(records m K ∗ txrP c h (rsR m c) ∗ (∃ f, rxrP n h f)
        ∗ owesE c ((n, .dma (dsem kR), NX) :: l) ∗ dutyTok ER (dCell c kS) 0 false ∗ dutyTok ER (dCell n kR) 0 false)
      ⊢ iprop(((cred (tallyAt (dCell c kS) () (amt kS.val)) ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (ssl txrM off inb) (.remote (Dev.tc n' : Thread nD τ) (ssl rxrM off inb) (.dma (dsem kS)) hsc) (.dma (dsem kR)) hsrc hdst hsem) kt) Q) := by
  iintro ⟨#Hrec, Hs, ⟨%f, Hd⟩, HO, Ht1, Ht2⟩ Hk
  have hset₁ := ssl_set_txr hoff inb
  have hset₂ := ssl_set_rxr hoff inb
  iapply (send_step m K c n n' hn kS kR (by omega) (by omega) (by unfold amt; rw [if_neg (by omega)]) (by unfold amt; rw [if_neg (by omega)]) l
    (src := ssl txrM off inb) (dst := ssl rxrM off inb) hN fullShare (rsR m c) f
    (by rw [hset₁, hp₁]; unfold txrP; exact Entails.refl _)
    (by
      rw [hset₂, hp₂]; unfold rxrP
      refine Entails.of_eq (pointsTo_congr fun i hi => ?_)
      rw [← hset₂] at hi
      obtain ⟨x, -, rfl⟩ := Finset.mem_map.mp hi
      exact View.write_emb_of_mem _ _ (Finset.mem_univ x))) $$ [Hs Hd HO Ht1 Ht2]
  · isplitr; · iexact Hrec
    isplitl [Hs]; · rw [hset₁]; unfold txrP; iexact Hs
    isplitl [Hd]; · rw [hset₂]; unfold rxrP; iexact Hd
    isplitl [HO]; · iexact HO
    isplitl [Ht1]; · iexact Ht1
    iexact Ht2
  iexact Hk

/-- Sending a sum on, leftwards. -/
theorem rsl_send (c n n' : Dev nD) (hn : n' = n) (h : ℕ) {off : Fin 3 → ℕ} (hoff : off = ![h, 0, 0]) {inb} (kS kR : Fin 44) (hkS : 20 ≤ kS.val) (hkR : 20 ≤ kR.val)
    (l : Debt) (hN : (ssl rxlM off inb).view.amount (.dma (dsem kR)) = NX)
    (hp₁ : dmaPay m c kS.val = txlP c h (rsL m c)) (hp₂ : dmaPay m n kR.val = rxlP n h (rsL m c))
    {hsc : (ssl rxlM off inb : Memref sig (Dev.tc n' : Thread nD τ).2.kind .vmem S128x1024 .bf16).view.ref.isScScratch = false}
    {hsrc : (ssl txlM off inb).view.WordExact} {hdst : (ssl rxlM off inb).view.WordExact}
    {hsem : DmaTarget.Typed .vmem (.dma (dsem kR)) (.remote (Dev.tc n' : Thread nD τ) (ssl rxlM off inb) (.dma (dsem kS)) hsc)}
    {α : Type} {Q : α → sProp 𝕄} {kt : PUnit → Prog (TpuEff nD τ sig (Elt F) Λ₀ .tc) α} :
    iprop(records m K ∗ txlP c h (rsL m c) ∗ (∃ f, rxlP n h f)
        ∗ owesE c ((n, .dma (dsem kR), NX) :: l) ∗ dutyTok ER (dCell c kS) 0 false ∗ dutyTok ER (dCell n kR) 0 false)
      ⊢ iprop(((cred (tallyAt (dCell c kS) () (amt kS.val)) ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (ssl txlM off inb) (.remote (Dev.tc n' : Thread nD τ) (ssl rxlM off inb) (.dma (dsem kS)) hsc) (.dma (dsem kR)) hsrc hdst hsem) kt) Q) := by
  iintro ⟨#Hrec, Hs, ⟨%f, Hd⟩, HO, Ht1, Ht2⟩ Hk
  have hset₁ := ssl_set_txl hoff inb
  have hset₂ := ssl_set_rxl hoff inb
  iapply (send_step m K c n n' hn kS kR (by omega) (by omega) (by unfold amt; rw [if_neg (by omega)]) (by unfold amt; rw [if_neg (by omega)]) l
    (src := ssl txlM off inb) (dst := ssl rxlM off inb) hN fullShare (rsL m c) f
    (by rw [hset₁, hp₁]; unfold txlP; exact Entails.refl _)
    (by
      rw [hset₂, hp₂]; unfold rxlP
      refine Entails.of_eq (pointsTo_congr fun i hi => ?_)
      rw [← hset₂] at hi
      obtain ⟨x, -, rfl⟩ := Finset.mem_map.mp hi
      exact View.write_emb_of_mem _ _ (Finset.mem_univ x))) $$ [Hs Hd HO Ht1 Ht2]
  · isplitr; · iexact Hrec
    isplitl [Hs]; · rw [hset₁]; unfold txlP; iexact Hs
    isplitl [Hd]; · rw [hset₂]; unfold rxlP; iexact Hd
    isplitl [HO]; · iexact HO
    isplitl [Ht1]; · iexact Ht1
    iexact Ht2
  iexact Hk

end Cert.KernelIdeal.Att

end
-- ==== Proof.Bundles.lean ====
module

public import proofs.«01_k».proof.Proof.Moves

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # What a device holds between the body's stretches, and the rules in those terms -/

/-- Where a head's rows lie in the whole keys and values: the device's own head `h` of eight. -/
theorem off1_eq : ∀ d : Dev nD, ∀ h : Fin 8, k0_off1 d (BitVec.ofNat 32 h.val) = ![0, 0, 8 * d.val + h.val, 0] := by decide +kernel
/-- Where a device's own rows lie in the gathered ones, -/
theorem off2_eq : ∀ d : Dev nD, k0_off2 d = ![256 * d.val, 0] := by decide +kernel
/-- where the half block it sends first lies, -/
theorem off3_eq : ∀ d : Dev nD, ∀ r : Fin 2, k0_off3 d (BitVec.ofNat 32 (128 * r.val)) = ![128 * (2 * d.val + r.val), 0] := by decide +kernel
/-- and where the half block of its own queries lies. -/
theorem off4_eq : ∀ d : Dev nD, ∀ r : Fin 2, k0_off4 d (BitVec.ofNat 32 (128 * r.val)) = ![128 * (2 * d.val + r.val), 0] := by decide +kernel

/-- What lets device `c` wait once on its semaphore `k`. -/
def rcv (c : Dev nD) (k : Fin 44) : sProp 𝕄 := iprop(cred (tallyAt (dCell c k) () (amt k.val)) ∗ atPos ER (dCell c k) 0 ∅ 0)
/-- What lets device `c` send once to device `n`, paying `kS` of its own and `kR` of `n`'s. -/
def snd (c : Dev nD) (kS : Fin 44) (n : Dev nD) (kR : Fin 44) : sProp 𝕄 :=
  iprop(dutyTok ER (dCell c kS) 0 false ∗ dutyTok ER (dCell n kR) 0 false ∗ atPos ER (dCell c kS) 0 ∅ 0)
/-- Semaphore `k` of device `c` is done with. -/
def fin (c : Dev nD) (k : Fin 44) : sProp 𝕄 := semVal (dCell c k) 0

abbrev kSem (h : Fin 8) : Fin 44 := ⟨4 + 2 * h.val, by omega⟩
abbrev vSem (h : Fin 8) : Fin 44 := ⟨5 + 2 * h.val, by omega⟩

/-- A head's two copies: not begun, under way, done. -/
def kvStart (c : Dev nD) (h : Fin 8) : sProp 𝕄 :=
  iprop(((∃ f, kP c h.val f) ∗ kInP m c h.val ∗ dutyTok ER (dCell c (kSem h)) 0 false ∗ atPos ER (dCell c (kSem h)) 0 ∅ 0)
    ∗ ((∃ f, vP c h.val f) ∗ vInP m c h.val ∗ dutyTok ER (dCell c (vSem h)) 0 false ∗ atPos ER (dCell c (vSem h)) 0 ∅ 0))
def kvFly (c : Dev nD) (h : Fin 8) : sProp 𝕄 := iprop(rcv c (kSem h) ∗ rcv c (vSem h))
def kvDone (c : Dev nD) (h : Fin 8) : sProp 𝕄 :=
  iprop((fin c (kSem h) ∗ kP c h.val (kB m c) ∗ kInP m c h.val) ∗ (fin c (vSem h) ∗ vP c h.val (vB m c) ∗ vInP m c h.val))

/-- A wait, in these terms. -/
theorem recv_step (c : Dev nD) (k : Fin 44) (hk : 4 ≤ k.val) (l : Debt) (hl : ∀ p ∈ l, lvS (.dma (dsem k)) < lvS p.2.1)
    {sp sp' : Space} {s s' : Shape} {e e' : EltTy} {src : Memref sig .tc sp' s' e'} {κ' : Kind} {dst : Memref sig κ' sp s e}
    (hN : dst.view.dmaCredit = amt k.val)
    {hsrc : src.view.WordExact} {hdst : dst.view.WordExact} {α : Type} {Q : α → sProp 𝕄} {kt : PUnit → Prog (TpuEff nD τ sig (Elt F) Λ₀ .tc) α} :
    iprop(records m K ∗ levAts L lv ∗ rcv c k ∗ owesE c l)
      ⊢ iprop(((owesE c l ∗ fin c k ∗ dmaPay m c k.val)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dsem k) src dst hsrc hdst) kt) Q) := by
  unfold rcv fin
  iintro ⟨#Hrec, #Hlev, ⟨Hc, Hat⟩, HO⟩ Hk
  iapply (wait_step m K c k hk l hl hN) $$ [Hc Hat HO]
  · isplitr; · iexact Hrec
    isplitr; · iexact Hlev
    isplitl [Hc]; · iexact Hc
    isplitl [HO]; · iexact HO
    iexact Hat
  iexact Hk

/-- Both of a head's copies begin. -/
theorem head_issue (c : Dev nD) (h : Fin 8) {off off₂ : Fin 4 → ℕ} (hoff : off = ![0, 0, 8 * c.val + h.val, 0]) (hoff₂ : off₂ = ![0, 0, 8 * c.val + h.val, 0]) {inb inb₂}
    {off' off₂' : Fin 3 → ℕ} (hoff' : off' = ![h.val, 0, 0]) (hoff₂' : off₂' = ![h.val, 0, 0]) {inb' inb₂'}
    (hN : (ksl kM off' inb').view.amount (.dma (dsem (kSem h))) = NK) (hN₂ : (ksl vM off₂' inb₂').view.amount (.dma (dsem (vSem h))) = NK)
    {hsrc : (isl kIn off inb).view.WordExact} {hdst : (ksl kM off' inb').view.WordExact}
    {hsem : DmaTarget.Typed (nD := nD) (p := (c : Thread nD τ).2) .hbm (.dma (dsem (kSem h))) (.here (ksl kM off' inb'))}
    {hsrc₂ : (isl vIn off₂ inb₂).view.WordExact} {hdst₂ : (ksl vM off₂' inb₂').view.WordExact}
    {hsem₂ : DmaTarget.Typed (nD := nD) (p := (c : Thread nD τ).2) .hbm (.dma (dsem (vSem h))) (.here (ksl vM off₂' inb₂'))}
    {α : Type} {Q : α → sProp 𝕄} {kt : PUnit → Prog (TpuEff nD τ sig (Elt F) Λ₀ .tc) α} :
    iprop(records m K ∗ kvStart m c h)
      ⊢ iprop((kvFly c h -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (isl kIn off inb) (.here (ksl kM off' inb')) (.dma (dsem (kSem h))) hsrc hdst hsem) fun _ =>
                .op (.enqueueDma (isl vIn off₂ inb₂) (.here (ksl vM off₂' inb₂')) (.dma (dsem (vSem h))) hsrc₂ hdst₂ hsem₂) kt) Q) := by
  have e1 : amt (kSem h).val = NK := by unfold amt; rw [if_pos (show 4 + 2 * h.val < 20 by omega)]
  have e2 : amt (vSem h).val = NK := by unfold amt; rw [if_pos (show 5 + 2 * h.val < 20 by omega)]
  unfold kvStart kvFly rcv
  rw [e1, e2]
  iintro ⟨#Hrec, ⟨⟨Hd, Hs, Ht, Ha⟩, ⟨Hd', Hs', Ht', Ha'⟩⟩⟩ Hk
  iapply (k_issue m K c h.val h.isLt hoff hoff' (kSem h) rfl hN) $$ [Hd Hs Ht]
  · isplitr; · iexact Hrec
    isplitl [Hd]; · iexact Hd
    isplitl [Hs]; · iexact Hs
    iexact Ht
  iintro Hc
  iapply (v_issue m K c h.val h.isLt hoff₂ hoff₂' (vSem h) rfl hN₂) $$ [Hd' Hs' Ht']
  · isplitr; · iexact Hrec
    isplitl [Hd']; · iexact Hd'
    isplitl [Hs']; · iexact Hs'
    iexact Ht'
  iintro Hc'
  iapply Hk
  isplitl [Hc Ha]
  · isplitl [Hc]; · iexact Hc
    iexact Ha
  · isplitl [Hc']; · iexact Hc'
    iexact Ha'

/-- The copy of a head's keys hands back the slot, filled, and what it read. -/
theorem pay_k (c : Dev nD) (h : Fin 8) : dmaPay m c (kSem h).val = iprop(kP c h.val (kB m c) ∗ kInP m c h.val) := by
  unfold dmaPay kPay
  rw [if_pos (show 4 + 2 * h.val < 20 by omega), if_pos (show (4 + 2 * h.val) % 2 = 0 by omega), show (4 + 2 * h.val - 4) / 2 = h.val by omega]
/-- So does the copy of a head's values. -/
theorem pay_v (c : Dev nD) (h : Fin 8) : dmaPay m c (vSem h).val = iprop(vP c h.val (vB m c) ∗ vInP m c h.val) := by
  unfold dmaPay vPay
  rw [if_pos (show 5 + 2 * h.val < 20 by omega), if_neg (show ¬ (5 + 2 * h.val) % 2 = 0 by omega), show (5 + 2 * h.val - 4) / 2 = h.val by omega]

/-- A head's copies have arrived, and the block's windows of them are read. -/
theorem head_in (c : Dev nD) (h : Fin 8) (R : ℕ) (l : Debt) (hlk : ∀ p ∈ l, lvS (.dma (dsem (kSem h))) < lvS p.2.1) (hlv : ∀ p ∈ l, lvS (.dma (dsem (vSem h))) < lvS p.2.1)
    {s₁ s₂ : Memref sig .tc .hbm S1152x128 .f32} {d₁ d₂ : Memref sig .tc .vmem S1152x128 .f32} (hN₁ : d₁.view.dmaCredit = NK) (hN₂ : d₂.view.dmaCredit = NK)
    {w₁ : s₁.view.WordExact} {w₂ : d₁.view.WordExact} {w₃ : s₂.view.WordExact} {w₄ : d₂.view.WordExact}
    {off : Fin 3 → ℕ} (hoff : off = ![h.val, w0 R, 0]) {inb}
    {hl : (kM.view).LoadsAt (Rect.unit (s := S8x1152x128) off S1x384x128.size inb).toLoadRect} {hl' : (vM.view).LoadsAt (Rect.unit (s := S8x1152x128) off S1x384x128.size inb).toLoadRect}
    {α : Type} {Q : α → sProp 𝕄} {kt : ((Rect.unit (s := S8x1152x128) off S1x384x128.size inb).toLoadRect.shape.Idx → Elt F .f32) → ((Rect.unit (s := S8x1152x128) off S1x384x128.size inb).toLoadRect.shape.Idx → Elt F .f32) → Prog (TpuEff nD τ sig (Elt F) Λ₀ .tc) α} :
    iprop(records m K ∗ levAts L lv ∗ kvFly c h ∗ owesE c l)
      ⊢ iprop(((owesE c l ∗ kvDone m c h)
            -∗ wp frame (wpE (defs₀ (F := F)) 𝒱₀ (c : Thread nD τ) none) Set.univ (kt (win (kB m c) h R) (win (vB m c) h R)) Q)
          -∗ wp frame (wpE (defs₀ (F := F)) 𝒱₀ (c : Thread nD τ) none) Set.univ
              (.op (.waitDma2 (dsem (kSem h)) s₁ d₁ w₁ w₂) fun _ => .op (.waitDma2 (dsem (vSem h)) s₂ d₂ w₃ w₄) fun _ =>
                .op (.load kM (Rect.unit (s := S8x1152x128) off S1x384x128.size inb).toLoadRect hl) fun a =>
                .op (.load vM (Rect.unit (s := S8x1152x128) off S1x384x128.size inb).toLoadRect hl') fun b => kt a b) Q) := by
  have e1 : amt (kSem h).val = NK := by unfold amt; rw [if_pos (show 4 + 2 * h.val < 20 by omega)]
  have e2 : amt (vSem h).val = NK := by unfold amt; rw [if_pos (show 5 + 2 * h.val < 20 by omega)]
  unfold kvFly kvDone
  iintro ⟨#Hrec, #Hlev, ⟨Hk, Hv⟩, HO⟩ Hkt
  iapply (recv_step m K c (kSem h) (by show 4 ≤ 4 + 2 * h.val; omega) l hlk (hN₁.trans e1.symm)) $$ [Hk HO]
  · isplitr; · iexact Hrec
    isplitr; · iexact Hlev
    isplitl [Hk]; · iexact Hk
    iexact HO
  rw [pay_k]
  iintro ⟨HO, Hf, Hkp, Hki⟩
  iapply (recv_step m K c (vSem h) (by show 4 ≤ 5 + 2 * h.val; omega) l hlv (hN₂.trans e2.symm)) $$ [Hv HO]
  · isplitr; · iexact Hrec
    isplitr; · iexact Hlev
    isplitl [Hv]; · iexact Hv
    iexact HO
  rw [pay_v]
  iintro ⟨HO, Hf', Hvp, Hvi⟩
  iapply (ld_k c h R (kB m c) hoff) $$ [Hkp]; · iexact Hkp
  iintro Hkp
  iapply (ld_v c h R (vB m c) hoff) $$ [Hvp]; · iexact Hvp
  iintro Hvp
  iapply Hkt
  isplitl [HO]; · iexact HO
  isplitl [Hf Hkp Hki]
  · isplitl [Hf]; · iexact Hf
    isplitl [Hkp]; · iexact Hkp
    iexact Hki
  · isplitl [Hf']; · iexact Hf'
    isplitl [Hvp]; · iexact Hvp
    iexact Hvi

/-! ## The rows of the sender's own block -/

/-- Its two blocks of 128 rows are one of 256. -/
theorem own_rows (c : Dev nD) (f : Vec F S1024x1024 .bf16) :
    iprop(xgP c (2 * c.val) fullShare f ∗ xgP c (2 * c.val + 1) fullShare f) = (pt xgM c (xrow (2 * c.val) ∪ xrow (2 * c.val + 1)) fullShare f : sProp 𝕄) := by
  unfold xgP pt
  have h : (xgM.view.loc (c : Thread nD τ) ↦[xrow (2 * c.val) ∪ xrow (2 * c.val + 1)]{fullShare} f : sProp 𝕄) ⊣⊢ _ := pointsTo_union (by
    rw [Finset.disjoint_left]; intro i hi hj
    have h1 := (Finset.mem_filter.mp hi).2; have h2 := (Finset.mem_filter.mp hj).2; omega)
  exact BI.Entails.antisymm h.2 h.1

/-- Storing the block of `x` into its rows. -/
theorem st_own (c : Dev nD) (f : Vec F S1024x1024 .bf16) {off : Fin 2 → ℕ} (hoff : off = ![256 * c.val, 0]) {inb}
    {w : (Rect.unit (s := S1024x1024) off S256x1024.size inb).shape.Idx → Elt F .bf16}
    (hw : ∀ (i : Fin 256) (j : Fin 1024), w (ix2 i j) = xA m c (ix3 (0 : Fin 1) i j))
    {hl : (xgM.view).LoadsAt (Rect.unit (s := S1024x1024) off S256x1024.size inb).toLoadRect}
    {hx : (xgM.access (Rect.unit (s := S1024x1024) off S256x1024.size inb)).Stores Finset.univ} {hm}
    {α : Type} {Q : α → sProp 𝕄} {kt : PUnit → Prog (TpuEff nD τ sig (Elt F) Λ₀ .tc) α} :
    iprop(xgP c (2 * c.val) fullShare f ∗ xgP c (2 * c.val + 1) fullShare f)
      ⊢ iprop(((xgP c (2 * c.val) fullShare (xgAll m) ∗ xgP c (2 * c.val + 1) fullShare (xgAll m))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load xgM (Rect.unit (s := S1024x1024) off S256x1024.size inb).toLoadRect hl) fun _ =>
                .op (.store xgM (Rect.unit (s := S1024x1024) off S256x1024.size inb) w Finset.univ hx hm) kt) Q) := by
  subst hoff
  have hset : (Rect.unit (s := S1024x1024) ![256 * c.val, 0] S256x1024.size inb).set = xrow (2 * c.val) ∪ xrow (2 * c.val + 1) := by
    ext i
    rw [Rect.mem_set_unit, Finset.mem_union, xrow, xrow, Finset.mem_filter, Finset.mem_filter]
    have h1 := (i 1).isLt
    change (i 1).val < 1024 at h1
    constructor
    · intro h
      have h0 : 256 * c.val ≤ (i 0).val ∧ (i 0).val < 256 * c.val + 256 := h 0
      by_cases hh : (i 0).val < 256 * c.val + 128
      · left; exact ⟨Finset.mem_univ _, by omega⟩
      · right; exact ⟨Finset.mem_univ _, by omega⟩
    · intro h a
      have h0 : 256 * c.val ≤ (i 0).val ∧ (i 0).val < 256 * c.val + 256 := by
        rcases h with ⟨-, h⟩ | ⟨-, h⟩ <;> omega
      fin_cases a
      · exact h0
      · show 0 ≤ (i 1).val ∧ (i 1).val < 0 + 1024; omega
  rw [own_rows, own_rows]
  iintro H Hk
  iapply (wp_load 𝒱₀ (c : Thread nD τ) none Set.univ (m := xgM) (q := fullShare) (f := f) (S := xrow (2 * c.val) ∪ xrow (2 * c.val + 1))
    (by rw [← hset]; intro i hi; obtain ⟨x, hx, rfl⟩ := Finset.mem_map.mp hi; exact hx)) $$ [H]
  · iexact H
  iintro H
  iapply (wp_store 𝒱₀ (c : Thread nD τ) none Set.univ (m := xgM) (r := Rect.unit (s := S1024x1024) ![256 * c.val, 0] S256x1024.size inb) (f := f) (S := xrow (2 * c.val) ∪ xrow (2 * c.val + 1))
    (by show (View.slice _ _).set ⊆ _; rw [View.set_slice_whole]; exact hset.subset)) $$ [H]
  · iexact H
  iintro H
  iapply Hk
  iapply (Entails.of_eq (pointsTo_congr fun i hi => ?_)) $$ H
  rw [← hset, ← Rect.map_emb_univ] at hi
  obtain ⟨x, -, rfl⟩ := Finset.mem_map.mp hi
  refine (View.write_emb_of_mem (v := xgM.access (Rect.unit (s := S1024x1024) ![256 * c.val, 0] S256x1024.size inb)) _ _ (Finset.mem_univ x)).trans ?_
  obtain ⟨i, j, rfl⟩ : ∃ (i : Fin 256) (j : Fin 1024), x = ix2 i j := ⟨x 0, x 1, by funext a; fin_cases a <;> rfl⟩
  refine (hw i j).trans ?_
  have hi := i.isLt
  have e1 : (256 * c.val + i.val) / 256 = c.val := by omega
  have e2 : (256 * c.val + i.val) % 256 = i.val := by omega
  show _ = xA m ⟨(256 * c.val + 1 * i.val) / 256, _⟩ (ix3 (0 : Fin 1) ⟨(256 * c.val + 1 * i.val) % 256, _⟩ ⟨0 + 1 * j.val, _⟩)
  simp only [e1, e2, Nat.zero_add, Nat.one_mul, Fin.eta]

/-- A held row block in two shares. -/
theorem xg_share (c : Dev nD) (r : ℕ) (f : Vec F S1024x1024 .bf16) :
    (xgP c r fullShare f : sProp 𝕄) = iprop(xgP c r fullShare.left f ∗ xgP c r fullShare.right f) := by
  unfold xgP pt
  have h : (xgM.view.loc (c : Thread nD τ) ↦[xrow r]{fullShare} f : sProp 𝕄) ⊣⊢ _ := pointsTo_share (PosShare.mem_left_op_right fullShare)
  exact BI.Entails.antisymm h.1 h.2

/-! ## The slots of the travelling sums -/

/-- A store into slot `h` of the sums to send rightwards leaves the slot holding what was stored. -/
theorem st_txr (c : Dev nD) (h : Fin 3) (G : Vec F S3x128x1024 .bf16) {off : Fin 3 → ℕ} (hoff : off = ![h.val, 0, 0]) {inb}
    {w : (Rect.unit (s := S3x128x1024) off S1x128x1024.size inb).shape.Idx → Elt F .bf16}
    (hw : w = fun j : S1x128x1024.Idx => G (ix3 h (j 1) (j 2)))
    {hl : (txrM.view).LoadsAt (Rect.unit (s := S3x128x1024) off S1x128x1024.size inb).toLoadRect}
    {hx : (txrM.access (Rect.unit (s := S3x128x1024) off S1x128x1024.size inb)).Stores Finset.univ} {hm}
    {α : Type} {Q : α → sProp 𝕄} {kt : PUnit → Prog (TpuEff nD τ sig (Elt F) Λ₀ .tc) α} :
    iprop(∃ f, txrP c h.val f)
      ⊢ iprop((txrP c h.val G -∗ wp frame (wpE (defs₀ (F := F)) 𝒱₀ (c : Thread nD τ) none) Set.univ (kt ⟨⟩) Q)
          -∗ wp frame (wpE (defs₀ (F := F)) 𝒱₀ (c : Thread nD τ) none) Set.univ
              (.op (.load txrM (Rect.unit (s := S3x128x1024) off S1x128x1024.size inb).toLoadRect hl) fun _ =>
                .op (.store txrM (Rect.unit (s := S3x128x1024) off S1x128x1024.size inb) w Finset.univ hx hm) kt) Q) := by
  unfold txrP
  have hset := slot_set hoff inb
  iintro ⟨%f, H⟩ Hk
  iapply (wp_load 𝒱₀ (c : Thread nD τ) none Set.univ (m := txrM) (q := fullShare) (f := f) (S := slot h.val)
    (by rw [← hset]; intro i hi; obtain ⟨x, hx, rfl⟩ := Finset.mem_map.mp hi; exact hx)) $$ [H]
  · iexact H
  iintro H
  iapply (wp_store 𝒱₀ (c : Thread nD τ) none Set.univ (m := txrM) (r := Rect.unit (s := S3x128x1024) off S1x128x1024.size inb) (f := f) (S := slot h.val)
    (by show (View.slice _ _).set ⊆ _; rw [View.set_slice_whole]; exact hset.subset)) $$ [H]
  · iexact H
  iintro H
  iapply Hk
  iapply (Entails.of_eq (pointsTo_congr fun i hi => ?_)) $$ H
  rw [← hset, ← Rect.map_emb_univ] at hi
  obtain ⟨x, -, rfl⟩ := Finset.mem_map.mp hi
  refine (View.write_emb_of_mem (v := txrM.access (Rect.unit (s := S3x128x1024) off S1x128x1024.size inb)) _ _ (Finset.mem_univ x)).trans ?_
  subst hw hoff
  show G _ = G _
  congr 1
  funext a; apply Fin.ext
  have h0 := (x 0).isLt
  change (x 0).val < 1 at h0
  fin_cases a
  · show h.val = h.val + 1 * (x 0).val; omega
  · show (x 1).val = 0 + 1 * (x 1).val; omega
  · show (x 2).val = 0 + 1 * (x 2).val; omega

/-- A load of slot `h` of the sums received from the left reads what the slot holds. -/
theorem ld_rxr (c : Dev nD) (h : Fin 3) (f : Vec F S3x128x1024 .bf16) {off : Fin 3 → ℕ} (hoff : off = ![h.val, 0, 0]) {inb}
    {hl : (rxrM.view).LoadsAt (Rect.unit (s := S3x128x1024) off S1x128x1024.size inb).toLoadRect}
    {α : Type} {Q : α → sProp 𝕄} {kt : ((Rect.unit (s := S3x128x1024) off S1x128x1024.size inb).toLoadRect.shape.Idx → Elt F .bf16) → Prog (TpuEff nD τ sig (Elt F) Λ₀ .tc) α} :
    rxrP c h.val f ⊢ iprop((rxrP c h.val f -∗ wp frame (wpE (defs₀ (F := F)) 𝒱₀ (c : Thread nD τ) none) Set.univ (kt (fun j : S1x128x1024.Idx => f (ix3 h (j 1) (j 2)))) Q)
      -∗ wp frame (wpE (defs₀ (F := F)) 𝒱₀ (c : Thread nD τ) none) Set.univ (.op (.load rxrM (Rect.unit (s := S3x128x1024) off S1x128x1024.size inb).toLoadRect hl) kt) Q) := by
  unfold rxrP
  have hset := slot_set hoff inb
  have e : (View.readAt (Elt F) rxrM.view (Rect.unit (s := S3x128x1024) off S1x128x1024.size inb).toLoadRect f) = (fun j : S1x128x1024.Idx => f (ix3 h (j 1) (j 2))) := by
    subst hoff
    funext x
    show f _ = f _
    congr 1
    funext a; apply Fin.ext
    have h0 := (x 0).isLt
    change (x 0).val < 1 at h0
    fin_cases a
    · show h.val + 1 * (x 0).val = h.val; omega
    · show 0 + 1 * (x 1).val = (x 1).val; omega
    · show 0 + 1 * (x 2).val = (x 2).val; omega
  rw [← e]
  exact wp_load 𝒱₀ (c : Thread nD τ) none Set.univ (m := rxrM) (q := fullShare) (f := f) (S := slot h.val)
    (by rw [← hset]; intro i hi; obtain ⟨x, hx, rfl⟩ := Finset.mem_map.mp hi; exact hx)

/-- A store into slot `h` of the sums to send leftwards leaves the slot holding what was stored. -/
theorem st_txl (c : Dev nD) (h : Fin 3) (G : Vec F S3x128x1024 .bf16) {off : Fin 3 → ℕ} (hoff : off = ![h.val, 0, 0]) {inb}
    {w : (Rect.unit (s := S3x128x1024) off S1x128x1024.size inb).shape.Idx → Elt F .bf16}
    (hw : w = fun j : S1x128x1024.Idx => G (ix3 h (j 1) (j 2)))
    {hl : (txlM.view).LoadsAt (Rect.unit (s := S3x128x1024) off S1x128x1024.size inb).toLoadRect}
    {hx : (txlM.access (Rect.unit (s := S3x128x1024) off S1x128x1024.size inb)).Stores Finset.univ} {hm}
    {α : Type} {Q : α → sProp 𝕄} {kt : PUnit → Prog (TpuEff nD τ sig (Elt F) Λ₀ .tc) α} :
    iprop(∃ f, txlP c h.val f)
      ⊢ iprop((txlP c h.val G -∗ wp frame (wpE (defs₀ (F := F)) 𝒱₀ (c : Thread nD τ) none) Set.univ (kt ⟨⟩) Q)
          -∗ wp frame (wpE (defs₀ (F := F)) 𝒱₀ (c : Thread nD τ) none) Set.univ
              (.op (.load txlM (Rect.unit (s := S3x128x1024) off S1x128x1024.size inb).toLoadRect hl) fun _ =>
                .op (.store txlM (Rect.unit (s := S3x128x1024) off S1x128x1024.size inb) w Finset.univ hx hm) kt) Q) := by
  unfold txlP
  have hset := slot_set hoff inb
  iintro ⟨%f, H⟩ Hk
  iapply (wp_load 𝒱₀ (c : Thread nD τ) none Set.univ (m := txlM) (q := fullShare) (f := f) (S := slot h.val)
    (by rw [← hset]; intro i hi; obtain ⟨x, hx, rfl⟩ := Finset.mem_map.mp hi; exact hx)) $$ [H]
  · iexact H
  iintro H
  iapply (wp_store 𝒱₀ (c : Thread nD τ) none Set.univ (m := txlM) (r := Rect.unit (s := S3x128x1024) off S1x128x1024.size inb) (f := f) (S := slot h.val)
    (by show (View.slice _ _).set ⊆ _; rw [View.set_slice_whole]; exact hset.subset)) $$ [H]
  · iexact H
  iintro H
  iapply Hk
  iapply (Entails.of_eq (pointsTo_congr fun i hi => ?_)) $$ H
  rw [← hset, ← Rect.map_emb_univ] at hi
  obtain ⟨x, -, rfl⟩ := Finset.mem_map.mp hi
  refine (View.write_emb_of_mem (v := txlM.access (Rect.unit (s := S3x128x1024) off S1x128x1024.size inb)) _ _ (Finset.mem_univ x)).trans ?_
  subst hw hoff
  show G _ = G _
  congr 1
  funext a; apply Fin.ext
  have h0 := (x 0).isLt
  change (x 0).val < 1 at h0
  fin_cases a
  · show h.val = h.val + 1 * (x 0).val; omega
  · show (x 1).val = 0 + 1 * (x 1).val; omega
  · show (x 2).val = 0 + 1 * (x 2).val; omega

/-- A load of slot `h` of the sums received from the right reads what the slot holds. -/
theorem ld_rxl (c : Dev nD) (h : Fin 3) (f : Vec F S3x128x1024 .bf16) {off : Fin 3 → ℕ} (hoff : off = ![h.val, 0, 0]) {inb}
    {hl : (rxlM.view).LoadsAt (Rect.unit (s := S3x128x1024) off S1x128x1024.size inb).toLoadRect}
    {α : Type} {Q : α → sProp 𝕄} {kt : ((Rect.unit (s := S3x128x1024) off S1x128x1024.size inb).toLoadRect.shape.Idx → Elt F .bf16) → Prog (TpuEff nD τ sig (Elt F) Λ₀ .tc) α} :
    rxlP c h.val f ⊢ iprop((rxlP c h.val f -∗ wp frame (wpE (defs₀ (F := F)) 𝒱₀ (c : Thread nD τ) none) Set.univ (kt (fun j : S1x128x1024.Idx => f (ix3 h (j 1) (j 2)))) Q)
      -∗ wp frame (wpE (defs₀ (F := F)) 𝒱₀ (c : Thread nD τ) none) Set.univ (.op (.load rxlM (Rect.unit (s := S3x128x1024) off S1x128x1024.size inb).toLoadRect hl) kt) Q) := by
  unfold rxlP
  have hset := slot_set hoff inb
  have e : (View.readAt (Elt F) rxlM.view (Rect.unit (s := S3x128x1024) off S1x128x1024.size inb).toLoadRect f) = (fun j : S1x128x1024.Idx => f (ix3 h (j 1) (j 2))) := by
    subst hoff
    funext x
    show f _ = f _
    congr 1
    funext a; apply Fin.ext
    have h0 := (x 0).isLt
    change (x 0).val < 1 at h0
    fin_cases a
    · show h.val + 1 * (x 0).val = h.val; omega
    · show 0 + 1 * (x 1).val = (x 1).val; omega
    · show 0 + 1 * (x 2).val = (x 2).val; omega
  rw [← e]
  exact wp_load 𝒱₀ (c : Thread nD τ) none Set.univ (m := rxlM) (q := fullShare) (f := f) (S := slot h.val)
    (by rw [← hset]; intro i hi; obtain ⟨x, hx, rfl⟩ := Finset.mem_map.mp hi; exact hx)

/-- A row of the gathered x goes on to a neighbour; a reading share of it stays. -/
theorem ag_go (c n n' : Dev nD) (hn : n' = n) (r : ℕ) {off : Fin 2 → ℕ} (hoff : off = ![128 * r, 0]) {inb} (kS kR : Fin 44) (hkS : 20 ≤ kS.val) (hkR : 20 ≤ kR.val)
    (l : Debt) (hN : (xsl off inb).view.amount (.dma (dsem kR)) = NX)
    (hp₁ : dmaPay m c kS.val = xgP c r fullShare.left (xgAll m)) (hp₂ : dmaPay m n kR.val = xgP n r fullShare (xgAll m))
    {hsc : (xsl off inb : Memref sig (Dev.tc n' : Thread nD τ).2.kind .vmem S128x1024 .bf16).view.ref.isScScratch = false}
    {hsrc : (xsl off inb).view.WordExact} {hdst : (xsl off inb).view.WordExact}
    {hsem : DmaTarget.Typed .vmem (.dma (dsem kR)) (.remote (Dev.tc n' : Thread nD τ) (xsl off inb) (.dma (dsem kS)) hsc)}
    {α : Type} {Q : α → sProp 𝕄} {kt : PUnit → Prog (TpuEff nD τ sig (Elt F) Λ₀ .tc) α} :
    iprop(records m K ∗ xgP c r fullShare (xgAll m) ∗ (∃ f, xgP n r fullShare f)
        ∗ owesE c ((n, .dma (dsem kR), NX) :: l) ∗ snd c kS n kR)
      ⊢ iprop(((xgP c r fullShare.right (xgAll m) ∗ rcv c kS ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (xsl off inb) (.remote (Dev.tc n' : Thread nD τ) (xsl off inb) (.dma (dsem kS)) hsc) (.dma (dsem kR)) hsrc hdst hsem) kt) Q) := by
  unfold snd rcv
  rw [xg_share c r (xgAll m)]
  iintro ⟨#Hrec, ⟨Hx, Hy⟩, Hr, HO, Hd, Hd', Ha⟩ Hk
  iapply (ag_send m K c n n' hn r hoff kS kR hkS hkR l hN hp₁ hp₂) $$ [Hx Hr HO Hd Hd']
  · isplitr; · iexact Hrec
    isplitl [Hx]; · iexact Hx
    isplitl [Hr]; · iexact Hr
    isplitl [HO]; · iexact HO
    isplitl [Hd]; · iexact Hd
    iexact Hd'
  iintro ⟨Hc, HO⟩
  iapply Hk
  isplitl [Hy]; · iexact Hy
  isplitr [HO]
  · isplitl [Hc]; · iexact Hc
    iexact Ha
  iexact HO

/-- A partial goes to the right: the dead load, the store into the outgoing slot, the transfer. -/
theorem rsr_go (c n n' : Dev nD) (hn : n' = n) (h : Fin 3) {off off' : Fin 3 → ℕ} (hoff : off = ![h.val, 0, 0]) (hoff' : off' = ![h.val, 0, 0]) {inb inb'}
    (kS kR : Fin 44) (hkS : 20 ≤ kS.val) (hkR : 20 ≤ kR.val)
    (l : Debt) (hN : (ssl rxrM off' inb').view.amount (.dma (dsem kR)) = NX)
    (hp₁ : dmaPay m c kS.val = txrP c h.val (rsR m c)) (hp₂ : dmaPay m n kR.val = rxrP n h.val (rsR m c))
    {w : (Rect.unit (s := S3x128x1024) off S1x128x1024.size inb).shape.Idx → Elt F .bf16}
    (hw : w = fun j : S1x128x1024.Idx => rsR m c (ix3 h (j 1) (j 2)))
    {hl : (txrM.view).LoadsAt (Rect.unit (s := S3x128x1024) off S1x128x1024.size inb).toLoadRect}
    {hx : (txrM.access (Rect.unit (s := S3x128x1024) off S1x128x1024.size inb)).Stores Finset.univ} {hm}
    {hsc : (ssl rxrM off' inb' : Memref sig (Dev.tc n' : Thread nD τ).2.kind .vmem S128x1024 .bf16).view.ref.isScScratch = false}
    {hsrc : (ssl txrM off' inb').view.WordExact} {hdst : (ssl rxrM off' inb').view.WordExact}
    {hsem : DmaTarget.Typed .vmem (.dma (dsem kR)) (.remote (Dev.tc n' : Thread nD τ) (ssl rxrM off' inb') (.dma (dsem kS)) hsc)}
    {α : Type} {Q : α → sProp 𝕄} {kt : PUnit → Prog (TpuEff nD τ sig (Elt F) Λ₀ .tc) α} :
    iprop(records m K ∗ (∃ f, txrP c h.val f) ∗ (∃ f, rxrP n h.val f)
        ∗ owesE c ((n, .dma (dsem kR), NX) :: l) ∗ snd c kS n kR)
      ⊢ iprop(((rcv c kS ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load txrM (Rect.unit (s := S3x128x1024) off S1x128x1024.size inb).toLoadRect hl) fun _ =>
                .op (.store txrM (Rect.unit (s := S3x128x1024) off S1x128x1024.size inb) w Finset.univ hx hm) fun _ =>
                .op (.enqueueDma (ssl txrM off' inb') (.remote (Dev.tc n' : Thread nD τ) (ssl rxrM off' inb') (.dma (dsem kS)) hsc) (.dma (dsem kR)) hsrc hdst hsem) kt) Q) := by
  unfold snd rcv
  iintro ⟨#Hrec, Ht, Hr, HO, Hd, Hd', Ha⟩ Hk
  iapply (st_txr c h (rsR m c) hoff hw) $$ [Ht]; · iexact Ht
  iintro Ht
  iapply (rsr_send m K c n n' hn h.val hoff' kS kR hkS hkR l hN hp₁ hp₂) $$ [Ht Hr HO Hd Hd']
  · isplitr; · iexact Hrec
    isplitl [Ht]; · iexact Ht
    isplitl [Hr]; · iexact Hr
    isplitl [HO]; · iexact HO
    isplitl [Hd]; · iexact Hd
    iexact Hd'
  iintro ⟨Hc, HO⟩
  iapply Hk
  isplitr [HO]
  · isplitl [Hc]; · iexact Hc
    iexact Ha
  iexact HO

/-- A partial goes to the left: the dead load, the store into the outgoing slot, the transfer. -/
theorem rsl_go (c n n' : Dev nD) (hn : n' = n) (h : Fin 3) {off off' : Fin 3 → ℕ} (hoff : off = ![h.val, 0, 0]) (hoff' : off' = ![h.val, 0, 0]) {inb inb'}
    (kS kR : Fin 44) (hkS : 20 ≤ kS.val) (hkR : 20 ≤ kR.val)
    (l : Debt) (hN : (ssl rxlM off' inb').view.amount (.dma (dsem kR)) = NX)
    (hp₁ : dmaPay m c kS.val = txlP c h.val (rsL m c)) (hp₂ : dmaPay m n kR.val = rxlP n h.val (rsL m c))
    {w : (Rect.unit (s := S3x128x1024) off S1x128x1024.size inb).shape.Idx → Elt F .bf16}
    (hw : w = fun j : S1x128x1024.Idx => rsL m c (ix3 h (j 1) (j 2)))
    {hl : (txlM.view).LoadsAt (Rect.unit (s := S3x128x1024) off S1x128x1024.size inb).toLoadRect}
    {hx : (txlM.access (Rect.unit (s := S3x128x1024) off S1x128x1024.size inb)).Stores Finset.univ} {hm}
    {hsc : (ssl rxlM off' inb' : Memref sig (Dev.tc n' : Thread nD τ).2.kind .vmem S128x1024 .bf16).view.ref.isScScratch = false}
    {hsrc : (ssl txlM off' inb').view.WordExact} {hdst : (ssl rxlM off' inb').view.WordExact}
    {hsem : DmaTarget.Typed .vmem (.dma (dsem kR)) (.remote (Dev.tc n' : Thread nD τ) (ssl rxlM off' inb') (.dma (dsem kS)) hsc)}
    {α : Type} {Q : α → sProp 𝕄} {kt : PUnit → Prog (TpuEff nD τ sig (Elt F) Λ₀ .tc) α} :
    iprop(records m K ∗ (∃ f, txlP c h.val f) ∗ (∃ f, rxlP n h.val f)
        ∗ owesE c ((n, .dma (dsem kR), NX) :: l) ∗ snd c kS n kR)
      ⊢ iprop(((rcv c kS ∗ owesE c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load txlM (Rect.unit (s := S3x128x1024) off S1x128x1024.size inb).toLoadRect hl) fun _ =>
                .op (.store txlM (Rect.unit (s := S3x128x1024) off S1x128x1024.size inb) w Finset.univ hx hm) fun _ =>
                .op (.enqueueDma (ssl txlM off' inb') (.remote (Dev.tc n' : Thread nD τ) (ssl rxlM off' inb') (.dma (dsem kS)) hsc) (.dma (dsem kR)) hsrc hdst hsem) kt) Q) := by
  unfold snd rcv
  iintro ⟨#Hrec, Ht, Hr, HO, Hd, Hd', Ha⟩ Hk
  iapply (st_txl c h (rsL m c) hoff hw) $$ [Ht]; · iexact Ht
  iintro Ht
  iapply (rsl_send m K c n n' hn h.val hoff' kS kR hkS hkR l hN hp₁ hp₂) $$ [Ht Hr HO Hd Hd']
  · isplitr; · iexact Hrec
    isplitl [Ht]; · iexact Ht
    isplitl [Hr]; · iexact Hr
    isplitl [HO]; · iexact HO
    isplitl [Hd]; · iexact Hd
    iexact Hd'
  iintro ⟨Hc, HO⟩
  iapply Hk
  isplitr [HO]
  · isplitl [Hc]; · iexact Hc
    iexact Ha
  iexact HO

/-! ## The debts, in the order they are paid -/

def dl (c : Dev nD) : Debt :=
  [(sh c 3, .reg barS, 1), (sh c 1, .reg barS, 1), (sh c 1, .dma (dsem 23), NX), (sh c 3, .dma (dsem 29), NX),
   (sh c 1, .dma (dsem 24), NX), (sh c 3, .dma (dsem 30), NX), (sh c 1, .dma (dsem 35), NX), (sh c 3, .dma (dsem 41), NX),
   (sh c 1, .dma (dsem 25), NX), (sh c 3, .dma (dsem 31), NX), (sh c 3, .dma (dsem 42), NX), (sh c 1, .dma (dsem 36), NX),
   (sh c 1, .dma (dsem 37), NX), (sh c 3, .dma (dsem 43), NX)]
/-- A wait below every level that is still to be paid stands before all the payments that remain. -/
theorem dl_lv (c : Dev nD) (n x : ℕ) (h : ∀ y ∈ ([1, 1, 2, 2, 3, 3, 5, 5, 4, 4, 6, 6, 7, 7] : List ℕ).drop n, x < y) :
    ∀ p ∈ (dl c).drop n, x < lvS p.2.1 := by
  intro p hp
  apply h
  have e : (dl c).map (fun p => lvS p.2.1) = [1, 1, 2, 2, 3, 3, 5, 5, 4, 4, 6, 6, 7, 7] := rfl
  rw [← e, ← List.map_drop]
  exact List.mem_map_of_mem hp

/-- Eight of a kind, one a head. -/
abbrev all8 (P : Fin 8 → sProp 𝕄) : sProp 𝕄 := iprop(P 0 ∗ P 1 ∗ P 2 ∗ P 3 ∗ P 4 ∗ P 5 ∗ P 6 ∗ P 7)

/-- The device's place on the ring as the body computes it, and its neighbours'. -/
abbrev W2 (c : Dev nD) : BitVec 32 := Scalar.remsi (Scalar.divsi (Dev.word c) 1#32) 4#32
abbrev norm4 (v : BitVec 32) : BitVec 32 :=
  Scalar.select (Scalar.andi (Scalar.xori (Scalar.cmpi .slt (Scalar.remsi v (Scalar.select (Scalar.cmpi .eq 4#32 0#32) 1#32 4#32)) 0#32)
      (Scalar.cmpi .slt (Scalar.select (Scalar.cmpi .eq 4#32 0#32) 1#32 4#32) 0#32)) (Scalar.cmpi .ne (Scalar.remsi v (Scalar.select (Scalar.cmpi .eq 4#32 0#32) 1#32 4#32)) 0#32))
    (Scalar.addi (Scalar.remsi v (Scalar.select (Scalar.cmpi .eq 4#32 0#32) 1#32 4#32)) (Scalar.select (Scalar.cmpi .eq 4#32 0#32) 1#32 4#32))
    (Scalar.remsi v (Scalar.select (Scalar.cmpi .eq 4#32 0#32) 1#32 4#32))
abbrev W14 (c : Dev nD) : BitVec 32 := norm4 (Scalar.subi (Scalar.addi (W2 c) 4#32) 1#32)
abbrev W25 (c : Dev nD) : BitVec 32 := norm4 (Scalar.addi (W2 c) 1#32)

end Cert.KernelIdeal.Att

end
-- ==== Proof.Held.lean ====
module

public import proofs.«01_k».proof.Proof.Bundles

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # A whole buffer known on a part of it -/

section Held
variable {s : Shape} {e : EltTy}

/-- The buffer `M` of device `c` is held, and where `D` says so it reads `G`. -/
def held (c : Dev nD) (M : Memref sig .tc .vmem s e) (D : s.Idx → Prop) (G : s.Idx → Elt F e) : sProp 𝕄 :=
  iprop(∃ f : Buf (Elt F) (M.view.loc (c : Thread nD τ)), ⌜∀ y, D y → M.view.read (Elt F) f y = G y⌝ ∗ (M.view.loc (c : Thread nD τ) ↦{fullShare} f))

/-- What is known of a buffer may be forgotten in part, and told with other contents that agree. -/
theorem held_weaken (c : Dev nD) (M : Memref sig .tc .vmem s e) {D D' : s.Idx → Prop} {G G' : s.Idx → Elt F e}
    (h : ∀ y, D' y → D y ∧ G y = G' y) : held c M D G ⊢ (held c M D' G' : sProp 𝕄) := by
  unfold held
  iintro ⟨%f, %hf, H⟩
  iexists f
  isplitr
  · ipureintro; exact fun y hy => (hf y (h y hy).1).trans (h y hy).2
  iexact H

/-- A buffer of any contents is one of which nothing is known. -/
theorem held_none (c : Dev nD) (M : Memref sig .tc .vmem s e) (G : s.Idx → Elt F e) :
    iprop(∃ f, (M.view.loc (c : Thread nD τ) ↦{fullShare} f)) ⊢ (held c M (fun _ => False) G : sProp 𝕄) := by
  unfold held
  iintro ⟨%f, H⟩
  iexists f
  isplitr
  · ipureintro; exact fun y hy => hy.elim
  iexact H

/-- A buffer of which something is known is one of some contents. -/
theorem held_drop (c : Dev nD) (M : Memref sig .tc .vmem s e) {D : s.Idx → Prop} {G : s.Idx → Elt F e} :
    held c M D G ⊢ (iprop(∃ f, (M.view.loc (c : Thread nD τ) ↦{fullShare} f)) : sProp 𝕄) := by
  unfold held
  iintro ⟨%f, -, H⟩
  iexists f
  iexact H

/-- A load through a rectangle inside the known part. -/
theorem ld_held (c : Dev nD) (M : Memref sig .tc .vmem s e) {D : s.Idx → Prop} {G : s.Idx → Elt F e} {off size : Fin s.rank → ℕ} {inb}
    {w : (Rect.unit off size inb).shape.Idx → Elt F e}
    (hD : ∀ x, D ((Rect.unit off size inb).emb x) ∧ G ((Rect.unit off size inb).emb x) = w x)
    {hl : M.view.LoadsAt (Rect.unit off size inb).toLoadRect}
    {α : Type} {Q : α → sProp 𝕄} {k : ((Rect.unit off size inb).toLoadRect.shape.Idx → Elt F e) → Prog (TpuEff nD τ sig (Elt F) Λ₀ .tc) α} :
    held c M D G ⊢ iprop((held c M D G -∗ wp frame (wpE (defs₀ (F := F)) 𝒱₀ (c : Thread nD τ) none) Set.univ (k w) Q)
      -∗ wp frame (wpE (defs₀ (F := F)) 𝒱₀ (c : Thread nD τ) none) Set.univ (.op (.load M (Rect.unit off size inb).toLoadRect hl) k) Q) := by
  unfold held
  iintro ⟨%f, %hf, H⟩ Hk
  iapply (wp_load 𝒱₀ (c : Thread nD τ) none Set.univ (m := M) (q := fullShare) (f := f) (S := Finset.univ) (Finset.subset_univ _)) $$ [H]
  · iexact H
  iintro H
  rw [show View.readAt (Elt F) M.view (Rect.unit off size inb).toLoadRect f = w from funext fun x => (hf _ (hD x).1).trans (hD x).2]
  iapply Hk
  iexists f
  isplitr
  · ipureintro; exact hf
  iexact H

/-- A dead load and the store after it. -/
theorem st_held (c : Dev nD) (M : Memref sig .tc .vmem s e) {D D' : s.Idx → Prop} {G : s.Idx → Elt F e} {off size : Fin s.rank → ℕ} {inb}
    {w : (Rect.unit off size inb).shape.Idx → Elt F e}
    (hw : ∀ x, w x = G ((Rect.unit off size inb).emb x))
    (hD : ∀ y, D' y → D y ∨ y ∈ (Rect.unit off size inb).set)
    {hl : M.view.LoadsAt (Rect.unit off size inb).toLoadRect}
    {hx : (M.access (Rect.unit off size inb)).Stores Finset.univ} {hm}
    {α : Type} {Q : α → sProp 𝕄} {kt : PUnit → Prog (TpuEff nD τ sig (Elt F) Λ₀ .tc) α} :
    held c M D G ⊢ iprop((held c M D' G -∗ wp frame (wpE (defs₀ (F := F)) 𝒱₀ (c : Thread nD τ) none) Set.univ (kt ⟨⟩) Q)
      -∗ wp frame (wpE (defs₀ (F := F)) 𝒱₀ (c : Thread nD τ) none) Set.univ
          (.op (.load M (Rect.unit off size inb).toLoadRect hl) fun _ =>
            .op (.store M (Rect.unit off size inb) w Finset.univ hx hm) kt) Q) := by
  unfold held
  iintro ⟨%f, %hf, H⟩ Hk
  iapply (wp_load 𝒱₀ (c : Thread nD τ) none Set.univ (m := M) (q := fullShare) (f := f) (S := Finset.univ) (Finset.subset_univ _)) $$ [H]
  · iexact H
  iintro H
  iapply (wp_store 𝒱₀ (c : Thread nD τ) none Set.univ (m := M) (r := Rect.unit off size inb) (f := f) (S := Finset.univ) (Finset.subset_univ _)) $$ [H]
  · iexact H
  iintro H
  iapply Hk
  iexists (View.write (Elt F) (M.access (Rect.unit off size inb)) f w Finset.univ)
  isplitr
  · ipureintro
    intro y hy
    by_cases hr : y ∈ (Rect.unit off size inb).set
    · rw [← Rect.map_emb_univ] at hr
      obtain ⟨x, -, rfl⟩ := Finset.mem_map.mp hr
      rw [← hw x]
      exact (View.read_write_of_mem (v := M.access (Rect.unit off size inb)) (Val := Elt F) f w (Finset.mem_univ x))
    · refine Eq.trans ?_ (hf y ((hD y hy).resolve_right hr))
      show _root_.cast _ _ = _root_.cast _ _
      congr 1
      refine (View.write_of_not_mem (v := M.access (Rect.unit off size inb)) _ _ _ ?_)
      intro h
      obtain ⟨x, -, hx⟩ := Finset.mem_map.mp h
      apply hr
      rw [← M.view.emb.injective hx, ← Rect.map_emb_univ]
      exact Finset.mem_map_of_mem _ (Finset.mem_univ x)
  iexact H

end Held

end Cert.KernelIdeal.Att

end
-- ==== Proof.Heads.lean ====
module

public import proofs.«01_k».proof.Proof.Held
public import Idealize.ShloMosaic.Lib.Pipeline.Value

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # One head's step: its keys and values, and its block of the context -/

abbrev ctxM : Memref sig .tc .vmem S256x1024 .bf16 := Memref.whole cc0_scratch2
abbrev xqM : Memref sig .tc .vmem S256x1024 .bf16 := Memref.whole cc0_scratch1
abbrev pM : Memref sig .tc .vmem S256x1024 .f32 := Memref.whole cc0_scratch3
abbrev outM : Memref sig .tc .vmem S1x256x1024 .f32 := Memref.whole cc0_stg3_0

/-- The number of a block of the context, in the order the heads write them. -/
def blk (y : S256x1024.Idx) : ℕ := 8 * ((y 0).val / 128) + (y 1).val / 128

/-- The context over the whole buffer (its first rows repeated where a single half block is meant). -/
def ctxG {n : ℕ} (hn : 0 < n) (c : Dev nD) (q : FVec F ⟨2, ![128 * n, 1024]⟩ .bf16) (R : Fin n → ℕ) : Vec F S256x1024 .bf16 := fun i =>
  ctxF m c q R (ix2 ⟨(i 0).val % (128 * n), Nat.mod_lt _ (by omega)⟩ (i 1))

/-- Every index of two axes is given by its coordinates, -/
theorem ix2_eta {a b : ℕ} (x : (⟨2, ![a, b]⟩ : Shape).Idx) : ∃ (i : Fin a) (j : Fin b), x = ix2 i j :=
  ⟨x 0, x 1, by funext a; fin_cases a <;> rfl⟩
/-- and so is every one of three. -/
theorem ix3_eta {a b d : ℕ} (x : (⟨3, ![a, b, d]⟩ : Shape).Idx) : ∃ (i : Fin a) (j : Fin b) (k : Fin d), x = ix3 i j k :=
  ⟨x 0, x 1, x 2, by funext a; fin_cases a <;> rfl⟩

/-- Within the block of half block `jj` and head `hh` the context is that head's value. -/
theorem ctxG_at {n : ℕ} (hn : 0 < n) (c : Dev nD) (q : FVec F ⟨2, ![128 * n, 1024]⟩ .bf16) (R : Fin n → ℕ) (jj : Fin n) (hh : Fin 8)
    {off : Fin 2 → ℕ} (hoff : off = ![128 * jj.val, 128 * hh.val]) (inb) (x : S128x128.Idx) :
    ctxG m hn c q R ((Rect.unit (s := S256x1024) off S128x128.size inb).emb x)
      = headVal (qsl q jj hh) (biasW (BitVec.ofNat 32 (R jj))) (win (kB m c) hh (R jj)) (win (vB m c) hh (R jj)) x := by
  subst hoff
  obtain ⟨i, j, rfl⟩ := ix2_eta x
  have hi := i.isLt
  have hj := j.isLt
  have hjj := jj.isLt
  have e0 : (128 * jj.val + 1 * i.val) % (128 * n) = 128 * jj.val + i.val := by
    rw [Nat.one_mul]
    exact Nat.mod_eq_of_lt (by nlinarith)
  have e1 : 0 + (128 * hh.val + 1 * j.val) = 128 * hh.val + j.val := by omega
  have q0 : (128 * jj.val + i.val) / 128 = jj.val := by omega
  have r0 : (128 * jj.val + i.val) % 128 = i.val := by omega
  have q1 : (128 * hh.val + 1 * j.val) / 128 = hh.val := by omega
  have r1 : (128 * hh.val + 1 * j.val) % 128 = j.val := by omega
  show headVal (qsl q ⟨(128 * jj.val + 1 * i.val) % (128 * n) / 128, _⟩ ⟨(128 * hh.val + 1 * j.val) / 128, _⟩)
    (biasW (BitVec.ofNat 32 (R ⟨(128 * jj.val + 1 * i.val) % (128 * n) / 128, _⟩))) (win (kB m c) ⟨(128 * hh.val + 1 * j.val) / 128, _⟩ (R ⟨(128 * jj.val + 1 * i.val) % (128 * n) / 128, _⟩))
    (win (vB m c) ⟨(128 * hh.val + 1 * j.val) / 128, _⟩ (R ⟨(128 * jj.val + 1 * i.val) % (128 * n) / 128, _⟩))
    (ix2 ⟨(128 * jj.val + 1 * i.val) % (128 * n) % 128, _⟩ ⟨(128 * hh.val + 1 * j.val) % 128, _⟩) = _
  simp only [e0, q0, r0, q1, r1, Fin.eta]

/-- An index labelled with a half block and a head lies in that block's rectangle. -/
theorem blk_at (jj : ℕ) (hh : Fin 8) {off : Fin 2 → ℕ} (hoff : off = ![128 * jj, 128 * hh.val]) (inb) (y : S256x1024.Idx) (h : blk y = 8 * jj + hh.val) :
    y ∈ (Rect.unit (s := S256x1024) off S128x128.size inb).set := by
  subst hoff
  unfold blk at h
  rw [Rect.mem_set_unit]
  have h1 := (y 1).isLt
  change (y 1).val < 1024 at h1
  have := hh.isLt
  intro a
  fin_cases a
  · show 128 * jj ≤ (y 0).val ∧ (y 0).val < 128 * jj + 128; omega
  · show 128 * hh.val ≤ (y 1).val ∧ (y 1).val < 128 * hh.val + 128; omega

/-- The part of the queries that a head takes is the block of its rows and columns. -/
theorem slice_q {n : ℕ} (q : FVec F ⟨2, ![128 * n, 1024]⟩ .bf16) (jj : Fin n) (hh : Fin 8) {off : Fin 2 → ℕ} (hoff : off = ![128 * jj.val, 128 * hh.val])
    (h : (⟨2, ![128 * n, 1024]⟩ : Shape).Slices off S128x128) : extractStridedSlice S128x128 off q h = qsl q jj hh := by
  subst hoff
  funext j
  refine extractStridedSlice_apply _ q h j _ fun a => ?_
  fin_cases a <;> rfl

/-- A head of the device's own half block: its copies land, its keys and values are read, its context block is stored. -/
theorem own_head (c : Dev nD) (h : Fin 8) {n : ℕ} (hn : 0 < n) (jj : Fin n) (q : FVec F ⟨2, ![128 * n, 1024]⟩ .bf16) (R : Fin n → ℕ) (l : Debt)
    (hlk : ∀ p ∈ l, lvS (.dma (dsem (kSem h))) < lvS p.2.1) (hlv : ∀ p ∈ l, lvS (.dma (dsem (vSem h))) < lvS p.2.1)
    {s₁ s₂ : Memref sig .tc .hbm S1152x128 .f32} {d₁ d₂ : Memref sig .tc .vmem S1152x128 .f32} (hN₁ : d₁.view.dmaCredit = NK) (hN₂ : d₂.view.dmaCredit = NK)
    {w₁ : s₁.view.WordExact} {w₂ : d₁.view.WordExact} {w₃ : s₂.view.WordExact} {w₄ : d₂.view.WordExact}
    {off : Fin 3 → ℕ} (hoff : off = ![h.val, w0 (R jj), 0]) {inb} {offc : Fin 2 → ℕ} (hoffc : offc = ![128 * jj.val, 128 * h.val]) {inbc}
    {hl : (kM.view).LoadsAt (Rect.unit (s := S8x1152x128) off S1x384x128.size inb).toLoadRect} {hl' : (vM.view).LoadsAt (Rect.unit (s := S8x1152x128) off S1x384x128.size inb).toLoadRect}
    {hlc : (ctxM.view).LoadsAt (Rect.unit (s := S256x1024) offc S128x128.size inbc).toLoadRect}
    {hx : (ctxM.access (Rect.unit (s := S256x1024) offc S128x128.size inbc)).Stores Finset.univ} {hm}
    {w : Vec F S1x384x128 .f32 → Vec F S1x384x128 .f32 → FVec F S128x128 .bf16}
    (hw : w (win (kB m c) h (R jj)) (win (vB m c) h (R jj))
      = headVal (qsl q jj h) (biasW (BitVec.ofNat 32 (R jj))) (win (kB m c) h (R jj)) (win (vB m c) h (R jj)))
    {α : Type} {Q : α → sProp 𝕄} {kt : PUnit → Prog (TpuEff nD τ sig (Elt F) Λ₀ .tc) α} :
    iprop(records m K ∗ levAts L lv ∗ kvFly c h ∗ owesE c l ∗ held c ctxM (fun y => blk y < 8 * jj.val + h.val) (ctxG m hn c q R))
      ⊢ iprop(((owesE c l ∗ kvDone m c h ∗ held c ctxM (fun y => blk y < 8 * jj.val + (h.val + 1)) (ctxG m hn c q R))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 (dsem (kSem h)) s₁ d₁ w₁ w₂) fun _ => .op (.waitDma2 (dsem (vSem h)) s₂ d₂ w₃ w₄) fun _ =>
                .op (.load kM (Rect.unit (s := S8x1152x128) off S1x384x128.size inb).toLoadRect hl) fun a =>
                .op (.load vM (Rect.unit (s := S8x1152x128) off S1x384x128.size inb).toLoadRect hl') fun b =>
                .op (.load ctxM (Rect.unit (s := S256x1024) offc S128x128.size inbc).toLoadRect hlc) fun _ =>
                .op (.store ctxM (Rect.unit (s := S256x1024) offc S128x128.size inbc) (w a b) Finset.univ hx hm) kt) Q) := by
  iintro ⟨#Hrec, #Hlev, Hf, HO, Hc⟩ Hk
  iapply (head_in m K c h (R jj) l hlk hlv hN₁ hN₂ hoff (kt := fun a b => .op (.load ctxM (Rect.unit (s := S256x1024) offc S128x128.size inbc).toLoadRect hlc) fun _ =>
                .op (.store ctxM (Rect.unit (s := S256x1024) offc S128x128.size inbc) (w a b) Finset.univ hx hm) kt)) $$ [Hf HO]
  · isplitr; · iexact Hrec
    isplitr; · iexact Hlev
    isplitl [Hf]; · iexact Hf
    iexact HO
  iintro ⟨HO, Hd⟩
  iapply (st_held c ctxM (D := fun y => blk y < 8 * jj.val + h.val) (D' := fun y => blk y < 8 * jj.val + (h.val + 1))
    (fun x => by rw [hw]; exact (ctxG_at m hn c q R jj h hoffc inbc x).symm)
    (fun y hy => by
      by_cases e : blk y = 8 * jj.val + h.val
      · exact .inr (blk_at jj.val h hoffc inbc y e)
      · left; show blk y < _; change blk y < _ at hy; omega)) $$ [Hc]
  · iexact Hc
  iintro Hc
  iapply Hk
  isplitl [HO]; · iexact HO
  isplitl [Hd]; · iexact Hd
  iexact Hc

/-- A head of a pair of half blocks: keys and values are read where they lie, its context block is stored. -/
theorem pair_head (c : Dev nD) (h : Fin 8) {n : ℕ} (hn : 0 < n) (jj : Fin n) (q : FVec F ⟨2, ![128 * n, 1024]⟩ .bf16) (R : Fin n → ℕ)
    {off : Fin 3 → ℕ} (hoff : off = ![h.val, w0 (R jj), 0]) {inb} {offc : Fin 2 → ℕ} (hoffc : offc = ![128 * jj.val, 128 * h.val]) {inbc}
    {hl : (kM.view).LoadsAt (Rect.unit (s := S8x1152x128) off S1x384x128.size inb).toLoadRect} {hl' : (vM.view).LoadsAt (Rect.unit (s := S8x1152x128) off S1x384x128.size inb).toLoadRect}
    {hlc : (ctxM.view).LoadsAt (Rect.unit (s := S256x1024) offc S128x128.size inbc).toLoadRect}
    {hx : (ctxM.access (Rect.unit (s := S256x1024) offc S128x128.size inbc)).Stores Finset.univ} {hm}
    {w : Vec F S1x384x128 .f32 → Vec F S1x384x128 .f32 → FVec F S128x128 .bf16}
    (hw : w (win (kB m c) h (R jj)) (win (vB m c) h (R jj))
      = headVal (qsl q jj h) (biasW (BitVec.ofNat 32 (R jj))) (win (kB m c) h (R jj)) (win (vB m c) h (R jj)))
    {α : Type} {Q : α → sProp 𝕄} {kt : PUnit → Prog (TpuEff nD τ sig (Elt F) Λ₀ .tc) α} :
    iprop(kvDone m c h ∗ held c ctxM (fun y => blk y < 8 * jj.val + h.val) (ctxG m hn c q R))
      ⊢ iprop(((kvDone m c h ∗ held c ctxM (fun y => blk y < 8 * jj.val + (h.val + 1)) (ctxG m hn c q R))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load kM (Rect.unit (s := S8x1152x128) off S1x384x128.size inb).toLoadRect hl) fun a =>
                .op (.load vM (Rect.unit (s := S8x1152x128) off S1x384x128.size inb).toLoadRect hl') fun b =>
                .op (.load ctxM (Rect.unit (s := S256x1024) offc S128x128.size inbc).toLoadRect hlc) fun _ =>
                .op (.store ctxM (Rect.unit (s := S256x1024) offc S128x128.size inbc) (w a b) Finset.univ hx hm) kt) Q) := by
  unfold kvDone
  iintro ⟨⟨⟨Hf, Hkp, Hki⟩, ⟨Hf', Hvp, Hvi⟩⟩, Hc⟩ Hk
  iapply (ld_k c h (R jj) (kB m c) hoff) $$ [Hkp]; · iexact Hkp
  iintro Hkp
  iapply (ld_v c h (R jj) (vB m c) hoff) $$ [Hvp]; · iexact Hvp
  iintro Hvp
  iapply (st_held c ctxM (D := fun y => blk y < 8 * jj.val + h.val) (D' := fun y => blk y < 8 * jj.val + (h.val + 1))
    (fun x => by rw [hw]; exact (ctxG_at m hn c q R jj h hoffc inbc x).symm)
    (fun y hy => by
      by_cases e : blk y = 8 * jj.val + h.val
      · exact .inr (blk_at jj.val h hoffc inbc y e)
      · left; show blk y < _; change blk y < _ at hy; omega)) $$ [Hc]
  · iexact Hc
  iintro Hc
  iapply Hk
  isplitr [Hc]
  · isplitl [Hf Hkp Hki]
    · isplitl [Hf]; · iexact Hf
      isplitl [Hkp]; · iexact Hkp
      iexact Hki
    · isplitl [Hf']; · iexact Hf'
      isplitl [Hvp]; · iexact Hvp
      iexact Hvi
  iexact Hc

/-- The query weights is read whole. -/
theorem ld_wq (c : Dev nD) (G : Vec F S1024x1024 .bf16) {inb}
    {hl : (Memref.whole cc0_stg1_0).view.LoadsAt (Rect.unit (s := S1024x1024) ![0, 0] S1024x1024.size inb).toLoadRect}
    {α : Type} {Q : α → sProp 𝕄} {k : ((Rect.unit (s := S1024x1024) ![0, 0] S1024x1024.size inb).toLoadRect.shape.Idx → Elt F .bf16) → Prog (TpuEff nD τ sig (Elt F) Λ₀ .tc) α} :
    ((Memref.whole cc0_stg1_0).view.loc (c : Thread nD τ) ↦{fullShare} G)
      ⊢ iprop((((Memref.whole cc0_stg1_0).view.loc (c : Thread nD τ) ↦{fullShare} G) -∗ wp frame (wpE (defs₀ (F := F)) 𝒱₀ (c : Thread nD τ) none) Set.univ (k G) Q)
      -∗ wp frame (wpE (defs₀ (F := F)) 𝒱₀ (c : Thread nD τ) none) Set.univ (.op (.load (Memref.whole cc0_stg1_0) (Rect.unit (s := S1024x1024) ![0, 0] S1024x1024.size inb).toLoadRect hl) k) Q) := by
  iintro H Hk
  iapply (wp_load 𝒱₀ (c : Thread nD τ) none Set.univ (m := Memref.whole cc0_stg1_0) (q := fullShare) (f := G) (S := Finset.univ) (Finset.subset_univ _)) $$ [H]
  · iexact H
  iintro H
  rw [show View.readAt (Elt F) (Memref.whole cc0_stg1_0).view (Rect.unit (s := S1024x1024) ![0, 0] S1024x1024.size inb).toLoadRect G = G from
    Memref.readAt_unit_zero (Elt F) cc0_stg1_0 (by funext a; fin_cases a <;> rfl) _ G]
  iapply Hk
  iexact H

/-- The output weights is read whole. -/
theorem ld_wo (c : Dev nD) (G : Vec F S1024x1024 .bf16) {inb}
    {hl : (Memref.whole cc0_stg2_0).view.LoadsAt (Rect.unit (s := S1024x1024) ![0, 0] S1024x1024.size inb).toLoadRect}
    {α : Type} {Q : α → sProp 𝕄} {k : ((Rect.unit (s := S1024x1024) ![0, 0] S1024x1024.size inb).toLoadRect.shape.Idx → Elt F .bf16) → Prog (TpuEff nD τ sig (Elt F) Λ₀ .tc) α} :
    ((Memref.whole cc0_stg2_0).view.loc (c : Thread nD τ) ↦{fullShare} G)
      ⊢ iprop((((Memref.whole cc0_stg2_0).view.loc (c : Thread nD τ) ↦{fullShare} G) -∗ wp frame (wpE (defs₀ (F := F)) 𝒱₀ (c : Thread nD τ) none) Set.univ (k G) Q)
      -∗ wp frame (wpE (defs₀ (F := F)) 𝒱₀ (c : Thread nD τ) none) Set.univ (.op (.load (Memref.whole cc0_stg2_0) (Rect.unit (s := S1024x1024) ![0, 0] S1024x1024.size inb).toLoadRect hl) k) Q) := by
  iintro H Hk
  iapply (wp_load 𝒱₀ (c : Thread nD τ) none Set.univ (m := Memref.whole cc0_stg2_0) (q := fullShare) (f := G) (S := Finset.univ) (Finset.subset_univ _)) $$ [H]
  · iexact H
  iintro H
  rw [show View.readAt (Elt F) (Memref.whole cc0_stg2_0).view (Rect.unit (s := S1024x1024) ![0, 0] S1024x1024.size inb).toLoadRect G = G from
    Memref.readAt_unit_zero (Elt F) cc0_stg2_0 (by funext a; fin_cases a <;> rfl) _ G]
  iapply Hk
  iexact H

/-- A head's values, whatever way its query slice and its bias are spelled. -/
theorem headVal_slice {n : ℕ} {q : FVec F ⟨2, ![128 * n, 1024]⟩ .bf16} {jj : Fin n} {hh : Fin 8} {off : Fin 2 → ℕ}
    (hoff : off = ![128 * jj.val, 128 * hh.val]) {h} {b b' : FVec F S128x384 .f32} (hb : b = b') {k v : Vec F S1x384x128 .f32} {w : FVec F S128x128 .bf16}
    (hw : w = headVal (extractStridedSlice S128x128 off q h) b k v) : w = headVal (qsl q jj hh) b' k v := by
  rw [hw, slice_q q jj hh hoff h, hb]

/-- What the results buffer gathers: the device's own two partial products. -/
def pG (c : Dev nD) : Vec F S256x1024 .f32 := fun i =>
  oOwn m c ⟨(i 0).val / 128, Nat.div_lt_of_lt_mul (i 0).isLt⟩ (ix2 ⟨(i 0).val % 128, Nat.mod_lt _ (by decide)⟩ (i 1))

/-! ## What the gathering's and the scattering's cells hand over -/

/-- What a finished send of the gather rightwards hands back: half a share of the rows sent. -/
theorem pay_agrS (c : Dev nD) (h : Fin 3) : dmaPay m c (20 + h.val) = xgP c (2 * (sh c (4 - h.val)).val) fullShare.left (xgAll m) := by fin_cases h <;> rfl
/-- What an arrival of the gather from the left hands over: the rows, filled. -/
theorem pay_agrR (c : Dev nD) (h : Fin 3) : dmaPay m c (23 + h.val) = xgP c (2 * (sh c (3 - h.val)).val) fullShare (xgAll m) := by fin_cases h <;> rfl
/-- What a finished send of the gather leftwards hands back. -/
theorem pay_aglS (c : Dev nD) (h : Fin 3) : dmaPay m c (26 + h.val) = xgP c (2 * (sh c h.val).val + 1) fullShare.left (xgAll m) := by fin_cases h <;> rfl
/-- What an arrival of the gather from the right hands over. -/
theorem pay_aglR (c : Dev nD) (h : Fin 3) : dmaPay m c (29 + h.val) = xgP c (2 * (sh c (1 + h.val)).val + 1) fullShare (xgAll m) := by fin_cases h <;> rfl
/-- What a finished send of a sum rightwards hands back: its slot. -/
theorem pay_rsrS (c : Dev nD) (h : Fin 3) : dmaPay m c (32 + h.val) = txrP c h.val (rsR m c) := by fin_cases h <;> rfl
/-- What an arrival of a sum from the left hands over: the slot, holding the left neighbour's sum. -/
theorem pay_rsrR (c : Dev nD) (h : Fin 3) : dmaPay m c (35 + h.val) = rxrP c h.val (rsR m (sh c 3)) := by fin_cases h <;> rfl
/-- What a finished send of a sum leftwards hands back. -/
theorem pay_rslS (c : Dev nD) (h : Fin 3) : dmaPay m c (38 + h.val) = txlP c h.val (rsL m c) := by fin_cases h <;> rfl
/-- What an arrival of a sum from the right hands over: the slot, holding the right neighbour's sum. -/
theorem pay_rslR (c : Dev nD) (h : Fin 3) : dmaPay m c (41 + h.val) = rxlP c h.val (rsL m (sh c 1)) := by fin_cases h <;> rfl

/-- The same arrivals as their senders see them: of the gather at the right neighbour, -/
theorem pay_agrR' (c : Dev nD) (h : Fin 3) : dmaPay m (sh c 1) (23 + h.val) = xgP (sh c 1) (2 * (sh c (4 - h.val)).val) fullShare (xgAll m) := by
  rw [pay_agrR, sh_sh, show 1 + (3 - h.val) = 4 - h.val by have := h.isLt; omega]
/-- of the gather at the left neighbour, -/
theorem pay_aglR' (c : Dev nD) (h : Fin 3) : dmaPay m (sh c 3) (29 + h.val) = xgP (sh c 3) (2 * (sh c h.val).val + 1) fullShare (xgAll m) := by
  rw [pay_aglR, sh_sh, show sh c (3 + (1 + h.val)) = sh c h.val from Fin.ext (by simp only [sh_val]; omega)]
/-- of a sum at the right neighbour, -/
theorem pay_rsrR' (c : Dev nD) (h : Fin 3) : dmaPay m (sh c 1) (35 + h.val) = rxrP (sh c 1) h.val (rsR m c) := by
  rw [pay_rsrR, sh_sh, show sh c (1 + 3) = c from sh_four c]
/-- and of a sum at the left neighbour. -/
theorem pay_rslR' (c : Dev nD) (h : Fin 3) : dmaPay m (sh c 3) (41 + h.val) = rxlP (sh c 3) h.val (rsL m c) := by
  rw [pay_rslR, sh_sh, show sh c (3 + 1) = c from sh_four c]

/-! ## Values -/

/-- The device's block of `x` without its leading axis. -/
theorem pay1_at (v : Vec F S1x256x1024 .bf16) (i : Fin 256) (j : Fin 1024) : k0_pay1 v (ix2 i j) = v (ix3 0 i j) := by
  unfold k0_pay1
  rw [shapeCast_self]
  exact (shapeCast_dropUnit_apply _ _ _ _).trans (congrArg v (by funext a; fin_cases a <;> rfl))

/-- A half block of the gathered rows is that of its owner's `x`. -/
theorem rows_xg (d : Dev nD) (j : Fin 2) : rows (xgAll m) (2 * d.val + j.val) = xOwn m d j := by
  funext x
  obtain ⟨a, b, rfl⟩ := ix2_eta x
  have ha := a.isLt
  have hj := j.isLt
  have hd : d.val < 4 := d.isLt
  have e1 : (128 * (2 * d.val + j.val) + a.val) % 1024 / 256 = d.val := by omega
  have e2 : (128 * (2 * d.val + j.val) + a.val) % 1024 % 256 = 128 * j.val + a.val := by omega
  show xA m ⟨(128 * (2 * d.val + j.val) + a.val) % 1024 / 256, _⟩ (ix3 0 ⟨(128 * (2 * d.val + j.val) + a.val) % 1024 % 256, _⟩ b)
    = xA m d (ix3 0 ⟨128 * j.val + a.val, _⟩ b)
  simp only [e1, e2, Fin.eta]

/-- The mask that the kernel builds for its first own half block is the one of its first row. -/
theorem bias_own (c : Dev nD) : (k0_pay3 (W2 c) : FVec F S128x384 .f32) = biasW (BitVec.ofNat 32 (rowOwn c 0)) := by
  have e : ∀ c : Dev nD, Scalar.addi (Scalar.muli (W2 c) 256#32) 0#32 = BitVec.ofNat 32 (rowOwn c 0) := by decide +kernel
  rw [← e c]
  rfl

end Cert.KernelIdeal.Att

end
-- ==== Proof.Seg1.lean ====
module

public import proofs.«01_k».proof.Proof.Heads

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # First stretch: the copies begin, the neighbours meet, the own rows set out -/

/-- What the stretch takes. -/
def pre1 (c : Dev nD) : sProp 𝕄 :=
  iprop(records m K ∗ levAts L lv ∗ all8 (kvStart m c)
    ∗ (atPos ER (barCell c) 0 ∅ 0 ∗ cred (tallyAt (barCell c) () 2) ∗ dutyTok ER (barCell (sh c 3)) 0 true ∗ dutyTok ER (barCell (sh c 1)) 0 false
        ∗ fromR (sh c 3) ∗ fromL (sh c 1))
    ∗ (∃ f, xgP c (2 * c.val) fullShare f ∗ xgP c (2 * c.val + 1) fullShare f)
    ∗ ((Memref.whole cc0_stg0_0).view.loc (c : Thread nD τ) ↦{fullShare} xA m c)
    ∗ ((Memref.whole cc0_stg1_0).view.loc (c : Thread nD τ) ↦{fullShare} wqA m c)
    ∗ snd c 20 (sh c 1) 23 ∗ snd c 26 (sh c 3) 29 ∗ owesE c ((dl c).drop 0))
/-- What it leaves. -/
def post1 (c : Dev nD) : sProp 𝕄 :=
  iprop(all8 (kvFly c) ∗ semVal (barCell c) 0
    ∗ ((∃ f, xgP (sh c 1) (2 * (sh c 3).val) fullShare f) ∗ (∃ f, xgP (sh c 1) (2 * (sh c 2).val) fullShare f)
        ∗ (∃ f, rxrP (sh c 1) 0 f) ∗ (∃ f, rxrP (sh c 1) 1 f) ∗ (∃ f, rxrP (sh c 1) 2 f))
    ∗ ((∃ f, xgP (sh c 3) (2 * (sh c 1).val + 1) fullShare f) ∗ (∃ f, xgP (sh c 3) (2 * (sh c 2).val + 1) fullShare f)
        ∗ (∃ f, rxlP (sh c 3) 0 f) ∗ (∃ f, rxlP (sh c 3) 1 f) ∗ (∃ f, rxlP (sh c 3) 2 f))
    ∗ xgP c (2 * c.val) fullShare.right (xgAll m) ∗ xgP c (2 * c.val + 1) fullShare.right (xgAll m)
    ∗ ((Memref.whole cc0_stg0_0).view.loc (c : Thread nD τ) ↦{fullShare} xA m c)
    ∗ ((Memref.whole cc0_stg1_0).view.loc (c : Thread nD τ) ↦{fullShare} wqA m c)
    ∗ rcv c 20 ∗ rcv c 26 ∗ owesE c ((dl c).drop 4))

/-- The first segment: the copies of the keys and values, the barrier, and the first sends of the gather. -/
theorem seg1 (c : Dev nD) {α : Type} {Q : α → sProp 𝕄}
    {kt : Dev nD → BitVec 32 → BitVec 32 → BitVec 32 → BitVec 32 → BitVec 32 → FVec F S128x1024 .bf16 → BitVec 32 → FVec F S128x384 .f32 → Prog (TpuEff nD τ sig (Elt F) Λ₀ .tc) α} :
    pre1 m K c ⊢ iprop((∀ (w₁ : BitVec 32) (w₂ : BitVec 32) (w₃ : BitVec 32), post1 m c -∗ wp frame (wpE (defs₀ (F := F)) 𝒱₀ (c : Thread nD τ) none) Set.univ
          (kt c (W2 c) (W14 c) (W25 c) w₁ w₂ (qOwn m c 0) w₃ (k0_pay3 (W2 c))) Q)
      -∗ wp frame (wpE (defs₀ (F := F)) 𝒱₀ (c : Thread nD τ) none) Set.univ (do
          let ⟨d0, v2, v14, v25, v26⟩ ← on (k0_part1 (F := F))
          on k0_part2 d0 v26
          on k0_part3 d0 v26
          on k0_part4 d0 v26
          on k0_part5 d0 v26
          let c1 ← on k0_part6 d0 v2 v14 v25
          let ⟨v184, v188, v201⟩ ← on k0_part7 d0 v2 v14 c1
          kt d0 v2 v14 v25 v26 c1 v184 v188 v201) Q) := by
  simp only [on, k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    semSignalWord, semWaitWord, Prog.lift, Prog.bind_op, Prog.bind_ret, Prog.pure_eq_ret, wp_deviceId]
  unfold pre1
  iintro ⟨#Hrec, #Hlev, ⟨Hk0, Hk1, Hk2, Hk3, Hk4, Hk5, Hk6, Hk7⟩, ⟨Hba, Hbc, Htl, Htr, HfR, HfL⟩, ⟨%fx, Hx0, Hx1⟩, Hs0, Hs1, Hsr, Hsl, HO⟩ Hk
  iapply (head_issue m K c 0 (off1_eq c 0) (off1_eq c 0) rfl rfl rfl rfl) $$ [Hk0]
  · isplitr; · iexact Hrec
    iexact Hk0
  iintro Hk0
  iapply (head_issue m K c 1 (off1_eq c 1) (off1_eq c 1) rfl rfl rfl rfl) $$ [Hk1]
  · isplitr; · iexact Hrec
    iexact Hk1
  iintro Hk1
  iapply (head_issue m K c 2 (off1_eq c 2) (off1_eq c 2) rfl rfl rfl rfl) $$ [Hk2]
  · isplitr; · iexact Hrec
    iexact Hk2
  iintro Hk2
  iapply (head_issue m K c 3 (off1_eq c 3) (off1_eq c 3) rfl rfl rfl rfl) $$ [Hk3]
  · isplitr; · iexact Hrec
    iexact Hk3
  iintro Hk3
  iapply (head_issue m K c 4 (off1_eq c 4) (off1_eq c 4) rfl rfl rfl rfl) $$ [Hk4]
  · isplitr; · iexact Hrec
    iexact Hk4
  iintro Hk4
  iapply (head_issue m K c 5 (off1_eq c 5) (off1_eq c 5) rfl rfl rfl rfl) $$ [Hk5]
  · isplitr; · iexact Hrec
    iexact Hk5
  iintro Hk5
  iapply (head_issue m K c 6 (off1_eq c 6) (off1_eq c 6) rfl rfl rfl rfl) $$ [Hk6]
  · isplitr; · iexact Hrec
    iexact Hk6
  iintro Hk6
  iapply (head_issue m K c 7 (off1_eq c 7) (off1_eq c 7) rfl rfl rfl rfl) $$ [Hk7]
  · isplitr; · iexact Hrec
    iexact Hk7
  iintro Hk7
  iapply (signal_step m K c (sh c 3) _ (dev1_eq c) true ((dl c).drop 1)) $$ [HO Htl HfR]
  · isplitr; · iexact Hrec
    isplitl [HO]; · iexact HO
    isplitl [Htl]; · iexact Htl
    rw [if_pos rfl]; iexact HfR
  iintro HO
  iapply (signal_step m K c (sh c 1) _ (dev2_eq c) false ((dl c).drop 2)) $$ [HO Htr HfL]
  · isplitr; · iexact Hrec
    isplitl [HO]; · iexact HO
    isplitl [Htr]; · iexact Htr
    rw [if_neg Bool.false_ne_true]; iexact HfL
  iintro HO
  iapply (wait_bar m K c ((dl c).drop 2) (dl_lv c 2 _ (by decide))) $$ [Hbc HO Hba]
  · isplitr; · iexact Hrec
    isplitr; · iexact Hlev
    isplitl [Hbc]; · iexact Hbc
    isplitl [HO]; · iexact HO
    iexact Hba
  unfold fromL fromR
  rw [sh_four, sh_zero]
  iintro ⟨HO, Hbz, ⟨Hl0, Hl⟩, ⟨Hr0, Hr⟩⟩
  sl_exec
  iapply (st_own m c fx (off2_eq c) (fun i j => (pay1_at _ i j).trans (congrFun (Memref.readAt_unit_zero (Elt F) cc0_stg0_0 (by funext a; fin_cases a <;> rfl) _ (xA m c)) _))) $$ [Hx0 Hx1]
  · isplitl [Hx0]; · iexact Hx0
    iexact Hx1
  iintro ⟨Hx0, Hx1⟩
  iapply (ag_go m K c (sh c 1) _ (dev3_eq c) (2 * c.val) (off3_eq c 0) 20 23 (by decide) (by decide) ((dl c).drop 3) rfl
    ((pay_agrS m c 0).trans (by rw [show sh c (4 - (0 : Fin 3).val) = c from sh_four c])) ((pay_agrR' m c 0).trans (by rw [show sh c (4 - (0 : Fin 3).val) = c from sh_four c]))) $$ [Hx0 Hr0 HO Hsr]
  · isplitr; · iexact Hrec
    isplitl [Hx0]; · iexact Hx0
    isplitl [Hr0]; · iexact Hr0
    isplitl [HO]; · iexact HO
    iexact Hsr
  iintro ⟨Hx0, Hsr, HO⟩
  iapply (ag_go m K c (sh c 3) _ (dev4_eq c) (2 * c.val + 1) (off3_eq c 1) 26 29 (by decide) (by decide) ((dl c).drop 4) rfl
    ((pay_aglS m c 0).trans (by rw [show sh c (0 : Fin 3).val = c from sh_zero c])) ((pay_aglR' m c 0).trans (by rw [show sh c (0 : Fin 3).val = c from sh_zero c]))) $$ [Hx1 Hl0 HO Hsl]
  · isplitr; · iexact Hrec
    isplitl [Hx1]; · iexact Hx1
    isplitl [Hl0]; · iexact Hl0
    isplitl [HO]; · iexact HO
    iexact Hsl
  iintro ⟨Hx1, Hsl, HO⟩
  iapply (ld_x c (2 * c.val) fullShare.right (xgAll m) (off4_eq c 0)) $$ [Hx0]; · iexact Hx0
  iintro Hx0
  iapply (ld_wq c (wqA m c)) $$ [Hs1]; · iexact Hs1
  iintro Hs1
  rw [show rows (xgAll m) (2 * c.val) = xOwn m c 0 from rows_xg m c 0]
  rw [show k0_pay2 (xOwn m c 0) (wqA m c) = qOwn m c 0 from rfl]
  unfold post1
  iapply Hk
  isplitl [Hk0 Hk1 Hk2 Hk3 Hk4 Hk5 Hk6 Hk7]
  · isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    iexact Hk7
  isplitl [Hbz]; · iexact Hbz
  isplitl [Hr]; · iexact Hr
  isplitl [Hl]; · iexact Hl
  isplitl [Hx0]; · iexact Hx0
  isplitl [Hx1]; · iexact Hx1
  isplitl [Hs0]; · iexact Hs0
  isplitl [Hs1]; · iexact Hs1
  isplitl [Hsr]; · iexact Hsr
  isplitl [Hsl]; · iexact Hsl
  iexact HO

end Cert.KernelIdeal.Att

end
-- ==== Proof.Tails.lean ====
module

public import proofs.«01_k».proof.Proof.Heads

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Before and after the heads: rows gathered, products kept -/

/-- Row of a point of a slab of 128 rows. -/
theorem slab_emb (j : ℕ) {off : Fin 2 → ℕ} (hoff : off = ![128 * j, 0]) (inb) (i : Fin 128) (k : Fin 1024) :
    ((Rect.unit (s := S256x1024) off S128x1024.size inb).emb (ix2 i k) 0).val = 128 * j + i.val
      ∧ (Rect.unit (s := S256x1024) off S128x1024.size inb).emb (ix2 i k) 1 = k := by
  subst hoff
  refine ⟨?_, Fin.ext ?_⟩
  · show 128 * j + 1 * i.val = _; omega
  · show 0 + 1 * k.val = _; omega

/-- An index lies in its half block's rectangle. -/
theorem slab_mem (j : ℕ) {off : Fin 2 → ℕ} (hoff : off = ![128 * j, 0]) (inb) (y : S256x1024.Idx) (h : (y 0).val / 128 = j) :
    y ∈ (Rect.unit (s := S256x1024) off S128x1024.size inb).set := by
  subst hoff
  rw [Rect.mem_set_unit]
  have h1 := (y 1).isLt
  change (y 1).val < 1024 at h1
  intro a
  fin_cases a
  · show 128 * j ≤ (y 0).val ∧ (y 0).val < 128 * j + 128; omega
  · show 0 ≤ (y 1).val ∧ (y 1).val < 0 + 1024; omega

/-- The whole rectangle moves no index. -/
theorem whole_emb (inb) (x : S256x1024.Idx) : (Rect.unit (s := S256x1024) ![0, 0] S256x1024.size inb).emb x = x := by
  funext a; fin_cases a
  · exact Fin.ext (show 0 + 1 * (x 0).val = (x 0).val by omega)
  · exact Fin.ext (show 0 + 1 * (x 1).val = (x 1).val by omega)

/-- Both slabs written, the whole buffer is known. -/
theorem both_slabs (inb) (w : Vec F S256x1024 .bf16) (x : S256x1024.Idx) :
    (fun y : S256x1024.Idx => (y 0).val / 128 = 0 ∨ (y 0).val / 128 = 1) ((Rect.unit (s := S256x1024) ![0, 0] S256x1024.size inb).emb x)
      ∧ w ((Rect.unit (s := S256x1024) ![0, 0] S256x1024.size inb).emb x) = w x := by
  rw [whole_emb inb x]
  have h0 := (x 0).isLt
  change (x 0).val < 256 at h0
  exact ⟨by show (x 0).val / 128 = 0 ∨ (x 0).val / 128 = 1; omega, rfl⟩

/-- Within a half block the device's own shares are those of that half block. -/
theorem pG_at (c : Dev nD) (j : Fin 2) {off : Fin 2 → ℕ} (hoff : off = ![128 * j.val, 0]) (inb) (x : S128x1024.Idx) :
    pG m c ((Rect.unit (s := S256x1024) off S128x1024.size inb).emb x) = oOwn m c j x := by
  obtain ⟨i, k, rfl⟩ := ix2_eta x
  obtain ⟨e0, e1⟩ := slab_emb j.val hoff inb i k
  have hi := i.isLt
  generalize (Rect.unit (s := S256x1024) off S128x1024.size inb).emb (ix2 i k) = z at e0 e1
  have a0 : (z 0).val / 128 = j.val := by omega
  have a1 : (z 0).val % 128 = i.val := by omega
  unfold pG
  simp only [a0, a1, e1, Fin.eta]

/-- The context buffer's upper half holds one half block's context, -/
theorem ctx_own (c : Dev nD) (q : FVec F ⟨2, ![128 * 1, 1024]⟩ .bf16) (R : Fin 1 → ℕ) (inb) (x : S128x1024.Idx) :
    blk ((Rect.unit (s := S256x1024) ![0, 0] S128x1024.size inb).emb x) < 8
      ∧ ctxG m Nat.one_pos c q R ((Rect.unit (s := S256x1024) ![0, 0] S128x1024.size inb).emb x) = ctxF m c q R x := by
  obtain ⟨i, k, rfl⟩ := ix2_eta x
  obtain ⟨e0, e1⟩ := slab_emb 0 (off := ![0, 0]) rfl inb i k
  have hi := i.isLt
  have hk := k.isLt
  generalize (Rect.unit (s := S256x1024) ![0, 0] S128x1024.size inb).emb (ix2 i k) = z at e0 e1
  have a1 : (z 0).val % (128 * 1) = i.val := by omega
  have a2 : (z 1).val = k.val := congrArg Fin.val e1
  constructor
  · unfold blk; omega
  · unfold ctxG; simp only [a1, e1, Fin.eta]

/-- and the whole of it a pair's. -/
theorem ctx_pair (c : Dev nD) (q : FVec F ⟨2, ![128 * 2, 1024]⟩ .bf16) (R : Fin 2 → ℕ) (inb) (x : S256x1024.Idx) :
    blk ((Rect.unit (s := S256x1024) ![0, 0] S256x1024.size inb).emb x) < 16
      ∧ ctxG m Nat.two_pos c q R ((Rect.unit (s := S256x1024) ![0, 0] S256x1024.size inb).emb x) = ctxF m c q R x := by
  rw [whole_emb inb x]
  obtain ⟨i, k, rfl⟩ := ix2_eta x
  have hi := i.isLt
  have hk := k.isLt
  constructor
  · show 8 * (i.val / 128) + k.val / 128 < 16; omega
  · show ctxF m c q R (ix2 ⟨i.val % (128 * 2), _⟩ k) = _
    simp only [show i.val % (128 * 2) = i.val by omega, Fin.eta]

/-- After the heads of an own half block: its context times the output weights is kept. -/
theorem own_fin (c : Dev nD) (j : Fin 2) {D D' : S256x1024.Idx → Prop} {R : Fin 1 → ℕ} (hR : R = fun _ => rowOwn c j)
    (hD : ∀ y, D' y → D y ∨ (y 0).val / 128 = j.val)
    {inb₁ inb₂} {off : Fin 2 → ℕ} (hoff : off = ![128 * j.val, 0]) {inb}
    {h₁ : ctxM.view.LoadsAt (Rect.unit (s := S256x1024) ![0, 0] S128x1024.size inb₁).toLoadRect}
    {h₂ : (Memref.whole cc0_stg2_0).view.LoadsAt (Rect.unit (s := S1024x1024) ![0, 0] S1024x1024.size inb₂).toLoadRect}
    {h₃ : pM.view.LoadsAt (Rect.unit (s := S256x1024) off S128x1024.size inb).toLoadRect}
    {hx : (pM.access (Rect.unit (s := S256x1024) off S128x1024.size inb)).Stores Finset.univ} {hm}
    {w : Vec F S128x1024 .bf16 → Vec F S1024x1024 .bf16 → FVec F S128x1024 .f32}
    (hw : w (ctxOwn m c j) (woA m c) = oOwn m c j)
    {α : Type} {Q : α → sProp 𝕄} {kt : PUnit → Prog (TpuEff nD τ sig (Elt F) Λ₀ .tc) α} :
    iprop(held c ctxM (fun y => blk y < 8) (ctxG m Nat.one_pos c (qOwn m c j) R)
        ∗ ((Memref.whole cc0_stg2_0).view.loc (c : Thread nD τ) ↦{fullShare} woA m c) ∗ held c pM D (pG m c))
      ⊢ iprop((((∃ f, (ctxM.view.loc (c : Thread nD τ) ↦{fullShare} f)) ∗ ((Memref.whole cc0_stg2_0).view.loc (c : Thread nD τ) ↦{fullShare} woA m c) ∗ held c pM D' (pG m c))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load ctxM (Rect.unit (s := S256x1024) ![0, 0] S128x1024.size inb₁).toLoadRect h₁) fun a =>
                .op (.load (Memref.whole cc0_stg2_0) (Rect.unit (s := S1024x1024) ![0, 0] S1024x1024.size inb₂).toLoadRect h₂) fun b =>
                .op (.load pM (Rect.unit (s := S256x1024) off S128x1024.size inb).toLoadRect h₃) fun _ =>
                .op (.store pM (Rect.unit (s := S256x1024) off S128x1024.size inb) (w a b) Finset.univ hx hm) kt) Q) := by
  subst hR
  iintro ⟨Hc, Ho, Hp⟩ Hk
  iapply (ld_held c ctxM (D := fun y => blk y < 8) (G := ctxG m Nat.one_pos c (qOwn m c j) (fun _ => rowOwn c j)) (off := ![0, 0]) (size := S128x1024.size) (inb := inb₁)
    (w := ctxOwn m c j) (ctx_own m c (qOwn m c j) (fun _ => rowOwn c j) inb₁)) $$ [Hc]
  · iexact Hc
  iintro Hc
  iapply (ld_wo c (woA m c)) $$ [Ho]
  · iexact Ho
  iintro Ho
  iapply (st_held c pM (D := D) (D' := D') (G := pG m c) (fun x => by rw [hw]; exact (pG_at m c j hoff inb x).symm)
    (fun y hy => (hD y hy).imp id (slab_mem j.val hoff inb y))) $$ [Hp]
  · iexact Hp
  iintro Hp
  iapply Hk
  isplitl [Hc]; · iapply held_drop $$ Hc
  isplitl [Ho]; · iexact Ho
  iexact Hp

/-- The rows of a pair are the gathered rows of the two half blocks. -/
theorem xPair_at (c : Dev nD) (h : ℕ) (j : Fin 2) {off : Fin 2 → ℕ} (hoff : off = ![128 * j.val, 0]) (inb) (x : S128x1024.Idx) :
    xPair m c h ((Rect.unit (s := S256x1024) off S128x1024.size inb).emb x) = rows (xgAll m) (2 * (src c h j).val + j.val) x := by
  rw [rows_xg]
  obtain ⟨i, k, rfl⟩ := ix2_eta x
  obtain ⟨e0, e1⟩ := slab_emb j.val hoff inb i k
  have hi := i.isLt
  generalize (Rect.unit (s := S256x1024) off S128x1024.size inb).emb (ix2 i k) = z at e0 e1
  have a0 : (z 0).val / 128 = j.val := by omega
  show xA m (src c h ⟨(z 0).val / 128, _⟩) (ix3 0 (z 0) (z 1)) = xA m (src c h j) (ix3 0 ⟨128 * j.val + i.val, _⟩ k)
  simp only [a0, e1, Fin.eta]
  rw [show z 0 = ⟨128 * j.val + i.val, by have := j.isLt; omega⟩ from Fin.ext e0]
  rfl

/-- Before the heads of a pair of half blocks: their rows are brought together and read with the query weights. -/
theorem pair_start (c : Dev nD) (h : ℕ) {r₀ r₁ : ℕ} {q₀ q₁ : PosShare TreeShare} (hr₀ : r₀ = 2 * (src c h 0).val) (hr₁ : r₁ = 2 * (src c h 1).val + 1)
    {off₀ off₁ : Fin 2 → ℕ} (hoff₀ : off₀ = ![128 * r₀, 0]) (hoff₁ : off₁ = ![128 * r₁, 0])
    {ia ib ic id' ie ig}
    {la : xgM.view.LoadsAt (Rect.unit (s := S1024x1024) off₀ S128x1024.size ia).toLoadRect}
    {lb : xqM.view.LoadsAt (Rect.unit (s := S256x1024) ![0, 0] S128x1024.size ib).toLoadRect}
    {xb : (xqM.access (Rect.unit (s := S256x1024) ![0, 0] S128x1024.size ib)).Stores Finset.univ} {mb}
    {lc : xgM.view.LoadsAt (Rect.unit (s := S1024x1024) off₁ S128x1024.size ic).toLoadRect}
    {ld : xqM.view.LoadsAt (Rect.unit (s := S256x1024) ![128, 0] S128x1024.size id').toLoadRect}
    {xd : (xqM.access (Rect.unit (s := S256x1024) ![128, 0] S128x1024.size id')).Stores Finset.univ} {md}
    {le : xqM.view.LoadsAt (Rect.unit (s := S256x1024) ![0, 0] S256x1024.size ie).toLoadRect}
    {lg : (Memref.whole cc0_stg1_0).view.LoadsAt (Rect.unit (s := S1024x1024) ![0, 0] S1024x1024.size ig).toLoadRect}
    {w₀ w₁ : Vec F S128x1024 .bf16 → FVec F S128x1024 .bf16} (hw₀ : ∀ v, w₀ v = v) (hw₁ : ∀ v, w₁ v = v)
    {α : Type} {Q : α → sProp 𝕄} {kt : Vec F S256x1024 .bf16 → Vec F S1024x1024 .bf16 → Prog (TpuEff nD τ sig (Elt F) Λ₀ .tc) α} :
    iprop(xgP c r₀ q₀ (xgAll m) ∗ xgP c r₁ q₁ (xgAll m) ∗ (∃ f, (xqM.view.loc (c : Thread nD τ) ↦{fullShare} f))
        ∗ ((Memref.whole cc0_stg1_0).view.loc (c : Thread nD τ) ↦{fullShare} wqA m c))
      ⊢ iprop(((xgP c r₀ q₀ (xgAll m) ∗ xgP c r₁ q₁ (xgAll m) ∗ (∃ f, (xqM.view.loc (c : Thread nD τ) ↦{fullShare} f))
              ∗ ((Memref.whole cc0_stg1_0).view.loc (c : Thread nD τ) ↦{fullShare} wqA m c))
            -∗ wp frame (wpE (defs₀ (F := F)) 𝒱₀ (c : Thread nD τ) none) Set.univ (kt (xPair m c h) (wqA m c)) Q)
          -∗ wp frame (wpE (defs₀ (F := F)) 𝒱₀ (c : Thread nD τ) none) Set.univ
              (.op (.load xgM (Rect.unit (s := S1024x1024) off₀ S128x1024.size ia).toLoadRect la) fun a =>
                .op (.load xqM (Rect.unit (s := S256x1024) ![0, 0] S128x1024.size ib).toLoadRect lb) fun _ =>
                .op (.store xqM (Rect.unit (s := S256x1024) ![0, 0] S128x1024.size ib) (w₀ a) Finset.univ xb mb) fun _ =>
                .op (.load xgM (Rect.unit (s := S1024x1024) off₁ S128x1024.size ic).toLoadRect lc) fun b =>
                .op (.load xqM (Rect.unit (s := S256x1024) ![128, 0] S128x1024.size id').toLoadRect ld) fun _ =>
                .op (.store xqM (Rect.unit (s := S256x1024) ![128, 0] S128x1024.size id') (w₁ b) Finset.univ xd md) fun _ =>
                .op (.load xqM (Rect.unit (s := S256x1024) ![0, 0] S256x1024.size ie).toLoadRect le) fun d =>
                .op (.load (Memref.whole cc0_stg1_0) (Rect.unit (s := S1024x1024) ![0, 0] S1024x1024.size ig).toLoadRect lg) fun e => kt d e) Q) := by
  iintro ⟨Ha, Hb, Hq, Hw⟩ Hk
  ihave Hq := (held_none c xqM (xPair m c h)) $$ Hq
  iapply (ld_x c r₀ q₀ (xgAll m) hoff₀) $$ [Ha]
  · iexact Ha
  iintro Ha
  iapply (st_held c xqM (D := fun _ => False) (D' := fun y => (y 0).val / 128 = 0) (G := xPair m c h)
    (fun x => by rw [hw₀, hr₀]; exact (xPair_at m c h 0 (off := ![0, 0]) rfl ib x).symm) (fun y hy => .inr (slab_mem 0 (off := ![0, 0]) rfl ib y hy))) $$ [Hq]
  · iexact Hq
  iintro Hq
  iapply (ld_x c r₁ q₁ (xgAll m) hoff₁) $$ [Hb]
  · iexact Hb
  iintro Hb
  iapply (st_held c xqM (D := fun y => (y 0).val / 128 = 0) (D' := fun y => (y 0).val / 128 = 0 ∨ (y 0).val / 128 = 1) (G := xPair m c h)
    (fun x => by rw [hw₁, hr₁]; exact (xPair_at m c h 1 (off := ![128, 0]) rfl id' x).symm) (fun y hy => hy.imp id (slab_mem 1 (off := ![128, 0]) rfl id' y))) $$ [Hq]
  · iexact Hq
  iintro Hq
  iapply (ld_held c xqM (D := fun y => (y 0).val / 128 = 0 ∨ (y 0).val / 128 = 1) (G := xPair m c h) (off := ![0, 0]) (size := S256x1024.size) (inb := ie)
    (w := xPair m c h) (both_slabs ie (xPair m c h))) $$ [Hq]
  · iexact Hq
  iintro Hq
  iapply (ld_wq c (wqA m c)) $$ [Hw]
  · iexact Hw
  iintro Hw
  iapply Hk
  isplitl [Ha]; · iexact Ha
  isplitl [Hb]; · iexact Hb
  isplitl [Hq]; · iapply held_drop $$ Hq
  iexact Hw

/-- After the heads of a pair: its context is read with the output weights. -/
theorem pair_fin (c : Dev nD) (h : ℕ) {inb₁ inb₂}
    {h₁ : ctxM.view.LoadsAt (Rect.unit (s := S256x1024) ![0, 0] S256x1024.size inb₁).toLoadRect}
    {h₂ : (Memref.whole cc0_stg2_0).view.LoadsAt (Rect.unit (s := S1024x1024) ![0, 0] S1024x1024.size inb₂).toLoadRect}
    {α : Type} {Q : α → sProp 𝕄} {kt : Vec F S256x1024 .bf16 → Vec F S1024x1024 .bf16 → Prog (TpuEff nD τ sig (Elt F) Λ₀ .tc) α} :
    iprop(held c ctxM (fun y => blk y < 16) (ctxG m Nat.two_pos c (qPair m c h) (rowPair c h))
        ∗ ((Memref.whole cc0_stg2_0).view.loc (c : Thread nD τ) ↦{fullShare} woA m c))
      ⊢ iprop((((∃ f, (ctxM.view.loc (c : Thread nD τ) ↦{fullShare} f)) ∗ ((Memref.whole cc0_stg2_0).view.loc (c : Thread nD τ) ↦{fullShare} woA m c))
            -∗ wp frame (wpE (defs₀ (F := F)) 𝒱₀ (c : Thread nD τ) none) Set.univ (kt (ctxPair m c h) (woA m c)) Q)
          -∗ wp frame (wpE (defs₀ (F := F)) 𝒱₀ (c : Thread nD τ) none) Set.univ
              (.op (.load ctxM (Rect.unit (s := S256x1024) ![0, 0] S256x1024.size inb₁).toLoadRect h₁) fun a =>
                .op (.load (Memref.whole cc0_stg2_0) (Rect.unit (s := S1024x1024) ![0, 0] S1024x1024.size inb₂).toLoadRect h₂) fun b => kt a b) Q) := by
  iintro ⟨Hc, Ho⟩ Hk
  iapply (ld_held c ctxM (D := fun y => blk y < 16) (G := ctxG m Nat.two_pos c (qPair m c h) (rowPair c h)) (off := ![0, 0]) (size := S256x1024.size) (inb := inb₁)
    (w := ctxPair m c h) (ctx_pair m c (qPair m c h) (rowPair c h) inb₁)) $$ [Hc]
  · iexact Hc
  iintro Hc
  iapply (ld_wo c (woA m c)) $$ [Ho]
  · iexact Ho
  iintro Ho
  iapply Hk
  isplitl [Hc]; · iapply held_drop $$ Hc
  iexact Ho

/-- Eight holdings as one family. -/
theorem all8_univ (P : Fin 8 → sProp 𝕄) : all8 P = bigSep Finset.univ P := by
  rw [BI.bigSep_univ_eq_bigSepL [0, 1, 2, 3, 4, 5, 6, 7] (by decide) (by decide)]
  rfl

/-- One of eight, taken out and put back. -/
theorem all8_take (P : Fin 8 → sProp 𝕄) (h : Fin 8) : all8 P ⊢ iprop(P h ∗ (P h -∗ all8 P)) := by
  have e : bigSep Finset.univ P = iprop(P h ∗ bigSep (Finset.univ.erase h) P) := BI.bigSep_erase (Finset.mem_univ h)
  rw [all8_univ, e]
  iintro ⟨Hh, Hb⟩
  isplitl [Hh]; · iexact Hh
  iintro Hh
  isplitl [Hh]; · iexact Hh
  iexact Hb

/-- A head whose keys and values lie at hand, out of all eight. -/
theorem head_step (c : Dev nD) (h : Fin 8) {n : ℕ} (hn : 0 < n) (jj : Fin n) (q : FVec F ⟨2, ![128 * n, 1024]⟩ .bf16) (R : Fin n → ℕ)
    {off : Fin 3 → ℕ} (hoff : off = ![h.val, w0 (R jj), 0]) {inb} {offc : Fin 2 → ℕ} (hoffc : offc = ![128 * jj.val, 128 * h.val]) {inbc}
    {hl : (kM.view).LoadsAt (Rect.unit (s := S8x1152x128) off S1x384x128.size inb).toLoadRect} {hl' : (vM.view).LoadsAt (Rect.unit (s := S8x1152x128) off S1x384x128.size inb).toLoadRect}
    {hlc : (ctxM.view).LoadsAt (Rect.unit (s := S256x1024) offc S128x128.size inbc).toLoadRect}
    {hx : (ctxM.access (Rect.unit (s := S256x1024) offc S128x128.size inbc)).Stores Finset.univ} {hm}
    {w : Vec F S1x384x128 .f32 → Vec F S1x384x128 .f32 → FVec F S128x128 .bf16}
    (hw : w (win (kB m c) h (R jj)) (win (vB m c) h (R jj))
      = headVal (qsl q jj h) (biasW (BitVec.ofNat 32 (R jj))) (win (kB m c) h (R jj)) (win (vB m c) h (R jj)))
    {α : Type} {Q : α → sProp 𝕄} {kt : PUnit → Prog (TpuEff nD τ sig (Elt F) Λ₀ .tc) α} :
    iprop(all8 (kvDone m c) ∗ held c ctxM (fun y => blk y < 8 * jj.val + h.val) (ctxG m hn c q R))
      ⊢ iprop(((all8 (kvDone m c) ∗ held c ctxM (fun y => blk y < 8 * jj.val + (h.val + 1)) (ctxG m hn c q R))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load kM (Rect.unit (s := S8x1152x128) off S1x384x128.size inb).toLoadRect hl) fun a =>
                .op (.load vM (Rect.unit (s := S8x1152x128) off S1x384x128.size inb).toLoadRect hl') fun b =>
                .op (.load ctxM (Rect.unit (s := S256x1024) offc S128x128.size inbc).toLoadRect hlc) fun _ =>
                .op (.store ctxM (Rect.unit (s := S256x1024) offc S128x128.size inbc) (w a b) Finset.univ hx hm) kt) Q) := by
  iintro ⟨Ha, Hc⟩ Hk
  ihave Ha := (all8_take (kvDone m c) h) $$ Ha
  icases Ha with ⟨Hh, Hb⟩
  iapply (pair_head m c h hn jj q R hoff hoffc hw) $$ [Hh Hc]
  · isplitl [Hh]; · iexact Hh
    iexact Hc
  iintro ⟨Hh, Hc⟩
  iapply Hk
  isplitr [Hc]
  · iapply Hb; iexact Hh
  iexact Hc

/-- A slot of the travelling sums, whatever its leading coordinate. -/
theorem rs_eta (w : FVec F S1x128x1024 .bf16) : w = fun j : S1x128x1024.Idx => w (ix3 0 (j 1) (j 2)) := by
  funext j
  obtain ⟨a, b, d, rfl⟩ := ix3_eta j
  obtain rfl : a = 0 := Subsingleton.elim a 0
  rfl

end Cert.KernelIdeal.Att

end
-- ==== Proof.Seg2.lean ====
module

public import proofs.«01_k».proof.Proof.Tails

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Second stretch: the device's own upper half block, while the rows travel -/

abbrev W507 : BitVec 32 := Scalar.select (Scalar.cmpi .eq 4#32 0#32) 1#32 4#32
abbrev W508 (c : Dev nD) : BitVec 32 := Scalar.remsi (Scalar.subi (Scalar.subi (Scalar.addi (W2 c) 4#32) 1#32) 0#32) W507
abbrev W509 (c : Dev nD) : BitVec 1 := Scalar.cmpi .ne (W508 c) 0#32

/-- What the stretch takes. -/
def pre2 (c : Dev nD) : sProp 𝕄 :=
  iprop(records m K ∗ levAts L lv ∗ all8 (kvFly c)
    ∗ (∃ f, (ctxM.view.loc (c : Thread nD τ) ↦{fullShare} f))
    ∗ (∃ f, (pM.view.loc (c : Thread nD τ) ↦{fullShare} f))
    ∗ ((Memref.whole cc0_stg2_0).view.loc (c : Thread nD τ) ↦{fullShare} woA m c)
    ∗ rcv c 23 ∗ owesE c ((dl c).drop 4))
/-- What it leaves. -/
def post2 (c : Dev nD) : sProp 𝕄 :=
  iprop(all8 (kvDone m c)
    ∗ (∃ f, (ctxM.view.loc (c : Thread nD τ) ↦{fullShare} f))
    ∗ held c pM (fun y => (y 0).val < 128) (pG m c)
    ∗ ((Memref.whole cc0_stg2_0).view.loc (c : Thread nD τ) ↦{fullShare} woA m c)
    ∗ xgP c (2 * (sh c 3).val) fullShare (xgAll m)
    ∗ fin c 23 ∗ owesE c ((dl c).drop 4))

/-- The second segment: the attention of the first own half block. -/
theorem seg2 (c : Dev nD) {α : Type} {Q : α → sProp 𝕄} {v14 v188 : BitVec 32} {v25 : BitVec 32}
    {kt : BitVec 32 → BitVec 32 → BitVec 1 → BitVec 32 → Prog (TpuEff nD τ sig (Elt F) Λ₀ .tc) α} :
    pre2 m K c ⊢ iprop((post2 m c -∗ wp frame (wpE (defs₀ (F := F)) 𝒱₀ (c : Thread nD τ) none) Set.univ
          (kt W507 (W508 c) (W509 c) 0#32) Q)
      -∗ wp frame (wpE (defs₀ (F := F)) 𝒱₀ (c : Thread nD τ) none) Set.univ (do
          on (k0_part8 (F := F)) c (qOwn m c 0) v188 (k0_pay3 (W2 c))
          on (k0_part9 (F := F)) c (qOwn m c 0) v188 (k0_pay3 (W2 c))
          let v306 ← on (k0_part10 (F := F)) c (qOwn m c 0) v188 (k0_pay3 (W2 c))
          let v342 ← on (k0_part11 (F := F)) c (qOwn m c 0) v188 (k0_pay3 (W2 c)) v306
          let ⟨v373, v376⟩ ← on (k0_part12 (F := F)) c (qOwn m c 0) v188 (k0_pay3 (W2 c)) v342
          let ⟨v403, v409, cst⟩ ← on (k0_part13 (F := F)) c (qOwn m c 0) v188 (k0_pay3 (W2 c)) v373 v376
          let ⟨v439, v443, v444⟩ ← on (k0_part14 (F := F)) c (qOwn m c 0) v188 (k0_pay3 (W2 c)) v403 v409 cst
          let ⟨v473, v475, v477⟩ ← on (k0_part15 (F := F)) c (qOwn m c 0) v188 (k0_pay3 (W2 c)) v439 v443 v444
          let ⟨v507, v508, v509, c0⟩ ← on (k0_part16 (F := F)) c (W2 c) v25 v473 v475 v477
          kt v507 v508 v509 c0) Q) := by
  simp only [on, k0_part8_eq_skeleton, k0_part8_skel, k0_part9_eq_skeleton, k0_part9_skel, k0_part10_eq_skeleton, k0_part10_skel, k0_part11_eq_skeleton, k0_part11_skel,
    k0_part12_eq_skeleton, k0_part12_skel, k0_part13_eq_skeleton, k0_part13_skel, k0_part14_eq_skeleton, k0_part14_skel, k0_part15_eq_skeleton, k0_part15_skel,
    k0_part16_eq_skeleton, k0_part16_skel,
    semSignalWord, semWaitWord, Prog.lift, Prog.bind_op, Prog.bind_ret, Prog.pure_eq_ret, wp_deviceId]
  unfold pre2
  iintro ⟨#Hrec, #Hlev, ⟨Hk0, Hk1, Hk2, Hk3, Hk4, Hk5, Hk6, Hk7⟩, Hctx, Hp, Hs2, Hr, HO⟩ Hk
  ihave Hctx := (held_none c ctxM (ctxG m Nat.one_pos c (qOwn m c 0) (fun _ => rowOwn c 0))) $$ Hctx
  ihave Hctx := (held_weaken c ctxM (D' := fun y => blk y < 8 * 0 + 0) (G' := ctxG m Nat.one_pos c (qOwn m c 0) (fun _ => rowOwn c 0)) (fun y h => absurd h (Nat.not_lt_zero _))) $$ Hctx
  iapply (own_head m K c 0 Nat.one_pos 0 (qOwn m c 0) (fun _ => rowOwn c 0) ((dl c).drop 4) (dl_lv c 4 _ (by decide)) (dl_lv c 4 _ (by decide)) ?_ ?_
    (off5_eq c 0) ?_ ?_) $$ [Hk0 HO Hctx]
  · exact rfl
  · exact rfl
  · exact rfl
  · exact headVal_slice (off := ![0, 0]) (h := slices_S128x1024_o0_0_S128x128) rfl (bias_own c) rfl
  · isplitr; · iexact Hrec
    isplitr; · iexact Hlev
    isplitl [Hk0]; · iexact Hk0
    isplitl [HO]; · iexact HO
    iexact Hctx
  iintro ⟨HO, Hk0, Hctx⟩
  iapply (own_head m K c 1 Nat.one_pos 0 (qOwn m c 0) (fun _ => rowOwn c 0) ((dl c).drop 4) (dl_lv c 4 _ (by decide)) (dl_lv c 4 _ (by decide)) ?_ ?_
    (off6_eq c 0) ?_ ?_) $$ [Hk1 HO Hctx]
  · exact rfl
  · exact rfl
  · exact rfl
  · exact headVal_slice (off := ![0, 128]) (h := slices_S128x1024_o0_128_S128x128) rfl (bias_own c) rfl
  · isplitr; · iexact Hrec
    isplitr; · iexact Hlev
    isplitl [Hk1]; · iexact Hk1
    isplitl [HO]; · iexact HO
    iexact Hctx
  iintro ⟨HO, Hk1, Hctx⟩
  iapply (own_head m K c 2 Nat.one_pos 0 (qOwn m c 0) (fun _ => rowOwn c 0) ((dl c).drop 4) (dl_lv c 4 _ (by decide)) (dl_lv c 4 _ (by decide)) ?_ ?_
    (off7_eq c 0) ?_ ?_) $$ [Hk2 HO Hctx]
  · exact rfl
  · exact rfl
  · exact rfl
  · exact headVal_slice (off := ![0, 256]) (h := slices_S128x1024_o0_256_S128x128) rfl (bias_own c) rfl
  · isplitr; · iexact Hrec
    isplitr; · iexact Hlev
    isplitl [Hk2]; · iexact Hk2
    isplitl [HO]; · iexact HO
    iexact Hctx
  iintro ⟨HO, Hk2, Hctx⟩
  iapply (own_head m K c 3 Nat.one_pos 0 (qOwn m c 0) (fun _ => rowOwn c 0) ((dl c).drop 4) (dl_lv c 4 _ (by decide)) (dl_lv c 4 _ (by decide)) ?_ ?_
    (off8_eq c 0) ?_ ?_) $$ [Hk3 HO Hctx]
  · exact rfl
  · exact rfl
  · exact rfl
  · exact headVal_slice (off := ![0, 384]) (h := slices_S128x1024_o0_384_S128x128) rfl (bias_own c) rfl
  · isplitr; · iexact Hrec
    isplitr; · iexact Hlev
    isplitl [Hk3]; · iexact Hk3
    isplitl [HO]; · iexact HO
    iexact Hctx
  iintro ⟨HO, Hk3, Hctx⟩
  iapply (own_head m K c 4 Nat.one_pos 0 (qOwn m c 0) (fun _ => rowOwn c 0) ((dl c).drop 4) (dl_lv c 4 _ (by decide)) (dl_lv c 4 _ (by decide)) ?_ ?_
    (off9_eq c 0) ?_ ?_) $$ [Hk4 HO Hctx]
  · exact rfl
  · exact rfl
  · exact rfl
  · exact headVal_slice (off := ![0, 512]) (h := slices_S128x1024_o0_512_S128x128) rfl (bias_own c) rfl
  · isplitr; · iexact Hrec
    isplitr; · iexact Hlev
    isplitl [Hk4]; · iexact Hk4
    isplitl [HO]; · iexact HO
    iexact Hctx
  iintro ⟨HO, Hk4, Hctx⟩
  iapply (own_head m K c 5 Nat.one_pos 0 (qOwn m c 0) (fun _ => rowOwn c 0) ((dl c).drop 4) (dl_lv c 4 _ (by decide)) (dl_lv c 4 _ (by decide)) ?_ ?_
    (off10_eq c 0) ?_ ?_) $$ [Hk5 HO Hctx]
  · exact rfl
  · exact rfl
  · exact rfl
  · exact headVal_slice (off := ![0, 640]) (h := slices_S128x1024_o0_640_S128x128) rfl (bias_own c) rfl
  · isplitr; · iexact Hrec
    isplitr; · iexact Hlev
    isplitl [Hk5]; · iexact Hk5
    isplitl [HO]; · iexact HO
    iexact Hctx
  iintro ⟨HO, Hk5, Hctx⟩
  iapply (own_head m K c 6 Nat.one_pos 0 (qOwn m c 0) (fun _ => rowOwn c 0) ((dl c).drop 4) (dl_lv c 4 _ (by decide)) (dl_lv c 4 _ (by decide)) ?_ ?_
    (off11_eq c 0) ?_ ?_) $$ [Hk6 HO Hctx]
  · exact rfl
  · exact rfl
  · exact rfl
  · exact headVal_slice (off := ![0, 768]) (h := slices_S128x1024_o0_768_S128x128) rfl (bias_own c) rfl
  · isplitr; · iexact Hrec
    isplitr; · iexact Hlev
    isplitl [Hk6]; · iexact Hk6
    isplitl [HO]; · iexact HO
    iexact Hctx
  iintro ⟨HO, Hk6, Hctx⟩
  iapply (own_head m K c 7 Nat.one_pos 0 (qOwn m c 0) (fun _ => rowOwn c 0) ((dl c).drop 4) (dl_lv c 4 _ (by decide)) (dl_lv c 4 _ (by decide)) ?_ ?_
    (off12_eq c 0) ?_ ?_) $$ [Hk7 HO Hctx]
  · exact rfl
  · exact rfl
  · exact rfl
  · exact headVal_slice (off := ![0, 896]) (h := slices_S128x1024_o0_896_S128x128) rfl (bias_own c) rfl
  · isplitr; · iexact Hrec
    isplitr; · iexact Hlev
    isplitl [Hk7]; · iexact Hk7
    isplitl [HO]; · iexact HO
    iexact Hctx
  iintro ⟨HO, Hk7, Hctx⟩
  ihave Hp := (held_none c pM (pG m c)) $$ Hp
  iapply (own_fin m c 0 (D := fun _ => False) (D' := fun y => (y 0).val < 128) (R := fun _ => rowOwn c 0) rfl
    (fun y hy => .inr (Nat.div_eq_of_lt hy)) ?_ ?_) $$ [Hctx Hs2 Hp]
  · exact rfl
  · exact rfl
  · isplitl [Hctx]; · iexact Hctx
    isplitl [Hs2]; · iexact Hs2
    iexact Hp
  iintro ⟨Hctx, Hs2, Hp⟩
  iapply (recv_step m K c 23 (by decide) ((dl c).drop 4) (dl_lv c 4 _ (by decide)) ?_) $$ [Hr HO]
  · exact rfl
  · isplitr; · iexact Hrec
    isplitr; · iexact Hlev
    isplitl [Hr]; · iexact Hr
    iexact HO
  iintro ⟨HO, Hf, Hx⟩
  ihave Hx := (Entails.of_eq (show dmaPay m c (23 : Fin 44).val = xgP c (2 * (sh c 3).val) fullShare (xgAll m) from pay_agrR m c 0)) $$ Hx
  iapply Hk
  unfold post2
  isplitl [Hk0 Hk1 Hk2 Hk3 Hk4 Hk5 Hk6 Hk7]
  · unfold all8
    isplitl [Hk0]; · iexact Hk0
    isplitl [Hk1]; · iexact Hk1
    isplitl [Hk2]; · iexact Hk2
    isplitl [Hk3]; · iexact Hk3
    isplitl [Hk4]; · iexact Hk4
    isplitl [Hk5]; · iexact Hk5
    isplitl [Hk6]; · iexact Hk6
    iexact Hk7
  isplitl [Hctx]; · iexact Hctx
  isplitl [Hp]; · iexact Hp
  isplitl [Hs2]; · iexact Hs2
  isplitl [Hx]; · iexact Hx
  isplitl [Hf]; · iexact Hf
  iexact HO

end Cert.KernelIdeal.Att

end
-- ==== Proof.Seg3.lean ====
module

public import proofs.«01_k».proof.Proof.Seg2

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Third stretch: the neighbours' halves that came first -/

abbrev W515 (c : Dev nD) : BitVec 32 :=
  Scalar.select (Scalar.andi (Scalar.xori (Scalar.cmpi .slt (W508 c) 0#32) (Scalar.cmpi .slt W507 0#32)) (W509 c)) (Scalar.addi (W508 c) W507) (W508 c)

/-- A word brought back between nought and the number of devices. -/
abbrev wrap (v : BitVec 32) : BitVec 32 :=
  Scalar.select (Scalar.andi (Scalar.xori (Scalar.cmpi .slt (Scalar.remsi v (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi v (Scalar.select (Scalar.cmpi .eq 4#32 0#32) 1#32 4#32)) 0#32))
    (Scalar.addi (Scalar.remsi v (Scalar.select (Scalar.cmpi .eq 4#32 0#32) 1#32 4#32)) (Scalar.select (Scalar.cmpi .eq 4#32 0#32) 1#32 4#32))
    (Scalar.remsi v (Scalar.select (Scalar.cmpi .eq 4#32 0#32) 1#32 4#32))
abbrev W544 (c : Dev nD) : BitVec 32 := wrap (Scalar.addi (Scalar.addi (W2 c) 1#32) 0#32)
abbrev W1048 (c : Dev nD) : BitVec 32 := wrap (Scalar.subi (Scalar.subi (Scalar.addi (W2 c) 4#32) 1#32) 1#32)

/-- The mask that the kernel builds for the first pair's upper half, -/
theorem bias_00 (c : Dev nD) : k0_pay30 (F := F) (Scalar.muli (W515 c) 256#32) 128#32 = biasW (BitVec.ofNat 32 (rowPair c 0 0)) := by
  have e : ∀ c : Dev nD, Scalar.muli (W515 c) 256#32 = BitVec.ofNat 32 (rowPair c 0 0) := by decide +kernel
  rw [← e c]; rfl
/-- and for its lower half. -/
theorem bias_01 (c : Dev nD) : k0_pay46 (F := F) (Scalar.addi (Scalar.muli (W544 c) 256#32) 128#32) = biasW (BitVec.ofNat 32 (rowPair c 0 1)) := by
  have e : ∀ c : Dev nD, Scalar.addi (Scalar.muli (W544 c) 256#32) 128#32 = BitVec.ofNat 32 (rowPair c 0 1) := by decide +kernel
  rw [← e c]; rfl

/-- What the stretch takes. -/
def pre3 (c : Dev nD) : sProp 𝕄 :=
  iprop(records m K ∗ levAts L lv ∗ all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ xgP c (2 * (sh c 3).val) fullShare (xgAll m) ∗ (∃ f, xgP (sh c 1) (2 * (sh c 3).val) fullShare f) ∗ snd c 21 (sh c 1) 24
    ∗ rcv c 29 ∗ (∃ f, xgP (sh c 3) (2 * (sh c 1).val + 1) fullShare f) ∗ snd c 27 (sh c 3) 30
    ∗ ((∃ f, txrP c 0 f) ∗ (∃ f, rxrP (sh c 1) 0 f) ∗ snd c 32 (sh c 1) 35)
    ∗ ((∃ f, txlP c 0 f) ∗ (∃ f, rxlP (sh c 3) 0 f) ∗ snd c 38 (sh c 3) 41)
    ∗ rcv c 24 ∗ owesE c ((dl c).drop 4))
/-- What it leaves. -/
def post3 (c : Dev nD) : sProp 𝕄 :=
  iprop(all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ xgP c (2 * (sh c 3).val) fullShare.right (xgAll m) ∗ rcv c 21
    ∗ fin c 29 ∗ xgP c (2 * (sh c 1).val + 1) fullShare.right (xgAll m) ∗ rcv c 27
    ∗ rcv c 32 ∗ rcv c 38
    ∗ fin c 24 ∗ xgP c (2 * (sh c 2).val) fullShare (xgAll m) ∗ owesE c ((dl c).drop 8))

/-- A segment: the first pair of half blocks arrives, its attention, and the partial sums sent on. -/
theorem seg3 (c : Dev nD) {α : Type} {Q : α → sProp 𝕄}
    {kt : BitVec 32 → Prog (TpuEff nD τ sig (Elt F) Λ₀ .tc) α} :
    pre3 m K c ⊢ iprop((post3 m c -∗ wp frame (wpE (defs₀ (F := F)) 𝒱₀ (c : Thread nD τ) none) Set.univ (kt (W1048 c)) Q)
      -∗ wp frame (wpE (defs₀ (F := F)) 𝒱₀ (c : Thread nD τ) none) Set.univ (do
          let ⟨v515, v544⟩ ← on (k0_part17 (F := F)) c (W2 c) (W14 c) (W25 c) W507 (W508 c) (W509 c) 0#32
          let ⟨v557, v560, v577, c128⟩ ← on (k0_part18 (F := F)) c (W14 c) v515 v544
          let ⟨v581, v594, v619⟩ ← on (k0_part19 (F := F)) c v557 v577 c128
          let v662 ← on (k0_part20 (F := F)) c v577 v581 v594 v619
          let ⟨v698, v700, v702⟩ ← on (k0_part21 (F := F)) c v577 v581 v594 v662
          let ⟨v739, v743, cst⟩ ← on (k0_part22 (F := F)) c v577 v581 v594 v698 v700 v702
          let v783 ← on (k0_part23 (F := F)) c v577 v581 v594 v739 v743 cst
          let ⟨v790, v803⟩ ← on (k0_part24 (F := F)) c v560 v577 v783
          let ⟨v861, v867, v868⟩ ← on (k0_part25 (F := F)) c v577 v790 v803
          let ⟨v907, v909⟩ ← on (k0_part26 (F := F)) c v577 v790 v803 v861 v867 v868
          let ⟨v948, v950⟩ ← on (k0_part27 (F := F)) c v577 v790 v803 v907 v909
          let v992 ← on (k0_part28 (F := F)) c v577 v790 v803 v948 v950
          let ⟨v1020, c0⟩ ← on (k0_part29 (F := F)) c (W14 c) (W25 c) v992
          let v1048 ← on (k0_part30 (F := F)) c (W2 c) (W25 c) v1020 c0
          kt v1048) Q) := by
  simp only [on, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel,
    semSignalWord, semWaitWord, Prog.lift, Prog.bind_op, Prog.bind_ret, Prog.pure_eq_ret, wp_deviceId]
  unfold pre3
  iintro ⟨#Hrec, #Hlev, Hkv, Hctx, Hxq, Hs1, Hs2, Hx3, Hf3, Hsa, Hra, Hf1, Hsb, ⟨Htr, Hrr, Hsr⟩, ⟨Htl, Hrl, Hsl⟩, Hrc, HO⟩ Hk
  iapply (ag_go m K c (sh c 1) _ (dev5_eq c) (2 * (sh c 3).val) (off13_eq c 0) 21 24 (by decide) (by decide) ((dl c).drop 5) ?_ (pay_agrS m c 1) (pay_agrR' m c 1)) $$ [Hx3 Hf3 HO Hsa]
  · exact rfl
  · isplitr; · iexact Hrec
    isplitl [Hx3]; · iexact Hx3
    isplitl [Hf3]; · iexact Hf3
    isplitl [HO]; · iexact HO
    iexact Hsa
  iintro ⟨Hx3, Hra', HO⟩
  iapply (recv_step m K c 29 (by decide) ((dl c).drop 5) (dl_lv c 5 _ (by decide)) ?_) $$ [Hra HO]
  · exact rfl
  · isplitr; · iexact Hrec
    isplitr; · iexact Hlev
    isplitl [Hra]; · iexact Hra
    iexact HO
  iintro ⟨HO, Hfa, Hx1⟩
  ihave Hx1 := (Entails.of_eq (show dmaPay m c (29 : Fin 44).val = xgP c (2 * (sh c 1).val + 1) fullShare (xgAll m) from pay_aglR m c 0)) $$ Hx1
  iapply (ag_go m K c (sh c 3) _ (dev6_eq c) (2 * (sh c 1).val + 1) (off14_eq c 0) 27 30 (by decide) (by decide) ((dl c).drop 6) ?_ (pay_aglS m c 1) (pay_aglR' m c 1)) $$ [Hx1 Hf1 HO Hsb]
  · exact rfl
  · isplitr; · iexact Hrec
    isplitl [Hx1]; · iexact Hx1
    isplitl [Hf1]; · iexact Hf1
    isplitl [HO]; · iexact HO
    iexact Hsb
  iintro ⟨Hx1, Hrb', HO⟩
  iapply (pair_start m c 0 (r₀ := 2 * (sh c 3).val) (r₁ := 2 * (sh c 1).val + 1) rfl rfl (off15_eq c 0) (off16_eq c 0) ?_ ?_) $$ [Hx3 Hx1 Hxq Hs1]
  · exact fun v => shapeCast_self v _
  · exact fun v => shapeCast_self v _
  · isplitl [Hx3]; · iexact Hx3
    isplitl [Hx1]; · iexact Hx1
    isplitl [Hxq]; · iexact Hxq
    iexact Hs1
  iintro ⟨Hx3, Hx1, Hxq, Hs1⟩
  ihave Hctx := (held_none c ctxM (ctxG m Nat.two_pos c (qPair m c 0) (rowPair c 0))) $$ Hctx
  ihave Hctx := (held_weaken c ctxM (D' := fun y => blk y < 8 * (0 : Fin 2).val + (0 : Fin 8).val) (G' := ctxG m Nat.two_pos c (qPair m c 0) (rowPair c 0)) (fun y h => absurd h (Nat.not_lt_zero _))) $$ Hctx
  icombine Hkv Hctx as H
  iapply (head_step m c 0 Nat.two_pos 0 (qPair m c 0) (rowPair c 0) ?_ ?_ ?_) $$ [H]
  · exact off17_eq c 0
  · exact rfl
  · exact headVal_slice (off := ![0, 0]) (h := slices_S256x1024_o0_0_S128x128) rfl (bias_00 c) rfl
  · iexact H
  iintro H
  iapply (head_step m c 1 Nat.two_pos 0 (qPair m c 0) (rowPair c 0) ?_ ?_ ?_) $$ [H]
  · exact off18_eq c 0
  · exact rfl
  · exact headVal_slice (off := ![0, 128]) (h := slices_S256x1024_o0_128_S128x128) rfl (bias_00 c) rfl
  · iexact H
  iintro H
  iapply (head_step m c 2 Nat.two_pos 0 (qPair m c 0) (rowPair c 0) ?_ ?_ ?_) $$ [H]
  · exact off19_eq c 0
  · exact rfl
  · exact headVal_slice (off := ![0, 256]) (h := slices_S256x1024_o0_256_S128x128) rfl (bias_00 c) rfl
  · iexact H
  iintro H
  iapply (head_step m c 3 Nat.two_pos 0 (qPair m c 0) (rowPair c 0) ?_ ?_ ?_) $$ [H]
  · exact off20_eq c 0
  · exact rfl
  · exact headVal_slice (off := ![0, 384]) (h := slices_S256x1024_o0_384_S128x128) rfl (bias_00 c) rfl
  · iexact H
  iintro H
  iapply (head_step m c 4 Nat.two_pos 0 (qPair m c 0) (rowPair c 0) ?_ ?_ ?_) $$ [H]
  · exact off21_eq c 0
  · exact rfl
  · exact headVal_slice (off := ![0, 512]) (h := slices_S256x1024_o0_512_S128x128) rfl (bias_00 c) rfl
  · iexact H
  iintro H
  iapply (head_step m c 5 Nat.two_pos 0 (qPair m c 0) (rowPair c 0) ?_ ?_ ?_) $$ [H]
  · exact off22_eq c 0
  · exact rfl
  · exact headVal_slice (off := ![0, 640]) (h := slices_S256x1024_o0_640_S128x128) rfl (bias_00 c) rfl
  · iexact H
  iintro H
  iapply (head_step m c 6 Nat.two_pos 0 (qPair m c 0) (rowPair c 0) ?_ ?_ ?_) $$ [H]
  · exact off23_eq c 0
  · exact rfl
  · exact headVal_slice (off := ![0, 768]) (h := slices_S256x1024_o0_768_S128x128) rfl (bias_00 c) rfl
  · iexact H
  iintro H
  iapply (head_step m c 7 Nat.two_pos 0 (qPair m c 0) (rowPair c 0) ?_ ?_ ?_) $$ [H]
  · exact off24_eq c 0
  · exact rfl
  · exact headVal_slice (off := ![0, 896]) (h := slices_S256x1024_o0_896_S128x128) rfl (bias_00 c) rfl
  · iexact H
  iintro H
  iapply (head_step m c 0 Nat.two_pos 1 (qPair m c 0) (rowPair c 0) ?_ ?_ ?_) $$ [H]
  · exact off25_eq c 0
  · exact rfl
  · exact headVal_slice (off := ![128, 0]) (h := slices_S256x1024_o128_0_S128x128) rfl (bias_01 c) rfl
  · iexact H
  iintro H
  iapply (head_step m c 1 Nat.two_pos 1 (qPair m c 0) (rowPair c 0) ?_ ?_ ?_) $$ [H]
  · exact off26_eq c 0
  · exact rfl
  · exact headVal_slice (off := ![128, 128]) (h := slices_S256x1024_o128_128_S128x128) rfl (bias_01 c) rfl
  · iexact H
  iintro H
  iapply (head_step m c 2 Nat.two_pos 1 (qPair m c 0) (rowPair c 0) ?_ ?_ ?_) $$ [H]
  · exact off27_eq c 0
  · exact rfl
  · exact headVal_slice (off := ![128, 256]) (h := slices_S256x1024_o128_256_S128x128) rfl (bias_01 c) rfl
  · iexact H
  iintro H
  iapply (head_step m c 3 Nat.two_pos 1 (qPair m c 0) (rowPair c 0) ?_ ?_ ?_) $$ [H]
  · exact off28_eq c 0
  · exact rfl
  · exact headVal_slice (off := ![128, 384]) (h := slices_S256x1024_o128_384_S128x128) rfl (bias_01 c) rfl
  · iexact H
  iintro H
  iapply (head_step m c 4 Nat.two_pos 1 (qPair m c 0) (rowPair c 0) ?_ ?_ ?_) $$ [H]
  · exact off29_eq c 0
  · exact rfl
  · exact headVal_slice (off := ![128, 512]) (h := slices_S256x1024_o128_512_S128x128) rfl (bias_01 c) rfl
  · iexact H
  iintro H
  iapply (head_step m c 5 Nat.two_pos 1 (qPair m c 0) (rowPair c 0) ?_ ?_ ?_) $$ [H]
  · exact off30_eq c 0
  · exact rfl
  · exact headVal_slice (off := ![128, 640]) (h := slices_S256x1024_o128_640_S128x128) rfl (bias_01 c) rfl
  · iexact H
  iintro H
  iapply (head_step m c 6 Nat.two_pos 1 (qPair m c 0) (rowPair c 0) ?_ ?_ ?_) $$ [H]
  · exact off31_eq c 0
  · exact rfl
  · exact headVal_slice (off := ![128, 768]) (h := slices_S256x1024_o128_768_S128x128) rfl (bias_01 c) rfl
  · iexact H
  iintro H
  iapply (head_step m c 7 Nat.two_pos 1 (qPair m c 0) (rowPair c 0) ?_ ?_ ?_) $$ [H]
  · exact off32_eq c 0
  · exact rfl
  · exact headVal_slice (off := ![128, 896]) (h := slices_S256x1024_o128_896_S128x128) rfl (bias_01 c) rfl
  · iexact H
  iintro H
  icases H with ⟨Hkv, Hctx⟩
  iapply (pair_fin m c 0) $$ [Hctx Hs2]
  · isplitl [Hctx]; · iexact Hctx
    iexact Hs2
  iintro ⟨Hctx, Hs2⟩
  iapply (rsr_go m K c (sh c 1) _ (dev7_eq c) 0 rfl rfl 32 35 (by decide) (by decide) ((dl c).drop 7) ?_ (pay_rsrS m c 0) (pay_rsrR' m c 0) ?_) $$ [Htr Hrr HO Hsr]
  · exact rfl
  · exact rs_eta (k0_pay64 (ctxPair m c 0) (woA m c))
  · isplitr; · iexact Hrec
    isplitl [Htr]; · iexact Htr
    isplitl [Hrr]; · iexact Hrr
    isplitl [HO]; · iexact HO
    iexact Hsr
  iintro ⟨Hrsr, HO⟩
  iapply (rsl_go m K c (sh c 3) _ (dev8_eq c) 0 rfl rfl 38 41 (by decide) (by decide) ((dl c).drop 8) ?_ (pay_rslS m c 0) (pay_rslR' m c 0) ?_) $$ [Htl Hrl HO Hsl]
  · exact rfl
  · exact rs_eta (k0_pay65 (ctxPair m c 0) (woA m c))
  · isplitr; · iexact Hrec
    isplitl [Htl]; · iexact Htl
    isplitl [Hrl]; · iexact Hrl
    isplitl [HO]; · iexact HO
    iexact Hsl
  iintro ⟨Hrsl, HO⟩
  iapply (recv_step m K c 24 (by decide) ((dl c).drop 8) (dl_lv c 8 _ (by decide)) ?_) $$ [Hrc HO]
  · exact rfl
  · isplitr; · iexact Hrec
    isplitr; · iexact Hlev
    isplitl [Hrc]; · iexact Hrc
    iexact HO
  iintro ⟨HO, Hfc, Hx2⟩
  ihave Hx2 := (Entails.of_eq (show dmaPay m c (24 : Fin 44).val = xgP c (2 * (sh c 2).val) fullShare (xgAll m) from pay_agrR m c 1)) $$ Hx2
  iapply Hk
  unfold post3
  isplitl [Hkv]; · iexact Hkv
  isplitl [Hctx]; · iexact Hctx
  isplitl [Hxq]; · iexact Hxq
  isplitl [Hs1]; · iexact Hs1
  isplitl [Hs2]; · iexact Hs2
  isplitl [Hx3]; · iexact Hx3
  isplitl [Hra']; · iexact Hra'
  isplitl [Hfa]; · iexact Hfa
  isplitl [Hx1]; · iexact Hx1
  isplitl [Hrb']; · iexact Hrb'
  isplitl [Hrsr]; · iexact Hrsr
  isplitl [Hrsl]; · iexact Hrsl
  isplitl [Hfc]; · iexact Hfc
  isplitl [Hx2]; · iexact Hx2
  iexact HO

end Cert.KernelIdeal.Att

end
-- ==== Proof.Seg4.lean ====
module

public import proofs.«01_k».proof.Proof.Seg3

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Fourth stretch: the halves that came second -/

abbrev W1077 (c : Dev nD) : BitVec 32 := wrap (Scalar.addi (Scalar.addi (W2 c) 1#32) 1#32)

/-- The mask that the kernel builds for the second pair's upper half, -/
theorem bias_10 (c : Dev nD) : k0_pay70 (F := F) (k0_pay69 (W1048 c)) (Scalar.ofBits .f32 0x00000000#32) = biasW (BitVec.ofNat 32 (rowPair c 1 0)) := by
  have e : ∀ c : Dev nD, Scalar.muli (W1048 c) 256#32 = BitVec.ofNat 32 (rowPair c 1 0) := by decide +kernel
  rw [← e c]; rfl
/-- and for its lower half. -/
theorem bias_11 (c : Dev nD) : k0_pay89 (F := F) (k0_pay88 (Scalar.addi (Scalar.muli (W1077 c) 256#32) 128#32)) 128#32 = biasW (BitVec.ofNat 32 (rowPair c 1 1)) := by
  have e : ∀ c : Dev nD, Scalar.addi (Scalar.muli (W1077 c) 256#32) 128#32 = BitVec.ofNat 32 (rowPair c 1 1) := by decide +kernel
  rw [← e c]; rfl

/-- What the stretch takes. -/
def pre4 (c : Dev nD) : sProp 𝕄 :=
  iprop(records m K ∗ levAts L lv ∗ all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ xgP c (2 * (sh c 2).val) fullShare (xgAll m) ∗ (∃ f, xgP (sh c 1) (2 * (sh c 2).val) fullShare f) ∗ snd c 22 (sh c 1) 25
    ∗ rcv c 30 ∗ (∃ f, xgP (sh c 3) (2 * (sh c 2).val + 1) fullShare f) ∗ snd c 28 (sh c 3) 31
    ∗ rcv c 41 ∗ ((∃ f, txlP c 1 f) ∗ (∃ f, rxlP (sh c 3) 1 f) ∗ snd c 39 (sh c 3) 42)
    ∗ rcv c 35 ∗ ((∃ f, txrP c 1 f) ∗ (∃ f, rxrP (sh c 1) 1 f) ∗ snd c 33 (sh c 1) 36)
    ∗ owesE c ((dl c).drop 8))
/-- What it leaves. -/
def post4 (c : Dev nD) : sProp 𝕄 :=
  iprop(all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ xgP c (2 * (sh c 2).val) fullShare.right (xgAll m) ∗ rcv c 22
    ∗ fin c 30 ∗ xgP c (2 * (sh c 2).val + 1) fullShare.right (xgAll m) ∗ rcv c 28
    ∗ fin c 41 ∗ rxlP c 0 (rsL m (sh c 1)) ∗ rcv c 39
    ∗ fin c 35 ∗ rxrP c 0 (rsR m (sh c 3)) ∗ rcv c 33
    ∗ owesE c ((dl c).drop 12))

/-- A segment: the second pair of half blocks arrives, its attention, and the partial sums sent on. -/
theorem seg4 (c : Dev nD) {α : Type} {Q : α → sProp 𝕄}
    {kt : Prog (TpuEff nD τ sig (Elt F) Λ₀ .tc) α} :
    pre4 m K c ⊢ iprop((post4 m c -∗ wp frame (wpE (defs₀ (F := F)) 𝒱₀ (c : Thread nD τ) none) Set.univ kt Q)
      -∗ wp frame (wpE (defs₀ (F := F)) 𝒱₀ (c : Thread nD τ) none) Set.univ (do
          let v1077 ← on (k0_part31 (F := F)) c (W2 c) (W14 c)
          let ⟨v1093, v1110, v1114, v1124, cst⟩ ← on (k0_part32 (F := F)) c (W1048 c) v1077
          let ⟨v1127, v1161, v1165, v1166⟩ ← on (k0_part33 (F := F)) c v1110 v1114 v1124 cst
          let v1207 ← on (k0_part34 (F := F)) c v1110 v1114 v1127 v1161 v1165 v1166
          let v1248 ← on (k0_part35 (F := F)) c v1110 v1114 v1127 v1207
          let ⟨v1287, v1289⟩ ← on (k0_part36 (F := F)) c v1110 v1114 v1127 v1248
          let ⟨v1323, v1331, c128⟩ ← on (k0_part37 (F := F)) c v1093 v1110 v1114 v1127 v1287 v1289
          let ⟨v1336, v1368, v1370, v1372⟩ ← on (k0_part38 (F := F)) c v1110 v1323 v1331 c128
          let ⟨v1409, v1413, cst₁⟩ ← on (k0_part39 (F := F)) c v1110 v1323 v1336 v1368 v1370 v1372
          let v1453 ← on (k0_part40 (F := F)) c v1110 v1323 v1336 v1409 v1413 cst₁
          let ⟨v1490, v1496⟩ ← on (k0_part41 (F := F)) c v1110 v1323 v1336 v1453
          let v1532 ← on (k0_part42 (F := F)) c v1110 v1323 v1336 v1490 v1496
          on (k0_part43 (F := F)) c (W14 c) (W25 c) v1532
          on (k0_part44 (F := F)) c (W25 c) v1532
          kt) Q) := by
  simp only [on, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel,
    semSignalWord, semWaitWord, Prog.lift, Prog.bind_op, Prog.bind_ret, Prog.pure_eq_ret, wp_deviceId]
  unfold pre4
  iintro ⟨#Hrec, #Hlev, Hkv, Hctx, Hxq, Hs1, Hs2, Hx, Hf, Hsa, Hra, Hf', Hsb, Hrl, ⟨Htl, Hnl, Hsl⟩, Hrr, ⟨Htr, Hnr, Hsr⟩, HO⟩ Hk
  iapply (ag_go m K c (sh c 1) _ (dev9_eq c) (2 * (sh c 2).val) (off13_eq c 1) 22 25 (by decide) (by decide) ((dl c).drop 9) ?_ (pay_agrS m c 2) (pay_agrR' m c 2)) $$ [Hx Hf HO Hsa]
  · exact rfl
  · isplitr; · iexact Hrec
    isplitl [Hx]; · iexact Hx
    isplitl [Hf]; · iexact Hf
    isplitl [HO]; · iexact HO
    iexact Hsa
  iintro ⟨Hx, Hca, HO⟩
  iapply (recv_step m K c 30 (by decide) ((dl c).drop 9) (dl_lv c 9 _ (by decide)) ?_) $$ [Hra HO]
  · exact rfl
  · isplitr; · iexact Hrec
    isplitr; · iexact Hlev
    isplitl [Hra]; · iexact Hra
    iexact HO
  iintro ⟨HO, Hfa, Hy⟩
  ihave Hy := (Entails.of_eq (show dmaPay m c (30 : Fin 44).val = xgP c (2 * (sh c 2).val + 1) fullShare (xgAll m) from pay_aglR m c 1)) $$ Hy
  iapply (ag_go m K c (sh c 3) _ (dev10_eq c) (2 * (sh c 2).val + 1) (off14_eq c 1) 28 31 (by decide) (by decide) ((dl c).drop 10) ?_ (pay_aglS m c 2) (pay_aglR' m c 2)) $$ [Hy Hf' HO Hsb]
  · exact rfl
  · isplitr; · iexact Hrec
    isplitl [Hy]; · iexact Hy
    isplitl [Hf']; · iexact Hf'
    isplitl [HO]; · iexact HO
    iexact Hsb
  iintro ⟨Hy, Hcb, HO⟩
  iapply (pair_start m c 1 (r₀ := 2 * (sh c 2).val) (r₁ := 2 * (sh c 2).val + 1) rfl rfl (off15_eq c 1) (off16_eq c 1) ?_ ?_) $$ [Hx Hy Hxq Hs1]
  · exact fun v => shapeCast_self v _
  · exact fun v => shapeCast_self v _
  · isplitl [Hx]; · iexact Hx
    isplitl [Hy]; · iexact Hy
    isplitl [Hxq]; · iexact Hxq
    iexact Hs1
  iintro ⟨Hx, Hy, Hxq, Hs1⟩
  ihave Hctx := (held_none c ctxM (ctxG m Nat.two_pos c (qPair m c 1) (rowPair c 1))) $$ Hctx
  ihave Hctx := (held_weaken c ctxM (D' := fun y => blk y < 8 * (0 : Fin 2).val + (0 : Fin 8).val) (G' := ctxG m Nat.two_pos c (qPair m c 1) (rowPair c 1)) (fun y h => absurd h (Nat.not_lt_zero _))) $$ Hctx
  icombine Hkv Hctx as H
  iapply (head_step m c 0 Nat.two_pos 0 (qPair m c 1) (rowPair c 1) ?_ ?_ ?_) $$ [H]
  · exact off17_eq c 1
  · exact rfl
  · exact headVal_slice (off := ![0, 0]) (h := slices_S256x1024_o0_0_S128x128) rfl (bias_10 c) rfl
  · iexact H
  iintro H
  iapply (head_step m c 1 Nat.two_pos 0 (qPair m c 1) (rowPair c 1) ?_ ?_ ?_) $$ [H]
  · exact off18_eq c 1
  · exact rfl
  · exact headVal_slice (off := ![0, 128]) (h := slices_S256x1024_o0_128_S128x128) rfl (bias_10 c) rfl
  · iexact H
  iintro H
  iapply (head_step m c 2 Nat.two_pos 0 (qPair m c 1) (rowPair c 1) ?_ ?_ ?_) $$ [H]
  · exact off19_eq c 1
  · exact rfl
  · exact headVal_slice (off := ![0, 256]) (h := slices_S256x1024_o0_256_S128x128) rfl (bias_10 c) rfl
  · iexact H
  iintro H
  iapply (head_step m c 3 Nat.two_pos 0 (qPair m c 1) (rowPair c 1) ?_ ?_ ?_) $$ [H]
  · exact off20_eq c 1
  · exact rfl
  · exact headVal_slice (off := ![0, 384]) (h := slices_S256x1024_o0_384_S128x128) rfl (bias_10 c) rfl
  · iexact H
  iintro H
  iapply (head_step m c 4 Nat.two_pos 0 (qPair m c 1) (rowPair c 1) ?_ ?_ ?_) $$ [H]
  · exact off21_eq c 1
  · exact rfl
  · exact headVal_slice (off := ![0, 512]) (h := slices_S256x1024_o0_512_S128x128) rfl (bias_10 c) rfl
  · iexact H
  iintro H
  iapply (head_step m c 5 Nat.two_pos 0 (qPair m c 1) (rowPair c 1) ?_ ?_ ?_) $$ [H]
  · exact off22_eq c 1
  · exact rfl
  · exact headVal_slice (off := ![0, 640]) (h := slices_S256x1024_o0_640_S128x128) rfl (bias_10 c) rfl
  · iexact H
  iintro H
  iapply (head_step m c 6 Nat.two_pos 0 (qPair m c 1) (rowPair c 1) ?_ ?_ ?_) $$ [H]
  · exact off23_eq c 1
  · exact rfl
  · exact headVal_slice (off := ![0, 768]) (h := slices_S256x1024_o0_768_S128x128) rfl (bias_10 c) rfl
  · iexact H
  iintro H
  iapply (head_step m c 7 Nat.two_pos 0 (qPair m c 1) (rowPair c 1) ?_ ?_ ?_) $$ [H]
  · exact off24_eq c 1
  · exact rfl
  · exact headVal_slice (off := ![0, 896]) (h := slices_S256x1024_o0_896_S128x128) rfl (bias_10 c) rfl
  · iexact H
  iintro H
  iapply (head_step m c 0 Nat.two_pos 1 (qPair m c 1) (rowPair c 1) ?_ ?_ ?_) $$ [H]
  · exact off25_eq c 1
  · exact rfl
  · exact headVal_slice (off := ![128, 0]) (h := slices_S256x1024_o128_0_S128x128) rfl (bias_11 c) rfl
  · iexact H
  iintro H
  iapply (head_step m c 1 Nat.two_pos 1 (qPair m c 1) (rowPair c 1) ?_ ?_ ?_) $$ [H]
  · exact off26_eq c 1
  · exact rfl
  · exact headVal_slice (off := ![128, 128]) (h := slices_S256x1024_o128_128_S128x128) rfl (bias_11 c) rfl
  · iexact H
  iintro H
  iapply (head_step m c 2 Nat.two_pos 1 (qPair m c 1) (rowPair c 1) ?_ ?_ ?_) $$ [H]
  · exact off27_eq c 1
  · exact rfl
  · exact headVal_slice (off := ![128, 256]) (h := slices_S256x1024_o128_256_S128x128) rfl (bias_11 c) rfl
  · iexact H
  iintro H
  iapply (head_step m c 3 Nat.two_pos 1 (qPair m c 1) (rowPair c 1) ?_ ?_ ?_) $$ [H]
  · exact off28_eq c 1
  · exact rfl
  · exact headVal_slice (off := ![128, 384]) (h := slices_S256x1024_o128_384_S128x128) rfl (bias_11 c) rfl
  · iexact H
  iintro H
  iapply (head_step m c 4 Nat.two_pos 1 (qPair m c 1) (rowPair c 1) ?_ ?_ ?_) $$ [H]
  · exact off29_eq c 1
  · exact rfl
  · exact headVal_slice (off := ![128, 512]) (h := slices_S256x1024_o128_512_S128x128) rfl (bias_11 c) rfl
  · iexact H
  iintro H
  iapply (head_step m c 5 Nat.two_pos 1 (qPair m c 1) (rowPair c 1) ?_ ?_ ?_) $$ [H]
  · exact off30_eq c 1
  · exact rfl
  · exact headVal_slice (off := ![128, 640]) (h := slices_S256x1024_o128_640_S128x128) rfl (bias_11 c) rfl
  · iexact H
  iintro H
  iapply (head_step m c 6 Nat.two_pos 1 (qPair m c 1) (rowPair c 1) ?_ ?_ ?_) $$ [H]
  · exact off31_eq c 1
  · exact rfl
  · exact headVal_slice (off := ![128, 768]) (h := slices_S256x1024_o128_768_S128x128) rfl (bias_11 c) rfl
  · iexact H
  iintro H
  iapply (head_step m c 7 Nat.two_pos 1 (qPair m c 1) (rowPair c 1) ?_ ?_ ?_) $$ [H]
  · exact off32_eq c 1
  · exact rfl
  · exact headVal_slice (off := ![128, 896]) (h := slices_S256x1024_o128_896_S128x128) rfl (bias_11 c) rfl
  · iexact H
  iintro H
  icases H with ⟨Hkv, Hctx⟩
  iapply (pair_fin m c 1) $$ [Hctx Hs2]
  · isplitl [Hctx]; · iexact Hctx
    iexact Hs2
  iintro ⟨Hctx, Hs2⟩
  iapply (recv_step m K c 41 (by decide) ((dl c).drop 10) (dl_lv c 10 _ (by decide)) ?_) $$ [Hrl HO]
  · exact rfl
  · isplitr; · iexact Hrec
    isplitr; · iexact Hlev
    isplitl [Hrl]; · iexact Hrl
    iexact HO
  iintro ⟨HO, Hfl, Hzl⟩
  ihave Hzl := (Entails.of_eq (show dmaPay m c (41 : Fin 44).val = rxlP c 0 (rsL m (sh c 1)) from pay_rslR m c 0)) $$ Hzl
  iapply (ld_rxl c 0 (rsL m (sh c 1)) rfl) $$ [Hzl]
  · iexact Hzl
  iintro Hzl
  iapply (rsl_go m K c (sh c 3) _ (dev11_eq c) 1 rfl rfl 39 42 (by decide) (by decide) ((dl c).drop 11) ?_ (pay_rslS m c 1) (pay_rslR' m c 1) ?_) $$ [Htl Hnl HO Hsl]
  · exact rfl
  · exact (congrArg (k0_pay107 (oPair m c 1)) (rs_eta (accL m 0 (sh c 1))).symm).trans (rs_eta (k0_pay107 (oPair m c 1) (accL m 0 (sh c 1))))
  · isplitr; · iexact Hrec
    isplitl [Htl]; · iexact Htl
    isplitl [Hnl]; · iexact Hnl
    isplitl [HO]; · iexact HO
    iexact Hsl
  iintro ⟨Hcl, HO⟩
  iapply (recv_step m K c 35 (by decide) ((dl c).drop 11) (dl_lv c 11 _ (by decide)) ?_) $$ [Hrr HO]
  · exact rfl
  · isplitr; · iexact Hrec
    isplitr; · iexact Hlev
    isplitl [Hrr]; · iexact Hrr
    iexact HO
  iintro ⟨HO, Hfr, Hzr⟩
  ihave Hzr := (Entails.of_eq (show dmaPay m c (35 : Fin 44).val = rxrP c 0 (rsR m (sh c 3)) from pay_rsrR m c 0)) $$ Hzr
  iapply (ld_rxr c 0 (rsR m (sh c 3)) rfl) $$ [Hzr]
  · iexact Hzr
  iintro Hzr
  iapply (rsr_go m K c (sh c 1) _ (dev12_eq c) 1 rfl rfl 33 36 (by decide) (by decide) ((dl c).drop 12) ?_ (pay_rsrS m c 1) (pay_rsrR' m c 1) ?_) $$ [Htr Hnr HO Hsr]
  · exact rfl
  · exact (congrArg (k0_pay108 (oPair m c 1)) (rs_eta (accR m 0 (sh c 3))).symm).trans (rs_eta (k0_pay108 (oPair m c 1) (accR m 0 (sh c 3))))
  · isplitr; · iexact Hrec
    isplitl [Htr]; · iexact Htr
    isplitl [Hnr]; · iexact Hnr
    isplitl [HO]; · iexact HO
    iexact Hsr
  iintro ⟨Hcr, HO⟩
  iapply Hk
  unfold post4
  isplitl [Hkv]; · iexact Hkv
  isplitl [Hctx]; · iexact Hctx
  isplitl [Hxq]; · iexact Hxq
  isplitl [Hs1]; · iexact Hs1
  isplitl [Hs2]; · iexact Hs2
  isplitl [Hx]; · iexact Hx
  isplitl [Hca]; · iexact Hca
  isplitl [Hfa]; · iexact Hfa
  isplitl [Hy]; · iexact Hy
  isplitl [Hcb]; · iexact Hcb
  isplitl [Hfl]; · iexact Hfl
  isplitl [Hzl]; · iexact Hzl
  isplitl [Hcl]; · iexact Hcl
  isplitl [Hfr]; · iexact Hfr
  isplitl [Hzr]; · iexact Hzr
  isplitl [Hcr]; · iexact Hcr
  iexact HO

end Cert.KernelIdeal.Att

end
-- ==== Proof.Seg5.lean ====
module

public import proofs.«01_k».proof.Proof.Seg4

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Fifth stretch: the halves that came last -/

abbrev W1605 (c : Dev nD) : BitVec 32 := wrap (Scalar.subi (Scalar.subi (Scalar.addi (W2 c) 4#32) 1#32) 2#32)
abbrev W1623 (c : Dev nD) : BitVec 32 := wrap (Scalar.addi (Scalar.addi (W2 c) 1#32) 2#32)
abbrev W2124 (c : Dev nD) : BitVec 32 := Scalar.addi (Scalar.muli (W2 c) 256#32) 128#32

/-- The mask that the kernel builds for the third pair's upper half, -/
theorem bias_20 (c : Dev nD) : k0_pay112 (F := F) (Scalar.muli (W1605 c) 256#32) = biasW (BitVec.ofNat 32 (rowPair c 2 0)) := by
  have e : ∀ c : Dev nD, Scalar.muli (W1605 c) 256#32 = BitVec.ofNat 32 (rowPair c 2 0) := by decide +kernel
  rw [← e c]; rfl
/-- and for its lower half. -/
theorem bias_21 (c : Dev nD) : k0_pay133 (F := F) (k0_pay130 (Scalar.addi (Scalar.muli (W1623 c) 256#32) 128#32)) k0_pay131 k0_pay132 = biasW (BitVec.ofNat 32 (rowPair c 2 1)) := by
  have e : ∀ c : Dev nD, Scalar.addi (Scalar.muli (W1623 c) 256#32) 128#32 = BitVec.ofNat 32 (rowPair c 2 1) := by decide +kernel
  rw [← e c]; rfl

/-- What the stretch takes. -/
def pre5 (c : Dev nD) : sProp 𝕄 :=
  iprop(records m K ∗ levAts L lv ∗ all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ rcv c 25 ∗ rcv c 31
    ∗ rcv c 36 ∗ ((∃ f, txrP c 2 f) ∗ (∃ f, rxrP (sh c 1) 2 f) ∗ snd c 34 (sh c 1) 37)
    ∗ rcv c 42 ∗ ((∃ f, txlP c 2 f) ∗ (∃ f, rxlP (sh c 3) 2 f) ∗ snd c 40 (sh c 3) 43)
    ∗ xgP c (2 * c.val + 1) fullShare.right (xgAll m)
    ∗ owesE c ((dl c).drop 12))
/-- What it leaves. -/
def post5 (c : Dev nD) : sProp 𝕄 :=
  iprop(all8 (kvDone m c)
    ∗ (∃ f, (ctxM.view.loc (c : Thread nD τ) ↦{fullShare} f)) ∗ (∃ f, (xqM.view.loc (c : Thread nD τ) ↦{fullShare} f))
    ∗ ((Memref.whole cc0_stg1_0).view.loc (c : Thread nD τ) ↦{fullShare} wqA m c)
    ∗ ((Memref.whole cc0_stg2_0).view.loc (c : Thread nD τ) ↦{fullShare} woA m c)
    ∗ fin c 25 ∗ xgP c (2 * (sh c 1).val) fullShare (xgAll m)
    ∗ fin c 31 ∗ xgP c (2 * (sh c 3).val + 1) fullShare (xgAll m)
    ∗ fin c 36 ∗ rxrP c 1 (rsR m (sh c 3)) ∗ rcv c 34
    ∗ fin c 42 ∗ rxlP c 1 (rsL m (sh c 1)) ∗ rcv c 40
    ∗ xgP c (2 * c.val + 1) fullShare.right (xgAll m)
    ∗ owesE c ((dl c).drop 14))

/-- A segment: the third pair of half blocks arrives, its attention, and the partial sums sent on. -/
theorem seg5 (c : Dev nD) {α : Type} {Q : α → sProp 𝕄}
    {kt : BitVec 32 → FVec F S128x1024 .bf16 → Prog (TpuEff nD τ sig (Elt F) Λ₀ .tc) α} :
    pre5 m K c ⊢ iprop((post5 m c -∗ wp frame (wpE (defs₀ (F := F)) 𝒱₀ (c : Thread nD τ) none) Set.univ (kt (W2124 c) (qOwn m c 1)) Q)
      -∗ wp frame (wpE (defs₀ (F := F)) 𝒱₀ (c : Thread nD τ) none) Set.univ (do
          let ⟨v1623, v1625, c256⟩ ← on (k0_part45 (F := F)) c (W2 c) (W14 c)
          let ⟨v1628, v1645, v1649, v1662, v1663⟩ ← on (k0_part46 (F := F)) c v1623 v1625 c256
          let ⟨v1702, v1705⟩ ← on (k0_part47 (F := F)) c v1645 v1649 v1662 v1663
          let ⟨v1742, v1744⟩ ← on (k0_part48 (F := F)) c v1645 v1649 v1662 v1702 v1705
          let ⟨v1783, v1787⟩ ← on (k0_part49 (F := F)) c v1645 v1649 v1662 v1742 v1744
          let ⟨v1827, v1828⟩ ← on (k0_part50 (F := F)) c v1645 v1649 v1662 v1783 v1787
          let ⟨v1858, v1868, v1869, v1870⟩ ← on (k0_part51 (F := F)) c v1628 v1645 v1649 v1662 v1827 v1828
          let ⟨v1871, v1905, v1911, cst⟩ ← on (k0_part52 (F := F)) c v1645 v1858 v1868 v1869 v1870
          let ⟨v1951, v1953⟩ ← on (k0_part53 (F := F)) c v1645 v1858 v1871 v1905 v1911 cst
          let v1992 ← on (k0_part54 (F := F)) c v1645 v1858 v1871 v1951 v1953
          let v2036 ← on (k0_part55 (F := F)) c v1645 v1858 v1871 v1992
          let v2067 ← on (k0_part56 (F := F)) c (W25 c) v1645 v1858 v1871 v2036
          on (k0_part57 (F := F)) c (W14 c) (W25 c) v2067
          let ⟨v2124, v2132⟩ ← on (k0_part58 (F := F)) c (W2 c) (W14 c) v2067
          kt v2124 v2132) Q) := by
  simp only [on, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel,
    semSignalWord, semWaitWord, Prog.lift, Prog.bind_op, Prog.bind_ret, Prog.pure_eq_ret, wp_deviceId]
  unfold pre5
  iintro ⟨#Hrec, #Hlev, Hkv, Hctx, Hxq, Hs1, Hs2, Hra, Hrb, Hrr, ⟨Htr, Hnr, Hsr⟩, Hrl, ⟨Htl, Hnl, Hsl⟩, Hxo, HO⟩ Hk
  iapply (recv_step m K c 25 (by decide) ((dl c).drop 12) (dl_lv c 12 _ (by decide)) ?_) $$ [Hra HO]
  · exact rfl
  · isplitr; · iexact Hrec
    isplitr; · iexact Hlev
    isplitl [Hra]; · iexact Hra
    iexact HO
  iintro ⟨HO, Hfa, Hx⟩
  ihave Hx := (Entails.of_eq (show dmaPay m c (25 : Fin 44).val = xgP c (2 * (sh c 1).val) fullShare (xgAll m) from pay_agrR m c 2)) $$ Hx
  iapply (recv_step m K c 31 (by decide) ((dl c).drop 12) (dl_lv c 12 _ (by decide)) ?_) $$ [Hrb HO]
  · exact rfl
  · isplitr; · iexact Hrec
    isplitr; · iexact Hlev
    isplitl [Hrb]; · iexact Hrb
    iexact HO
  iintro ⟨HO, Hfb, Hy⟩
  ihave Hy := (Entails.of_eq (show dmaPay m c (31 : Fin 44).val = xgP c (2 * (sh c 3).val + 1) fullShare (xgAll m) from pay_aglR m c 2)) $$ Hy
  iapply (pair_start m c 2 (r₀ := 2 * (sh c 1).val) (r₁ := 2 * (sh c 3).val + 1) rfl rfl (off15_eq c 2) (off16_eq c 2) ?_ ?_) $$ [Hx Hy Hxq Hs1]
  · exact fun v => shapeCast_self v _
  · exact fun v => shapeCast_self v _
  · isplitl [Hx]; · iexact Hx
    isplitl [Hy]; · iexact Hy
    isplitl [Hxq]; · iexact Hxq
    iexact Hs1
  iintro ⟨Hx, Hy, Hxq, Hs1⟩
  ihave Hctx := (held_none c ctxM (ctxG m Nat.two_pos c (qPair m c 2) (rowPair c 2))) $$ Hctx
  ihave Hctx := (held_weaken c ctxM (D' := fun y => blk y < 8 * (0 : Fin 2).val + (0 : Fin 8).val) (G' := ctxG m Nat.two_pos c (qPair m c 2) (rowPair c 2)) (fun y h => absurd h (Nat.not_lt_zero _))) $$ Hctx
  icombine Hkv Hctx as H
  iapply (head_step m c 0 Nat.two_pos 0 (qPair m c 2) (rowPair c 2) ?_ ?_ ?_) $$ [H]
  · exact off17_eq c 2
  · exact rfl
  · exact headVal_slice (off := ![0, 0]) (h := slices_S256x1024_o0_0_S128x128) rfl (bias_20 c) rfl
  · iexact H
  iintro H
  iapply (head_step m c 1 Nat.two_pos 0 (qPair m c 2) (rowPair c 2) ?_ ?_ ?_) $$ [H]
  · exact off18_eq c 2
  · exact rfl
  · exact headVal_slice (off := ![0, 128]) (h := slices_S256x1024_o0_128_S128x128) rfl (bias_20 c) rfl
  · iexact H
  iintro H
  iapply (head_step m c 2 Nat.two_pos 0 (qPair m c 2) (rowPair c 2) ?_ ?_ ?_) $$ [H]
  · exact off19_eq c 2
  · exact rfl
  · exact headVal_slice (off := ![0, 256]) (h := slices_S256x1024_o0_256_S128x128) rfl (bias_20 c) rfl
  · iexact H
  iintro H
  iapply (head_step m c 3 Nat.two_pos 0 (qPair m c 2) (rowPair c 2) ?_ ?_ ?_) $$ [H]
  · exact off20_eq c 2
  · exact rfl
  · exact headVal_slice (off := ![0, 384]) (h := slices_S256x1024_o0_384_S128x128) rfl (bias_20 c) rfl
  · iexact H
  iintro H
  iapply (head_step m c 4 Nat.two_pos 0 (qPair m c 2) (rowPair c 2) ?_ ?_ ?_) $$ [H]
  · exact off21_eq c 2
  · exact rfl
  · exact headVal_slice (off := ![0, 512]) (h := slices_S256x1024_o0_512_S128x128) rfl (bias_20 c) rfl
  · iexact H
  iintro H
  iapply (head_step m c 5 Nat.two_pos 0 (qPair m c 2) (rowPair c 2) ?_ ?_ ?_) $$ [H]
  · exact off22_eq c 2
  · exact rfl
  · exact headVal_slice (off := ![0, 640]) (h := slices_S256x1024_o0_640_S128x128) rfl (bias_20 c) rfl
  · iexact H
  iintro H
  iapply (head_step m c 6 Nat.two_pos 0 (qPair m c 2) (rowPair c 2) ?_ ?_ ?_) $$ [H]
  · exact off23_eq c 2
  · exact rfl
  · exact headVal_slice (off := ![0, 768]) (h := slices_S256x1024_o0_768_S128x128) rfl (bias_20 c) rfl
  · iexact H
  iintro H
  iapply (head_step m c 7 Nat.two_pos 0 (qPair m c 2) (rowPair c 2) ?_ ?_ ?_) $$ [H]
  · exact off24_eq c 2
  · exact rfl
  · exact headVal_slice (off := ![0, 896]) (h := slices_S256x1024_o0_896_S128x128) rfl (bias_20 c) rfl
  · iexact H
  iintro H
  iapply (head_step m c 0 Nat.two_pos 1 (qPair m c 2) (rowPair c 2) ?_ ?_ ?_) $$ [H]
  · exact off25_eq c 2
  · exact rfl
  · exact headVal_slice (off := ![128, 0]) (h := slices_S256x1024_o128_0_S128x128) rfl (bias_21 c) rfl
  · iexact H
  iintro H
  iapply (head_step m c 1 Nat.two_pos 1 (qPair m c 2) (rowPair c 2) ?_ ?_ ?_) $$ [H]
  · exact off26_eq c 2
  · exact rfl
  · exact headVal_slice (off := ![128, 128]) (h := slices_S256x1024_o128_128_S128x128) rfl (bias_21 c) rfl
  · iexact H
  iintro H
  iapply (head_step m c 2 Nat.two_pos 1 (qPair m c 2) (rowPair c 2) ?_ ?_ ?_) $$ [H]
  · exact off27_eq c 2
  · exact rfl
  · exact headVal_slice (off := ![128, 256]) (h := slices_S256x1024_o128_256_S128x128) rfl (bias_21 c) rfl
  · iexact H
  iintro H
  iapply (head_step m c 3 Nat.two_pos 1 (qPair m c 2) (rowPair c 2) ?_ ?_ ?_) $$ [H]
  · exact off28_eq c 2
  · exact rfl
  · exact headVal_slice (off := ![128, 384]) (h := slices_S256x1024_o128_384_S128x128) rfl (bias_21 c) rfl
  · iexact H
  iintro H
  iapply (head_step m c 4 Nat.two_pos 1 (qPair m c 2) (rowPair c 2) ?_ ?_ ?_) $$ [H]
  · exact off29_eq c 2
  · exact rfl
  · exact headVal_slice (off := ![128, 512]) (h := slices_S256x1024_o128_512_S128x128) rfl (bias_21 c) rfl
  · iexact H
  iintro H
  iapply (head_step m c 5 Nat.two_pos 1 (qPair m c 2) (rowPair c 2) ?_ ?_ ?_) $$ [H]
  · exact off30_eq c 2
  · exact rfl
  · exact headVal_slice (off := ![128, 640]) (h := slices_S256x1024_o128_640_S128x128) rfl (bias_21 c) rfl
  · iexact H
  iintro H
  iapply (head_step m c 6 Nat.two_pos 1 (qPair m c 2) (rowPair c 2) ?_ ?_ ?_) $$ [H]
  · exact off31_eq c 2
  · exact rfl
  · exact headVal_slice (off := ![128, 768]) (h := slices_S256x1024_o128_768_S128x128) rfl (bias_21 c) rfl
  · iexact H
  iintro H
  iapply (head_step m c 7 Nat.two_pos 1 (qPair m c 2) (rowPair c 2) ?_ ?_ ?_) $$ [H]
  · exact off32_eq c 2
  · exact rfl
  · exact headVal_slice (off := ![128, 896]) (h := slices_S256x1024_o128_896_S128x128) rfl (bias_21 c) rfl
  · iexact H
  iintro H
  icases H with ⟨Hkv, Hctx⟩
  iapply (pair_fin m c 2) $$ [Hctx Hs2]
  · isplitl [Hctx]; · iexact Hctx
    iexact Hs2
  iintro ⟨Hctx, Hs2⟩
  iapply (recv_step m K c 36 (by decide) ((dl c).drop 12) (dl_lv c 12 _ (by decide)) ?_) $$ [Hrr HO]
  · exact rfl
  · isplitr; · iexact Hrec
    isplitr; · iexact Hlev
    isplitl [Hrr]; · iexact Hrr
    iexact HO
  iintro ⟨HO, Hfr, Hzr⟩
  ihave Hzr := (Entails.of_eq (show dmaPay m c (36 : Fin 44).val = rxrP c 1 (rsR m (sh c 3)) from pay_rsrR m c 1)) $$ Hzr
  iapply (ld_rxr c 1 (rsR m (sh c 3)) rfl) $$ [Hzr]
  · iexact Hzr
  iintro Hzr
  iapply (rsr_go m K c (sh c 1) _ (dev13_eq c) 2 rfl rfl 34 37 (by decide) (by decide) ((dl c).drop 13) ?_ (pay_rsrS m c 2) (pay_rsrR' m c 2) ?_) $$ [Htr Hnr HO Hsr]
  · exact rfl
  · exact (congrArg (k0_pay108 (oPair m c 2)) (rs_eta (accR m 1 (sh c 3))).symm).trans (rs_eta (k0_pay108 (oPair m c 2) (accR m 1 (sh c 3))))
  · isplitr; · iexact Hrec
    isplitl [Htr]; · iexact Htr
    isplitl [Hnr]; · iexact Hnr
    isplitl [HO]; · iexact HO
    iexact Hsr
  iintro ⟨Hcr, HO⟩
  iapply (recv_step m K c 42 (by decide) ((dl c).drop 13) (dl_lv c 13 _ (by decide)) ?_) $$ [Hrl HO]
  · exact rfl
  · isplitr; · iexact Hrec
    isplitr; · iexact Hlev
    isplitl [Hrl]; · iexact Hrl
    iexact HO
  iintro ⟨HO, Hfl, Hzl⟩
  ihave Hzl := (Entails.of_eq (show dmaPay m c (42 : Fin 44).val = rxlP c 1 (rsL m (sh c 1)) from pay_rslR m c 1)) $$ Hzl
  iapply (ld_rxl c 1 (rsL m (sh c 1)) rfl) $$ [Hzl]
  · iexact Hzl
  iintro Hzl
  iapply (rsl_go m K c (sh c 3) _ (dev14_eq c) 2 rfl rfl 40 43 (by decide) (by decide) ((dl c).drop 14) ?_ (pay_rslS m c 2) (pay_rslR' m c 2) ?_) $$ [Htl Hnl HO Hsl]
  · exact rfl
  · exact (congrArg (k0_pay107 (oPair m c 2)) (rs_eta (accL m 1 (sh c 1))).symm).trans (rs_eta (k0_pay107 (oPair m c 2) (accL m 1 (sh c 1))))
  · isplitr; · iexact Hrec
    isplitl [Htl]; · iexact Htl
    isplitl [Hnl]; · iexact Hnl
    isplitl [HO]; · iexact HO
    iexact Hsl
  iintro ⟨Hcl, HO⟩
  iapply (ld_x c (2 * c.val + 1) fullShare.right (xgAll m) (off4_eq c 1)) $$ [Hxo]
  · iexact Hxo
  iintro Hxo
  iapply (ld_wq c (wqA m c)) $$ [Hs1]
  · iexact Hs1
  iintro Hs1
  rw [show rows (xgAll m) (2 * c.val + 1) = xOwn m c 1 from rows_xg m c 1, show k0_pay152 (xOwn m c 1) (wqA m c) = qOwn m c 1 from rfl]
  iapply Hk
  unfold post5
  isplitl [Hkv]; · iexact Hkv
  isplitl [Hctx]; · iexact Hctx
  isplitl [Hxq]; · iexact Hxq
  isplitl [Hs1]; · iexact Hs1
  isplitl [Hs2]; · iexact Hs2
  isplitl [Hfa]; · iexact Hfa
  isplitl [Hx]; · iexact Hx
  isplitl [Hfb]; · iexact Hfb
  isplitl [Hy]; · iexact Hy
  isplitl [Hfr]; · iexact Hfr
  isplitl [Hzr]; · iexact Hzr
  isplitl [Hcr]; · iexact Hcr
  isplitl [Hfl]; · iexact Hfl
  isplitl [Hzl]; · iexact Hzl
  isplitl [Hcl]; · iexact Hcl
  isplitl [Hxo]; · iexact Hxo
  iexact HO

end Cert.KernelIdeal.Att

end
-- ==== Proof.Seg6.lean ====
module

public import proofs.«01_k».proof.Proof.Seg5

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # Last stretch: the device's own lower half block, the results, the senders' waits -/

/-- The mask that the kernel builds for its second own half block. -/
theorem bias_own1 (c : Dev nD) : k0_pay153 (F := F) (W2124 c) = biasW (BitVec.ofNat 32 (rowOwn c 1)) := by
  have e : ∀ c : Dev nD, W2124 c = BitVec.ofNat 32 (rowOwn c 1) := by decide +kernel
  rw [← e c]; rfl

/-- A slab of 128 rows of the result. -/
theorem out_emb (j : ℕ) {off : Fin 3 → ℕ} (hoff : off = ![0, 128 * j, 0]) (inb) (i : Fin 128) (k : Fin 1024) :
    ((Rect.unit (s := S1x256x1024) off S1x128x1024.size inb).emb (ix3 0 i k) 1).val = 128 * j + i.val
      ∧ (Rect.unit (s := S1x256x1024) off S1x128x1024.size inb).emb (ix3 0 i k) 2 = k := by
  subst hoff
  refine ⟨?_, Fin.ext ?_⟩
  · show 128 * j + 1 * i.val = _; omega
  · show 0 + 1 * k.val = _; omega

/-- An index of the result lies in its half's rectangle. -/
theorem out_mem (j : ℕ) {off : Fin 3 → ℕ} (hoff : off = ![0, 128 * j, 0]) (inb) (y : S1x256x1024.Idx) (h : (y 1).val / 128 = j) :
    y ∈ (Rect.unit (s := S1x256x1024) off S1x128x1024.size inb).set := by
  subst hoff
  rw [Rect.mem_set_unit]
  have h0 := (y 0).isLt
  change (y 0).val < 1 at h0
  have h1 := (y 2).isLt
  change (y 2).val < 1024 at h1
  intro a
  fin_cases a
  · show 0 ≤ (y 0).val ∧ (y 0).val < 0 + 1; omega
  · show 128 * j ≤ (y 1).val ∧ (y 1).val < 128 * j + 128; omega
  · show 0 ≤ (y 2).val ∧ (y 2).val < 0 + 1024; omega

/-- The upper half of the result is what the kernel stores there, -/
theorem out_lo (c : Dev nD) (inb) (x : S1x128x1024.Idx) :
    k0_pay172 (oOwn m c 0) (accR m 2 (sh c 3)) x = outC m c ((Rect.unit (s := S1x256x1024) ![0, 0, 0] S1x128x1024.size inb).emb x) := by
  obtain ⟨a, i, k, rfl⟩ := ix3_eta x
  obtain rfl : a = 0 := Subsingleton.elim a 0
  obtain ⟨e0, e1⟩ := out_emb 0 (off := ![0, 0, 0]) rfl inb i k
  have hi := i.isLt
  generalize (Rect.unit (s := S1x256x1024) ![0, 0, 0] S1x128x1024.size inb).emb (ix3 0 i k) = z at e0 e1
  unfold outC
  rw [if_pos (show (z 1).val < 128 by omega), e1]
  simp only [show (z 1).val % 128 = i.val by omega, Fin.eta]

/-- and so is the lower half. -/
theorem out_hi (c : Dev nD) (inb) (x : S1x128x1024.Idx) :
    k0_pay173 (oOwn m c 1) (accL m 2 (sh c 1)) x = outC m c ((Rect.unit (s := S1x256x1024) ![0, 128, 0] S1x128x1024.size inb).emb x) := by
  obtain ⟨a, i, k, rfl⟩ := ix3_eta x
  obtain rfl : a = 0 := Subsingleton.elim a 0
  obtain ⟨e0, e1⟩ := out_emb 1 (off := ![0, 128, 0]) rfl inb i k
  have hi := i.isLt
  generalize (Rect.unit (s := S1x256x1024) ![0, 128, 0] S1x128x1024.size inb).emb (ix3 0 i k) = z at e0 e1
  unfold outC
  rw [if_neg (show ¬ (z 1).val < 128 by omega), e1]
  simp only [show (z 1).val % 128 = i.val by omega, Fin.eta]

/-- What the stretch takes. -/
def pre6 (c : Dev nD) : sProp 𝕄 :=
  iprop(records m K ∗ levAts L lv ∗ all8 (kvDone m c)
    ∗ (∃ f, (ctxM.view.loc (c : Thread nD τ) ↦{fullShare} f)) ∗ held c pM (fun y => (y 0).val < 128) (pG m c)
    ∗ (∃ f, (outM.view.loc (c : Thread nD τ) ↦{fullShare} f))
    ∗ ((Memref.whole cc0_stg2_0).view.loc (c : Thread nD τ) ↦{fullShare} woA m c)
    ∗ rcv c 37 ∗ rcv c 43
    ∗ rcv c 20 ∗ rcv c 21 ∗ rcv c 22 ∗ rcv c 26 ∗ rcv c 27 ∗ rcv c 28 ∗ rcv c 32 ∗ rcv c 33 ∗ rcv c 34 ∗ rcv c 38 ∗ rcv c 39
    ∗ owesE c ((dl c).drop 14))
/-- What it leaves. -/
def post6 (c : Dev nD) : sProp 𝕄 :=
  iprop(all8 (kvDone m c)
    ∗ (∃ f, (ctxM.view.loc (c : Thread nD τ) ↦{fullShare} f)) ∗ (∃ f, (pM.view.loc (c : Thread nD τ) ↦{fullShare} f))
    ∗ held c outM (fun _ => True) (outC m c)
    ∗ ((Memref.whole cc0_stg2_0).view.loc (c : Thread nD τ) ↦{fullShare} woA m c)
    ∗ (fin c 37 ∗ rxrP c 2 (rsR m (sh c 3))) ∗ (fin c 43 ∗ rxlP c 2 (rsL m (sh c 1)))
    ∗ (fin c 20 ∗ xgP c (2 * (sh c 4).val) fullShare.left (xgAll m))
    ∗ (fin c 21 ∗ xgP c (2 * (sh c 3).val) fullShare.left (xgAll m))
    ∗ (fin c 22 ∗ xgP c (2 * (sh c 2).val) fullShare.left (xgAll m))
    ∗ (fin c 26 ∗ xgP c (2 * (sh c 0).val + 1) fullShare.left (xgAll m))
    ∗ (fin c 27 ∗ xgP c (2 * (sh c 1).val + 1) fullShare.left (xgAll m))
    ∗ (fin c 28 ∗ xgP c (2 * (sh c 2).val + 1) fullShare.left (xgAll m))
    ∗ (fin c 32 ∗ txrP c 0 (rsR m c))
    ∗ (fin c 33 ∗ txrP c 1 (rsR m c))
    ∗ (fin c 34 ∗ txrP c 2 (rsR m c))
    ∗ (fin c 38 ∗ txlP c 0 (rsL m c))
    ∗ (fin c 39 ∗ txlP c 1 (rsL m c))
    ∗ owesE c ((dl c).drop 14))

/-- The last segment: the second own half block, the last arrivals, the result, and the waits for the sends. -/
theorem seg6 (c : Dev nD) {α : Type} {Q : α → sProp 𝕄}
    {kt : Prog (TpuEff nD τ sig (Elt F) Λ₀ .tc) α} :
    pre6 m K c ⊢ iprop((post6 m c -∗ wp frame (wpE (defs₀ (F := F)) 𝒱₀ (c : Thread nD τ) none) Set.univ kt Q)
      -∗ wp frame (wpE (defs₀ (F := F)) 𝒱₀ (c : Thread nD τ) none) Set.univ (do
          let ⟨v2136, v2149, v2174⟩ ← on (k0_part59 (F := F)) c (W2124 c) (qOwn m c 1)
          let ⟨v2213, v2216⟩ ← on (k0_part60 (F := F)) c (qOwn m c 1) v2136 v2149 v2174
          let ⟨v2253, v2255⟩ ← on (k0_part61 (F := F)) c (qOwn m c 1) v2136 v2149 v2213 v2216
          let ⟨v2294, v2298⟩ ← on (k0_part62 (F := F)) c (qOwn m c 1) v2136 v2149 v2253 v2255
          let ⟨v2338, v2339⟩ ← on (k0_part63 (F := F)) c (qOwn m c 1) v2136 v2149 v2294 v2298
          let v2365 ← on (k0_part64 (F := F)) (W14 c) (W25 c) v2338 v2339
          on (k0_part65 (F := F)) c v2365
          on (k0_part66 (F := F)) c
          on (k0_part67 (F := F))
          kt) Q) := by
  simp only [on, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel,
    semSignalWord, semWaitWord, Prog.lift, Prog.bind_op, Prog.bind_ret, Prog.pure_eq_ret, wp_deviceId]
  unfold pre6
  iintro ⟨#Hrec, #Hlev, Hkv, Hctx, Hp, Hout, Hs2, Hrr, Hrl, Hr20, Hr21, Hr22, Hr26, Hr27, Hr28, Hr32, Hr33, Hr34, Hr38, Hr39, HO⟩ Hk
  ihave Hctx := (held_none c ctxM (ctxG m Nat.one_pos c (qOwn m c 1) (fun _ => rowOwn c 1))) $$ Hctx
  ihave Hctx := (held_weaken c ctxM (D' := fun y => blk y < 8 * (0 : Fin 1).val + (0 : Fin 8).val) (G' := ctxG m Nat.one_pos c (qOwn m c 1) (fun _ => rowOwn c 1)) (fun y h => absurd h (Nat.not_lt_zero _))) $$ Hctx
  icombine Hkv Hctx as H
  iapply (head_step m c 0 Nat.one_pos 0 (qOwn m c 1) (fun _ => rowOwn c 1) ?_ ?_ ?_) $$ [H]
  · exact off5_eq c 1
  · exact rfl
  · exact headVal_slice (off := ![0, 0]) (h := slices_S128x1024_o0_0_S128x128) rfl (bias_own1 c) rfl
  · iexact H
  iintro H
  iapply (head_step m c 1 Nat.one_pos 0 (qOwn m c 1) (fun _ => rowOwn c 1) ?_ ?_ ?_) $$ [H]
  · exact off6_eq c 1
  · exact rfl
  · exact headVal_slice (off := ![0, 128]) (h := slices_S128x1024_o0_128_S128x128) rfl (bias_own1 c) rfl
  · iexact H
  iintro H
  iapply (head_step m c 2 Nat.one_pos 0 (qOwn m c 1) (fun _ => rowOwn c 1) ?_ ?_ ?_) $$ [H]
  · exact off7_eq c 1
  · exact rfl
  · exact headVal_slice (off := ![0, 256]) (h := slices_S128x1024_o0_256_S128x128) rfl (bias_own1 c) rfl
  · iexact H
  iintro H
  iapply (head_step m c 3 Nat.one_pos 0 (qOwn m c 1) (fun _ => rowOwn c 1) ?_ ?_ ?_) $$ [H]
  · exact off8_eq c 1
  · exact rfl
  · exact headVal_slice (off := ![0, 384]) (h := slices_S128x1024_o0_384_S128x128) rfl (bias_own1 c) rfl
  · iexact H
  iintro H
  iapply (head_step m c 4 Nat.one_pos 0 (qOwn m c 1) (fun _ => rowOwn c 1) ?_ ?_ ?_) $$ [H]
  · exact off9_eq c 1
  · exact rfl
  · exact headVal_slice (off := ![0, 512]) (h := slices_S128x1024_o0_512_S128x128) rfl (bias_own1 c) rfl
  · iexact H
  iintro H
  iapply (head_step m c 5 Nat.one_pos 0 (qOwn m c 1) (fun _ => rowOwn c 1) ?_ ?_ ?_) $$ [H]
  · exact off10_eq c 1
  · exact rfl
  · exact headVal_slice (off := ![0, 640]) (h := slices_S128x1024_o0_640_S128x128) rfl (bias_own1 c) rfl
  · iexact H
  iintro H
  iapply (head_step m c 6 Nat.one_pos 0 (qOwn m c 1) (fun _ => rowOwn c 1) ?_ ?_ ?_) $$ [H]
  · exact off11_eq c 1
  · exact rfl
  · exact headVal_slice (off := ![0, 768]) (h := slices_S128x1024_o0_768_S128x128) rfl (bias_own1 c) rfl
  · iexact H
  iintro H
  iapply (head_step m c 7 Nat.one_pos 0 (qOwn m c 1) (fun _ => rowOwn c 1) ?_ ?_ ?_) $$ [H]
  · exact off12_eq c 1
  · exact rfl
  · exact headVal_slice (off := ![0, 896]) (h := slices_S128x1024_o0_896_S128x128) rfl (bias_own1 c) rfl
  · iexact H
  iintro H
  icases H with ⟨Hkv, Hctx⟩
  iapply (own_fin m c 1 (D := fun y => (y 0).val < 128) (D' := fun _ => True) (R := fun _ => rowOwn c 1) rfl
    (fun y _ => by have h0 : (y 0).val < 256 := (y 0).isLt; show (y 0).val < 128 ∨ (y 0).val / 128 = 1; omega) ?_ ?_) $$ [Hctx Hs2 Hp]
  · exact rfl
  · exact rfl
  · isplitl [Hctx]; · iexact Hctx
    isplitl [Hs2]; · iexact Hs2
    iexact Hp
  iintro ⟨Hctx, Hs2, Hp⟩
  ihave Hout := (held_none c outM (outC m c)) $$ Hout
  iapply (recv_step m K c 37 (by decide) ((dl c).drop 14) (dl_lv c 14 _ (by decide)) ?_) $$ [Hrr HO]
  · exact rfl
  · isplitr; · iexact Hrec
    isplitr; · iexact Hlev
    isplitl [Hrr]; · iexact Hrr
    iexact HO
  iintro ⟨HO, Hfr, Hzr⟩
  ihave Hzr := (Entails.of_eq (show dmaPay m c (37 : Fin 44).val = rxrP c 2 (rsR m (sh c 3)) from pay_rsrR m c 2)) $$ Hzr
  iapply (ld_held c pM (D := fun _ => True) (G := pG m c) (off := ![0, 0]) (size := S128x1024.size) (w := oOwn m c 0) (fun x => ⟨trivial, pG_at m c 0 (off := ![0, 0]) rfl _ x⟩)) $$ [Hp]
  · iexact Hp
  iintro Hp
  iapply (ld_rxr c 2 (rsR m (sh c 3)) rfl) $$ [Hzr]
  · iexact Hzr
  iintro Hzr
  iapply (st_held c outM (D := fun _ => False) (D' := fun y => (y 1).val < 128) (G := outC m c) (off := ![0, 0, 0]) (size := S1x128x1024.size) ?_ ?_) $$ [Hout]
  · exact fun x => (congrArg (fun r => k0_pay172 (oOwn m c 0) r x) (rs_eta (accR m 2 (sh c 3))).symm).trans (out_lo m c _ x)
  · exact fun y hy => .inr (out_mem 0 (off := ![0, 0, 0]) rfl _ y (Nat.div_eq_of_lt hy))
  · iexact Hout
  iintro Hout
  iapply (recv_step m K c 43 (by decide) ((dl c).drop 14) (dl_lv c 14 _ (by decide)) ?_) $$ [Hrl HO]
  · exact rfl
  · isplitr; · iexact Hrec
    isplitr; · iexact Hlev
    isplitl [Hrl]; · iexact Hrl
    iexact HO
  iintro ⟨HO, Hfl, Hzl⟩
  ihave Hzl := (Entails.of_eq (show dmaPay m c (43 : Fin 44).val = rxlP c 2 (rsL m (sh c 1)) from pay_rslR m c 2)) $$ Hzl
  iapply (ld_held c pM (D := fun _ => True) (G := pG m c) (off := ![128, 0]) (size := S128x1024.size) (w := oOwn m c 1) (fun x => ⟨trivial, pG_at m c 1 (off := ![128, 0]) rfl _ x⟩)) $$ [Hp]
  · iexact Hp
  iintro Hp
  iapply (ld_rxl c 2 (rsL m (sh c 1)) rfl) $$ [Hzl]
  · iexact Hzl
  iintro Hzl
  iapply (st_held c outM (D := fun y => (y 1).val < 128) (D' := fun _ => True) (G := outC m c) (off := ![0, 128, 0]) (size := S1x128x1024.size) ?_ ?_) $$ [Hout]
  · exact fun x => (congrArg (fun r => k0_pay173 (oOwn m c 1) r x) (rs_eta (accL m 2 (sh c 1))).symm).trans (out_hi m c _ x)
  · exact fun y _ => (lt_or_ge (y 1).val 128).imp id fun h => out_mem 1 (off := ![0, 128, 0]) rfl _ y (by have h0 : (y 1).val < 256 := (y 1).isLt; omega)
  · iexact Hout
  iintro Hout
  iapply (recv_step m K c 20 (by decide) ((dl c).drop 14) (dl_lv c 14 _ (by decide)) ?_) $$ [Hr20 HO]
  · exact rfl
  · isplitr; · iexact Hrec
    isplitr; · iexact Hlev
    isplitl [Hr20]; · iexact Hr20
    iexact HO
  iintro ⟨HO, Hf20, Hq20⟩
  ihave Hq20 := (Entails.of_eq (show dmaPay m c (20 : Fin 44).val = xgP c (2 * (sh c 4).val) fullShare.left (xgAll m) from pay_agrS m c 0)) $$ Hq20
  iapply (recv_step m K c 21 (by decide) ((dl c).drop 14) (dl_lv c 14 _ (by decide)) ?_) $$ [Hr21 HO]
  · exact rfl
  · isplitr; · iexact Hrec
    isplitr; · iexact Hlev
    isplitl [Hr21]; · iexact Hr21
    iexact HO
  iintro ⟨HO, Hf21, Hq21⟩
  ihave Hq21 := (Entails.of_eq (show dmaPay m c (21 : Fin 44).val = xgP c (2 * (sh c 3).val) fullShare.left (xgAll m) from pay_agrS m c 1)) $$ Hq21
  iapply (recv_step m K c 22 (by decide) ((dl c).drop 14) (dl_lv c 14 _ (by decide)) ?_) $$ [Hr22 HO]
  · exact rfl
  · isplitr; · iexact Hrec
    isplitr; · iexact Hlev
    isplitl [Hr22]; · iexact Hr22
    iexact HO
  iintro ⟨HO, Hf22, Hq22⟩
  ihave Hq22 := (Entails.of_eq (show dmaPay m c (22 : Fin 44).val = xgP c (2 * (sh c 2).val) fullShare.left (xgAll m) from pay_agrS m c 2)) $$ Hq22
  iapply (recv_step m K c 26 (by decide) ((dl c).drop 14) (dl_lv c 14 _ (by decide)) ?_) $$ [Hr26 HO]
  · exact rfl
  · isplitr; · iexact Hrec
    isplitr; · iexact Hlev
    isplitl [Hr26]; · iexact Hr26
    iexact HO
  iintro ⟨HO, Hf26, Hq26⟩
  ihave Hq26 := (Entails.of_eq (show dmaPay m c (26 : Fin 44).val = xgP c (2 * (sh c 0).val + 1) fullShare.left (xgAll m) from pay_aglS m c 0)) $$ Hq26
  iapply (recv_step m K c 27 (by decide) ((dl c).drop 14) (dl_lv c 14 _ (by decide)) ?_) $$ [Hr27 HO]
  · exact rfl
  · isplitr; · iexact Hrec
    isplitr; · iexact Hlev
    isplitl [Hr27]; · iexact Hr27
    iexact HO
  iintro ⟨HO, Hf27, Hq27⟩
  ihave Hq27 := (Entails.of_eq (show dmaPay m c (27 : Fin 44).val = xgP c (2 * (sh c 1).val + 1) fullShare.left (xgAll m) from pay_aglS m c 1)) $$ Hq27
  iapply (recv_step m K c 28 (by decide) ((dl c).drop 14) (dl_lv c 14 _ (by decide)) ?_) $$ [Hr28 HO]
  · exact rfl
  · isplitr; · iexact Hrec
    isplitr; · iexact Hlev
    isplitl [Hr28]; · iexact Hr28
    iexact HO
  iintro ⟨HO, Hf28, Hq28⟩
  ihave Hq28 := (Entails.of_eq (show dmaPay m c (28 : Fin 44).val = xgP c (2 * (sh c 2).val + 1) fullShare.left (xgAll m) from pay_aglS m c 2)) $$ Hq28
  iapply (recv_step m K c 32 (by decide) ((dl c).drop 14) (dl_lv c 14 _ (by decide)) ?_) $$ [Hr32 HO]
  · exact rfl
  · isplitr; · iexact Hrec
    isplitr; · iexact Hlev
    isplitl [Hr32]; · iexact Hr32
    iexact HO
  iintro ⟨HO, Hf32, Hq32⟩
  ihave Hq32 := (Entails.of_eq (show dmaPay m c (32 : Fin 44).val = txrP c 0 (rsR m c) from pay_rsrS m c 0)) $$ Hq32
  iapply (recv_step m K c 33 (by decide) ((dl c).drop 14) (dl_lv c 14 _ (by decide)) ?_) $$ [Hr33 HO]
  · exact rfl
  · isplitr; · iexact Hrec
    isplitr; · iexact Hlev
    isplitl [Hr33]; · iexact Hr33
    iexact HO
  iintro ⟨HO, Hf33, Hq33⟩
  ihave Hq33 := (Entails.of_eq (show dmaPay m c (33 : Fin 44).val = txrP c 1 (rsR m c) from pay_rsrS m c 1)) $$ Hq33
  iapply (recv_step m K c 34 (by decide) ((dl c).drop 14) (dl_lv c 14 _ (by decide)) ?_) $$ [Hr34 HO]
  · exact rfl
  · isplitr; · iexact Hrec
    isplitr; · iexact Hlev
    isplitl [Hr34]; · iexact Hr34
    iexact HO
  iintro ⟨HO, Hf34, Hq34⟩
  ihave Hq34 := (Entails.of_eq (show dmaPay m c (34 : Fin 44).val = txrP c 2 (rsR m c) from pay_rsrS m c 2)) $$ Hq34
  iapply (recv_step m K c 38 (by decide) ((dl c).drop 14) (dl_lv c 14 _ (by decide)) ?_) $$ [Hr38 HO]
  · exact rfl
  · isplitr; · iexact Hrec
    isplitr; · iexact Hlev
    isplitl [Hr38]; · iexact Hr38
    iexact HO
  iintro ⟨HO, Hf38, Hq38⟩
  ihave Hq38 := (Entails.of_eq (show dmaPay m c (38 : Fin 44).val = txlP c 0 (rsL m c) from pay_rslS m c 0)) $$ Hq38
  iapply (recv_step m K c 39 (by decide) ((dl c).drop 14) (dl_lv c 14 _ (by decide)) ?_) $$ [Hr39 HO]
  · exact rfl
  · isplitr; · iexact Hrec
    isplitr; · iexact Hlev
    isplitl [Hr39]; · iexact Hr39
    iexact HO
  iintro ⟨HO, Hf39, Hq39⟩
  ihave Hq39 := (Entails.of_eq (show dmaPay m c (39 : Fin 44).val = txlP c 1 (rsL m c) from pay_rslS m c 1)) $$ Hq39
  ihave Hp := (held_drop c pM) $$ Hp
  iapply Hk
  unfold post6
  isplitl [Hkv]; · iexact Hkv
  isplitl [Hctx]; · iexact Hctx
  isplitl [Hp]; · iexact Hp
  isplitl [Hout]; · iexact Hout
  isplitl [Hs2]; · iexact Hs2
  isplitl [Hfr Hzr]
  · isplitl [Hfr]; · iexact Hfr
    iexact Hzr
  isplitl [Hfl Hzl]
  · isplitl [Hfl]; · iexact Hfl
    iexact Hzl
  isplitl [Hf20 Hq20]
  · isplitl [Hf20]; · iexact Hf20
    iexact Hq20
  isplitl [Hf21 Hq21]
  · isplitl [Hf21]; · iexact Hf21
    iexact Hq21
  isplitl [Hf22 Hq22]
  · isplitl [Hf22]; · iexact Hf22
    iexact Hq22
  isplitl [Hf26 Hq26]
  · isplitl [Hf26]; · iexact Hf26
    iexact Hq26
  isplitl [Hf27 Hq27]
  · isplitl [Hf27]; · iexact Hf27
    iexact Hq27
  isplitl [Hf28 Hq28]
  · isplitl [Hf28]; · iexact Hf28
    iexact Hq28
  isplitl [Hf32 Hq32]
  · isplitl [Hf32]; · iexact Hf32
    iexact Hq32
  isplitl [Hf33 Hq33]
  · isplitl [Hf33]; · iexact Hf33
    iexact Hq33
  isplitl [Hf34 Hq34]
  · isplitl [Hf34]; · iexact Hf34
    iexact Hq34
  isplitl [Hf38 Hq38]
  · isplitl [Hf38]; · iexact Hf38
    iexact Hq38
  isplitl [Hf39 Hq39]
  · isplitl [Hf39]; · iexact Hf39
    iexact Hq39
  iexact HO

end Cert.KernelIdeal.Att

end
-- ==== Proof.Progs.lean ====
module

public import proofs.«01_k».proof.Proof.Seg1
public import proofs.«01_k».proof.Proof.Seg6

@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # The body cut into its stretches' programs -/

/-- Stretch 1 of the body as a program of its own. -/
def prog1 : Prog (TpuEff nD τ sig (Elt F) Λ₀ .tc) (Dev nD × BitVec 32 × BitVec 32 × BitVec 32 × FVec F S128x1024 .bf16 × BitVec 32 × FVec F S128x384 .f32) := do
  let ⟨d0, v2, v14, v25, v26⟩ ← on (k0_part1 (F := F))
  on k0_part2 d0 v26
  on k0_part3 d0 v26
  on k0_part4 d0 v26
  on k0_part5 d0 v26
  let c1 ← on k0_part6 d0 v2 v14 v25
  let ⟨v184, v188, v201⟩ ← on k0_part7 d0 v2 v14 c1
  pure (d0, v2, v14, v25, v184, v188, v201)

/-- Stretch 2 of the body as a program of its own. -/
def prog2 (d0 : Dev nD) (v2 v14 v25 : BitVec 32) (v184 : FVec F S128x1024 .bf16) (v188 : BitVec 32) (v201 : FVec F S128x384 .f32) : Prog (TpuEff nD τ sig (Elt F) Λ₀ .tc) (BitVec 32 × BitVec 32 × BitVec 1 × BitVec 32) := do
  on (k0_part8 (F := F)) d0 v184 v188 v201
  on (k0_part9 (F := F)) d0 v184 v188 v201
  let v306 ← on (k0_part10 (F := F)) d0 v184 v188 v201
  let v342 ← on (k0_part11 (F := F)) d0 v184 v188 v201 v306
  let ⟨v373, v376⟩ ← on (k0_part12 (F := F)) d0 v184 v188 v201 v342
  let ⟨v403, v409, cst⟩ ← on (k0_part13 (F := F)) d0 v184 v188 v201 v373 v376
  let ⟨v439, v443, v444⟩ ← on (k0_part14 (F := F)) d0 v184 v188 v201 v403 v409 cst
  let ⟨v473, v475, v477⟩ ← on (k0_part15 (F := F)) d0 v184 v188 v201 v439 v443 v444
  let ⟨v507, v508, v509, c0⟩ ← on (k0_part16 (F := F)) d0 v2 v25 v473 v475 v477
  pure (v507, v508, v509, c0)

/-- Stretch 3 of the body as a program of its own. -/
def prog3 (d0 : Dev nD) (v2 v14 v25 v507 v508 : BitVec 32) (v509 : BitVec 1) (c0 : BitVec 32) : Prog (TpuEff nD τ sig (Elt F) Λ₀ .tc) (BitVec 32) := do
  let ⟨v515, v544⟩ ← on (k0_part17 (F := F)) d0 v2 v14 v25 v507 v508 v509 c0
  let ⟨v557, v560, v577, c128⟩ ← on (k0_part18 (F := F)) d0 v14 v515 v544
  let ⟨v581, v594, v619⟩ ← on (k0_part19 (F := F)) d0 v557 v577 c128
  let v662 ← on (k0_part20 (F := F)) d0 v577 v581 v594 v619
  let ⟨v698, v700, v702⟩ ← on (k0_part21 (F := F)) d0 v577 v581 v594 v662
  let ⟨v739, v743, cst⟩ ← on (k0_part22 (F := F)) d0 v577 v581 v594 v698 v700 v702
  let v783 ← on (k0_part23 (F := F)) d0 v577 v581 v594 v739 v743 cst
  let ⟨v790, v803⟩ ← on (k0_part24 (F := F)) d0 v560 v577 v783
  let ⟨v861, v867, v868⟩ ← on (k0_part25 (F := F)) d0 v577 v790 v803
  let ⟨v907, v909⟩ ← on (k0_part26 (F := F)) d0 v577 v790 v803 v861 v867 v868
  let ⟨v948, v950⟩ ← on (k0_part27 (F := F)) d0 v577 v790 v803 v907 v909
  let v992 ← on (k0_part28 (F := F)) d0 v577 v790 v803 v948 v950
  let ⟨v1020, c0⟩ ← on (k0_part29 (F := F)) d0 v14 v25 v992
  let v1048 ← on (k0_part30 (F := F)) d0 v2 v25 v1020 c0
  pure v1048

/-- Stretch 4 of the body as a program of its own. -/
def prog4 (d0 : Dev nD) (v2 v14 v25 v1048 : BitVec 32) : Prog (TpuEff nD τ sig (Elt F) Λ₀ .tc) (PUnit) := do
  let v1077 ← on (k0_part31 (F := F)) d0 v2 v14
  let ⟨v1093, v1110, v1114, v1124, cst⟩ ← on (k0_part32 (F := F)) d0 v1048 v1077
  let ⟨v1127, v1161, v1165, v1166⟩ ← on (k0_part33 (F := F)) d0 v1110 v1114 v1124 cst
  let v1207 ← on (k0_part34 (F := F)) d0 v1110 v1114 v1127 v1161 v1165 v1166
  let v1248 ← on (k0_part35 (F := F)) d0 v1110 v1114 v1127 v1207
  let ⟨v1287, v1289⟩ ← on (k0_part36 (F := F)) d0 v1110 v1114 v1127 v1248
  let ⟨v1323, v1331, c128⟩ ← on (k0_part37 (F := F)) d0 v1093 v1110 v1114 v1127 v1287 v1289
  let ⟨v1336, v1368, v1370, v1372⟩ ← on (k0_part38 (F := F)) d0 v1110 v1323 v1331 c128
  let ⟨v1409, v1413, cst₁⟩ ← on (k0_part39 (F := F)) d0 v1110 v1323 v1336 v1368 v1370 v1372
  let v1453 ← on (k0_part40 (F := F)) d0 v1110 v1323 v1336 v1409 v1413 cst₁
  let ⟨v1490, v1496⟩ ← on (k0_part41 (F := F)) d0 v1110 v1323 v1336 v1453
  let v1532 ← on (k0_part42 (F := F)) d0 v1110 v1323 v1336 v1490 v1496
  on (k0_part43 (F := F)) d0 v14 v25 v1532
  on (k0_part44 (F := F)) d0 v25 v1532
  pure ⟨⟩

/-- Stretch 5 of the body as a program of its own. -/
def prog5 (d0 : Dev nD) (v2 v14 v25 : BitVec 32) : Prog (TpuEff nD τ sig (Elt F) Λ₀ .tc) (BitVec 32 × FVec F S128x1024 .bf16) := do
  let ⟨v1623, v1625, c256⟩ ← on (k0_part45 (F := F)) d0 v2 v14
  let ⟨v1628, v1645, v1649, v1662, v1663⟩ ← on (k0_part46 (F := F)) d0 v1623 v1625 c256
  let ⟨v1702, v1705⟩ ← on (k0_part47 (F := F)) d0 v1645 v1649 v1662 v1663
  let ⟨v1742, v1744⟩ ← on (k0_part48 (F := F)) d0 v1645 v1649 v1662 v1702 v1705
  let ⟨v1783, v1787⟩ ← on (k0_part49 (F := F)) d0 v1645 v1649 v1662 v1742 v1744
  let ⟨v1827, v1828⟩ ← on (k0_part50 (F := F)) d0 v1645 v1649 v1662 v1783 v1787
  let ⟨v1858, v1868, v1869, v1870⟩ ← on (k0_part51 (F := F)) d0 v1628 v1645 v1649 v1662 v1827 v1828
  let ⟨v1871, v1905, v1911, cst⟩ ← on (k0_part52 (F := F)) d0 v1645 v1858 v1868 v1869 v1870
  let ⟨v1951, v1953⟩ ← on (k0_part53 (F := F)) d0 v1645 v1858 v1871 v1905 v1911 cst
  let v1992 ← on (k0_part54 (F := F)) d0 v1645 v1858 v1871 v1951 v1953
  let v2036 ← on (k0_part55 (F := F)) d0 v1645 v1858 v1871 v1992
  let v2067 ← on (k0_part56 (F := F)) d0 v25 v1645 v1858 v1871 v2036
  on (k0_part57 (F := F)) d0 v14 v25 v2067
  let ⟨v2124, v2132⟩ ← on (k0_part58 (F := F)) d0 v2 v14 v2067
  pure (v2124, v2132)

/-- Stretch 6 of the body as a program of its own. -/
def prog6 (d0 : Dev nD) (v14 v25 v2124 : BitVec 32) (v2132 : FVec F S128x1024 .bf16) : Prog (TpuEff nD τ sig (Elt F) Λ₀ .tc) (PUnit) := do
  let ⟨v2136, v2149, v2174⟩ ← on (k0_part59 (F := F)) d0 v2124 v2132
  let ⟨v2213, v2216⟩ ← on (k0_part60 (F := F)) d0 v2132 v2136 v2149 v2174
  let ⟨v2253, v2255⟩ ← on (k0_part61 (F := F)) d0 v2132 v2136 v2149 v2213 v2216
  let ⟨v2294, v2298⟩ ← on (k0_part62 (F := F)) d0 v2132 v2136 v2149 v2253 v2255
  let ⟨v2338, v2339⟩ ← on (k0_part63 (F := F)) d0 v2132 v2136 v2149 v2294 v2298
  let v2365 ← on (k0_part64 (F := F)) v14 v25 v2338 v2339
  on (k0_part65 (F := F)) d0 v2365
  on (k0_part66 (F := F)) d0
  on (k0_part67 (F := F))
  pure ⟨⟩

/-- The last wait. -/
def prog7 : Prog (TpuEff nD τ sig (Elt F) Λ₀ .tc) PUnit :=
  Prog.lift (.waitDma2 (dsem 40) (ssl rxlM ![2, 0, 0] inb_S3x128x1024_S1x128x1024_2_0_0) (ssl txlM ![2, 0, 0] inb_S3x128x1024_S1x128x1024_2_0_0)
    (((Memref.isWhole_whole cc0_scratch9).wordExact_slice rfl _ wordsbf16_S3x128x1024_S1x128x1024_2_0_0).reshape _ _) (((Memref.isWhole_whole cc0_scratch8).wordExact_slice rfl _ wordsbf16_S3x128x1024_S1x128x1024_2_0_0).reshape _ _)) >>= fun _ => pure ⟨⟩

/-- Stretch 1's rule for its program. -/
theorem run1 (c : Dev nD) {α : Type} {Q : α → sProp 𝕄} {kt : Dev nD × BitVec 32 × BitVec 32 × BitVec 32 × FVec F S128x1024 .bf16 × BitVec 32 × FVec F S128x384 .f32 → Prog (TpuEff nD τ sig (Elt F) Λ₀ .tc) α} :
    pre1 m K c ⊢ iprop((∀ w : BitVec 32, post1 m c -∗ wp frame (wpE (defs₀ (F := F)) 𝒱₀ (c : Thread nD τ) none) Set.univ (kt (c, W2 c, W14 c, W25 c, qOwn m c 0, w, k0_pay3 (W2 c))) Q)
      -∗ wp frame (wpE (defs₀ (F := F)) 𝒱₀ (c : Thread nD τ) none) Set.univ (prog1 >>= kt) Q) := by
  have h := seg1 m K c (Q := Q) (kt := (fun d0 v2 v14 v25 _ _ a b x => kt (d0, v2, v14, v25, a, b, x)))
  iintro Hp Hk
  unfold prog1
  simp only [bind_assoc, pure_bind, on] at h ⊢
  iapply h $$ [Hp]
  · iexact Hp
  iintro %w₁ %w₂ %w₃ H
  ispecialize Hk $$ %w₃
  iapply Hk
  iexact H

/-- Stretch 2's rule for its program. -/
theorem run2 (c : Dev nD) {α : Type} {Q : α → sProp 𝕄} {v14 v25 v188 : BitVec 32} {kt : BitVec 32 × BitVec 32 × BitVec 1 × BitVec 32 → Prog (TpuEff nD τ sig (Elt F) Λ₀ .tc) α} :
    pre2 m K c ⊢ iprop((post2 m c -∗ wp frame (wpE (defs₀ (F := F)) 𝒱₀ (c : Thread nD τ) none) Set.univ (kt (W507, W508 c, W509 c, 0#32)) Q)
      -∗ wp frame (wpE (defs₀ (F := F)) 𝒱₀ (c : Thread nD τ) none) Set.univ (prog2 c (W2 c) v14 v25 (qOwn m c 0) v188 (k0_pay3 (W2 c)) >>= kt) Q) := by
  have h := seg2 m K c (Q := Q) (kt := (fun a b x y => kt (a, b, x, y))) (v14 := v14) (v188 := v188) (v25 := v25)
  unfold prog2
  simp only [bind_assoc, pure_bind, on] at h ⊢
  exact h

/-- Stretch 3's rule for its program. -/
theorem run3 (c : Dev nD) {α : Type} {Q : α → sProp 𝕄} {kt : BitVec 32 → Prog (TpuEff nD τ sig (Elt F) Λ₀ .tc) α} :
    pre3 m K c ⊢ iprop((post3 m c -∗ wp frame (wpE (defs₀ (F := F)) 𝒱₀ (c : Thread nD τ) none) Set.univ (kt (W1048 c)) Q)
      -∗ wp frame (wpE (defs₀ (F := F)) 𝒱₀ (c : Thread nD τ) none) Set.univ (prog3 c (W2 c) (W14 c) (W25 c) W507 (W508 c) (W509 c) 0#32 >>= kt) Q) := by
  have h := seg3 m K c (Q := Q) (kt := kt)
  unfold prog3
  simp only [bind_assoc, pure_bind, on] at h ⊢
  exact h

/-- Stretch 4's rule for its program. -/
theorem run4 (c : Dev nD) {α : Type} {Q : α → sProp 𝕄} {kt : PUnit → Prog (TpuEff nD τ sig (Elt F) Λ₀ .tc) α} :
    pre4 m K c ⊢ iprop((post4 m c -∗ wp frame (wpE (defs₀ (F := F)) 𝒱₀ (c : Thread nD τ) none) Set.univ (kt ⟨⟩) Q)
      -∗ wp frame (wpE (defs₀ (F := F)) 𝒱₀ (c : Thread nD τ) none) Set.univ (prog4 c (W2 c) (W14 c) (W25 c) (W1048 c) >>= kt) Q) := by
  have h := seg4 m K c (Q := Q) (kt := (kt ⟨⟩))
  unfold prog4
  simp only [bind_assoc, pure_bind, on] at h ⊢
  exact h

/-- Stretch 5's rule for its program. -/
theorem run5 (c : Dev nD) {α : Type} {Q : α → sProp 𝕄} {kt : BitVec 32 × FVec F S128x1024 .bf16 → Prog (TpuEff nD τ sig (Elt F) Λ₀ .tc) α} :
    pre5 m K c ⊢ iprop((post5 m c -∗ wp frame (wpE (defs₀ (F := F)) 𝒱₀ (c : Thread nD τ) none) Set.univ (kt (W2124 c, qOwn m c 1)) Q)
      -∗ wp frame (wpE (defs₀ (F := F)) 𝒱₀ (c : Thread nD τ) none) Set.univ (prog5 c (W2 c) (W14 c) (W25 c) >>= kt) Q) := by
  have h := seg5 m K c (Q := Q) (kt := (fun a b => kt (a, b)))
  unfold prog5
  simp only [bind_assoc, pure_bind, on] at h ⊢
  exact h

/-- Stretch 6's rule for its program. -/
theorem run6 (c : Dev nD) {α : Type} {Q : α → sProp 𝕄} {kt : PUnit → Prog (TpuEff nD τ sig (Elt F) Λ₀ .tc) α} :
    pre6 m K c ⊢ iprop((post6 m c -∗ wp frame (wpE (defs₀ (F := F)) 𝒱₀ (c : Thread nD τ) none) Set.univ (kt ⟨⟩) Q)
      -∗ wp frame (wpE (defs₀ (F := F)) 𝒱₀ (c : Thread nD τ) none) Set.univ (prog6 c (W14 c) (W25 c) (W2124 c) (qOwn m c 1) >>= kt) Q) := by
  have h := seg6 m K c (Q := Q) (kt := (kt ⟨⟩))
  unfold prog6
  simp only [bind_assoc, pure_bind, on] at h ⊢
  exact h

/-- The body is its stretches' programs one after another, then the last wait. -/
theorem body_eq : on (cc0__attn_body (F := F)) = (prog1 (F := F) >>= fun t => prog2 t.1 t.2.1 t.2.2.1 t.2.2.2.1 t.2.2.2.2.1 t.2.2.2.2.2.1 t.2.2.2.2.2.2 >>= fun u =>
    prog3 t.1 t.2.1 t.2.2.1 t.2.2.2.1 u.1 u.2.1 u.2.2.1 u.2.2.2 >>= fun v => prog4 t.1 t.2.1 t.2.2.1 t.2.2.2.1 v >>= fun _ =>
    prog5 t.1 t.2.1 t.2.2.1 t.2.2.2.1 >>= fun w => prog6 t.1 t.2.2.1 t.2.2.2.1 w.1 w.2 >>= fun _ => prog7) := by
  unfold prog1 prog2 prog3 prog4 prog5 prog6 prog7
  simp only [on, cc0__attn_body_eq_skeleton, cc0__attn_body_skel, k0_part68_eq_skeleton, k0_part68_skel, bind_assoc, pure_bind]
  rfl

end Cert.KernelIdeal.Att

end
-- ==== Proof.Body.lean ====
module

public import proofs.«01_k».proof.Proof.Progs
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × Fin 41 → ℕ)

/-! # The whole body, its stretches one after another -/

/-- What the body takes. -/
def preB (c : Dev nD) : sProp 𝕄 :=
  iprop(records m K
    ∗ levAts L lv
    ∗ all8 (kvStart m c)
    ∗ (atPos ER (barCell c) 0 ∅ 0 ∗ cred (tallyAt (barCell c) () 2) ∗ dutyTok ER (barCell (sh c 3)) 0 true ∗ dutyTok ER (barCell (sh c 1)) 0 false ∗ fromR (sh c 3) ∗ fromL (sh c 1))
    ∗ (∃ f, xgP c (2 * c.val) fullShare f ∗ xgP c (2 * c.val + 1) fullShare f)
    ∗ ((Memref.whole cc0_stg0_0).view.loc (c : Thread nD τ) ↦{fullShare} xA m c)
    ∗ ((Memref.whole cc0_stg1_0).view.loc (c : Thread nD τ) ↦{fullShare} wqA m c)
    ∗ ((Memref.whole cc0_stg2_0).view.loc (c : Thread nD τ) ↦{fullShare} woA m c)
    ∗ (∃ f, (outM.view.loc (c : Thread nD τ) ↦{fullShare} f))
    ∗ (∃ f, (ctxM.view.loc (c : Thread nD τ) ↦{fullShare} f))
    ∗ (∃ f, (xqM.view.loc (c : Thread nD τ) ↦{fullShare} f))
    ∗ (∃ f, (pM.view.loc (c : Thread nD τ) ↦{fullShare} f))
    ∗ snd c 20 (sh c 1) 23
    ∗ snd c 21 (sh c 1) 24
    ∗ snd c 22 (sh c 1) 25
    ∗ snd c 26 (sh c 3) 29
    ∗ snd c 27 (sh c 3) 30
    ∗ snd c 28 (sh c 3) 31
    ∗ snd c 32 (sh c 1) 35
    ∗ snd c 33 (sh c 1) 36
    ∗ snd c 34 (sh c 1) 37
    ∗ snd c 38 (sh c 3) 41
    ∗ snd c 39 (sh c 3) 42
    ∗ snd c 40 (sh c 3) 43
    ∗ rcv c 23
    ∗ rcv c 24
    ∗ rcv c 25
    ∗ rcv c 29
    ∗ rcv c 30
    ∗ rcv c 31
    ∗ rcv c 35
    ∗ rcv c 36
    ∗ rcv c 37
    ∗ rcv c 41
    ∗ rcv c 42
    ∗ rcv c 43
    ∗ (∃ f, txrP c 0 f)
    ∗ (∃ f, txrP c 1 f)
    ∗ (∃ f, txrP c 2 f)
    ∗ (∃ f, txlP c 0 f)
    ∗ (∃ f, txlP c 1 f)
    ∗ (∃ f, txlP c 2 f)
    ∗ owesE c ((dl c).drop 0))
/-- What the body leaves. -/
def postB (c : Dev nD) : sProp 𝕄 :=
  iprop(all8 (kvDone m c)
    ∗ semVal (barCell c) 0
    ∗ (∃ f, (ctxM.view.loc (c : Thread nD τ) ↦{fullShare} f))
    ∗ (∃ f, (xqM.view.loc (c : Thread nD τ) ↦{fullShare} f))
    ∗ (∃ f, (pM.view.loc (c : Thread nD τ) ↦{fullShare} f))
    ∗ held c outM (fun _ => True) (outC m c)
    ∗ ((Memref.whole cc0_stg0_0).view.loc (c : Thread nD τ) ↦{fullShare} xA m c)
    ∗ ((Memref.whole cc0_stg1_0).view.loc (c : Thread nD τ) ↦{fullShare} wqA m c)
    ∗ ((Memref.whole cc0_stg2_0).view.loc (c : Thread nD τ) ↦{fullShare} woA m c)
    ∗ fin c 20
    ∗ fin c 21
    ∗ fin c 22
    ∗ fin c 23
    ∗ fin c 24
    ∗ fin c 25
    ∗ fin c 26
    ∗ fin c 27
    ∗ fin c 28
    ∗ fin c 29
    ∗ fin c 30
    ∗ fin c 31
    ∗ fin c 32
    ∗ fin c 33
    ∗ fin c 34
    ∗ fin c 35
    ∗ fin c 36
    ∗ fin c 37
    ∗ fin c 38
    ∗ fin c 39
    ∗ fin c 40
    ∗ fin c 41
    ∗ fin c 42
    ∗ fin c 43
    ∗ xgP c (2 * c.val) fullShare.right (xgAll m)
    ∗ xgP c (2 * (sh c 4).val) fullShare.left (xgAll m)
    ∗ xgP c (2 * (sh c 3).val) fullShare.right (xgAll m)
    ∗ xgP c (2 * (sh c 3).val) fullShare.left (xgAll m)
    ∗ xgP c (2 * (sh c 2).val) fullShare.right (xgAll m)
    ∗ xgP c (2 * (sh c 2).val) fullShare.left (xgAll m)
    ∗ xgP c (2 * (sh c 1).val) fullShare (xgAll m)
    ∗ xgP c (2 * c.val + 1) fullShare.right (xgAll m)
    ∗ xgP c (2 * (sh c 0).val + 1) fullShare.left (xgAll m)
    ∗ xgP c (2 * (sh c 1).val + 1) fullShare.right (xgAll m)
    ∗ xgP c (2 * (sh c 1).val + 1) fullShare.left (xgAll m)
    ∗ xgP c (2 * (sh c 2).val + 1) fullShare.right (xgAll m)
    ∗ xgP c (2 * (sh c 2).val + 1) fullShare.left (xgAll m)
    ∗ xgP c (2 * (sh c 3).val + 1) fullShare (xgAll m)
    ∗ txrP c 0 (rsR m c)
    ∗ txrP c 1 (rsR m c)
    ∗ txrP c 2 (rsR m c)
    ∗ txlP c 0 (rsL m c)
    ∗ txlP c 1 (rsL m c)
    ∗ txlP c 2 (rsL m c)
    ∗ rxrP c 0 (rsR m (sh c 3))
    ∗ rxrP c 1 (rsR m (sh c 3))
    ∗ rxrP c 2 (rsR m (sh c 3))
    ∗ rxlP c 0 (rsL m (sh c 1))
    ∗ rxlP c 1 (rsL m (sh c 1))
    ∗ rxlP c 2 (rsL m (sh c 1))
    ∗ owesE c ((dl c).drop 14))

set_option maxHeartbeats 400000 in
/-- One device's run of the body. -/
theorem body_run (c : Dev nD) {Q : PUnit → sProp 𝕄} :
    preB m K c ⊢ iprop((postB m c -∗ Q ⟨⟩) -∗ wp frame (wpE (defs₀ (F := F)) 𝒱₀ (c : Thread nD τ) none) Set.univ (on (cc0__attn_body (F := F))) Q) := by
  rw [body_eq]
  unfold preB
  iintro ⟨#Hrec, #Hlev, kv, bar, own, s0, s1, s2, out, ctx, xq, p, d20, d21, d22, d26, d27, d28, d32, d33, d34, d38, d39, d40, r23, r24, r25, r29, r30, r31, r35, r36, r37, r41, r42, r43, tr0, tr1, tr2, tl0, tl1, tl2, O⟩ Hk
  iapply (run1 m K c) $$ [kv bar own s0 s1 d20 d26 O]
  · unfold pre1
    isplitr; · iexact Hrec
    isplitr; · iexact Hlev
    isplitl [kv]; · iexact kv
    isplitl [bar]; · iexact bar
    isplitl [own]; · iexact own
    isplitl [s0]; · iexact s0
    isplitl [s1]; · iexact s1
    isplitl [d20]; · iexact d20
    isplitl [d26]; · iexact d26
    iexact O
  iintro %w₃
  iintro H
  unfold post1
  icases H with ⟨kv, zb, ⟨fa0, fa1, nr0, nr1, nr2⟩, ⟨fb0, fb1, nl0, nl1, nl2⟩, xo0, xo1, s0, s1, r20, r26, O⟩
  iapply (run2 m K c) $$ [kv ctx p s2 r23 O]
  · unfold pre2
    isplitr; · iexact Hrec
    isplitr; · iexact Hlev
    isplitl [kv]; · iexact kv
    isplitl [ctx]; · iexact ctx
    isplitl [p]; · iexact p
    isplitl [s2]; · iexact s2
    isplitl [r23]; · iexact r23
    iexact O
  iintro H
  unfold post2
  icases H with ⟨kv, ctx, p, s2, x3, f23, O⟩
  iapply (run3 m K c) $$ [kv ctx xq s1 s2 x3 fa0 d21 r29 fb0 d27 tr0 nr0 d32 tl0 nl0 d38 r24 O]
  · unfold pre3
    isplitr; · iexact Hrec
    isplitr; · iexact Hlev
    isplitl [kv]; · iexact kv
    isplitl [ctx]; · iexact ctx
    isplitl [xq]; · iexact xq
    isplitl [s1]; · iexact s1
    isplitl [s2]; · iexact s2
    isplitl [x3]; · iexact x3
    isplitl [fa0]; · iexact fa0
    isplitl [d21]; · iexact d21
    isplitl [r29]; · iexact r29
    isplitl [fb0]; · iexact fb0
    isplitl [d27]; · iexact d27
    isplitl [tr0 nr0 d32]
    · isplitl [tr0]; · iexact tr0
      isplitl [nr0]; · iexact nr0
      iexact d32
    isplitl [tl0 nl0 d38]
    · isplitl [tl0]; · iexact tl0
      isplitl [nl0]; · iexact nl0
      iexact d38
    isplitl [r24]; · iexact r24
    iexact O
  iintro H
  unfold post3
  icases H with ⟨kv, ctx, xq, s1, s2, x3, r21, f29, y1, r27, r32, r38, f24, x2, O⟩
  iapply (run4 m K c) $$ [kv ctx xq s1 s2 x2 fa1 d22 r30 fb1 d28 r41 tl1 nl1 d39 r35 tr1 nr1 d33 O]
  · unfold pre4
    isplitr; · iexact Hrec
    isplitr; · iexact Hlev
    isplitl [kv]; · iexact kv
    isplitl [ctx]; · iexact ctx
    isplitl [xq]; · iexact xq
    isplitl [s1]; · iexact s1
    isplitl [s2]; · iexact s2
    isplitl [x2]; · iexact x2
    isplitl [fa1]; · iexact fa1
    isplitl [d22]; · iexact d22
    isplitl [r30]; · iexact r30
    isplitl [fb1]; · iexact fb1
    isplitl [d28]; · iexact d28
    isplitl [r41]; · iexact r41
    isplitl [tl1 nl1 d39]
    · isplitl [tl1]; · iexact tl1
      isplitl [nl1]; · iexact nl1
      iexact d39
    isplitl [r35]; · iexact r35
    isplitl [tr1 nr1 d33]
    · isplitl [tr1]; · iexact tr1
      isplitl [nr1]; · iexact nr1
      iexact d33
    iexact O
  iintro H
  unfold post4
  icases H with ⟨kv, ctx, xq, s1, s2, x2, r22, f30, y2, r28, f41, rl0, r39, f35, rr0, r33, O⟩
  iapply (run5 m K c) $$ [kv ctx xq s1 s2 r25 r31 r36 tr2 nr2 d34 r42 tl2 nl2 d40 xo1 O]
  · unfold pre5
    isplitr; · iexact Hrec
    isplitr; · iexact Hlev
    isplitl [kv]; · iexact kv
    isplitl [ctx]; · iexact ctx
    isplitl [xq]; · iexact xq
    isplitl [s1]; · iexact s1
    isplitl [s2]; · iexact s2
    isplitl [r25]; · iexact r25
    isplitl [r31]; · iexact r31
    isplitl [r36]; · iexact r36
    isplitl [tr2 nr2 d34]
    · isplitl [tr2]; · iexact tr2
      isplitl [nr2]; · iexact nr2
      iexact d34
    isplitl [r42]; · iexact r42
    isplitl [tl2 nl2 d40]
    · isplitl [tl2]; · iexact tl2
      isplitl [nl2]; · iexact nl2
      iexact d40
    isplitl [xo1]; · iexact xo1
    iexact O
  iintro H
  unfold post5
  icases H with ⟨kv, ctx, xq, s1, s2, f25, x1, f31, y3, f36, rr1, r34, f42, rl1, r40, xo1, O⟩
  iapply (run6 m K c) $$ [kv ctx p out s2 r37 r43 r20 r21 r22 r26 r27 r28 r32 r33 r34 r38 r39 O]
  · unfold pre6
    isplitr; · iexact Hrec
    isplitr; · iexact Hlev
    isplitl [kv]; · iexact kv
    isplitl [ctx]; · iexact ctx
    isplitl [p]; · iexact p
    isplitl [out]; · iexact out
    isplitl [s2]; · iexact s2
    isplitl [r37]; · iexact r37
    isplitl [r43]; · iexact r43
    isplitl [r20]; · iexact r20
    isplitl [r21]; · iexact r21
    isplitl [r22]; · iexact r22
    isplitl [r26]; · iexact r26
    isplitl [r27]; · iexact r27
    isplitl [r28]; · iexact r28
    isplitl [r32]; · iexact r32
    isplitl [r33]; · iexact r33
    isplitl [r34]; · iexact r34
    isplitl [r38]; · iexact r38
    isplitl [r39]; · iexact r39
    iexact O
  iintro H
  unfold post6
  icases H with ⟨kv, ctx, p, out, s2, ⟨f37, rr2⟩, ⟨f43, rl2⟩, ⟨f20, q20⟩, ⟨f21, q21⟩, ⟨f22, q22⟩, ⟨f26, q26⟩, ⟨f27, q27⟩, ⟨f28, q28⟩, ⟨f32, q32⟩, ⟨f33, q33⟩, ⟨f34, q34⟩, ⟨f38, q38⟩, ⟨f39, q39⟩, O⟩
  simp only [prog7, Prog.lift, Prog.bind_op, Prog.bind_ret, Prog.pure_eq_ret]
  iapply (recv_step m K c 40 (by decide) ((dl c).drop 14) (dl_lv c 14 _ (by decide)) ?_) $$ [r40 O]
  · exact rfl
  · isplitr; · iexact Hrec
    isplitr; · iexact Hlev
    isplitl [r40]; · iexact r40
    iexact O
  iintro ⟨O, f40, q40⟩
  ihave q40 := (Entails.of_eq (show dmaPay m c (40 : Fin 44).val = txlP c 2 (rsL m c) from pay_rslS m c 2)) $$ q40
  rw [wp_ret]; imodintro
  iapply Hk
  unfold postB
  isplitl [kv]; · iexact kv
  isplitl [zb]; · iexact zb
  isplitl [ctx]; · iexact ctx
  isplitl [xq]; · iexact xq
  isplitl [p]; · iexact p
  isplitl [out]; · iexact out
  isplitl [s0]; · iexact s0
  isplitl [s1]; · iexact s1
  isplitl [s2]; · iexact s2
  isplitl [f20]; · iexact f20
  isplitl [f21]; · iexact f21
  isplitl [f22]; · iexact f22
  isplitl [f23]; · iexact f23
  isplitl [f24]; · iexact f24
  isplitl [f25]; · iexact f25
  isplitl [f26]; · iexact f26
  isplitl [f27]; · iexact f27
  isplitl [f28]; · iexact f28
  isplitl [f29]; · iexact f29
  isplitl [f30]; · iexact f30
  isplitl [f31]; · iexact f31
  isplitl [f32]; · iexact f32
  isplitl [f33]; · iexact f33
  isplitl [f34]; · iexact f34
  isplitl [f35]; · iexact f35
  isplitl [f36]; · iexact f36
  isplitl [f37]; · iexact f37
  isplitl [f38]; · iexact f38
  isplitl [f39]; · iexact f39
  isplitl [f40]; · iexact f40
  isplitl [f41]; · iexact f41
  isplitl [f42]; · iexact f42
  isplitl [f43]; · iexact f43
  isplitl [xo0]; · iexact xo0
  isplitl [q20]; · iexact q20
  isplitl [x3]; · iexact x3
  isplitl [q21]; · iexact q21
  isplitl [x2]; · iexact x2
  isplitl [q22]; · iexact q22
  isplitl [x1]; · iexact x1
  isplitl [xo1]; · iexact xo1
  isplitl [q26]; · iexact q26
  isplitl [y1]; · iexact y1
  isplitl [q27]; · iexact q27
  isplitl [y2]; · iexact y2
  isplitl [q28]; · iexact q28
  isplitl [y3]; · iexact y3
  isplitl [q32]; · iexact q32
  isplitl [q33]; · iexact q33
  isplitl [q34]; · iexact q34
  isplitl [q38]; · iexact q38
  isplitl [q39]; · iexact q39
  isplitl [q40]; · iexact q40
  isplitl [rr0]; · iexact rr0
  isplitl [rr1]; · iexact rr1
  isplitl [rr2]; · iexact rr2
  isplitl [rl0]; · iexact rl0
  isplitl [rl1]; · iexact rl1
  isplitl [rl2]; · iexact rl2
  iexact O

end Cert.KernelIdeal.Att

end
-- ==== Proof.Parts.lean ====
module

public import proofs.«01_k».proof.Proof.Body
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ) (K : Dev nD × Fin 41 → ℕ)

/-! # Whole buffers in pieces, and families listed -/

/-- Three resources may be bracketed either way. -/
theorem sepA (P Q R : sProp 𝕄) : iprop((P ∗ Q) ∗ R) = iprop(P ∗ Q ∗ R) := BI.Entails.antisymm BI.sep_assoc BI.sep_assoc'

/-- Eight of a kind as a family. -/
theorem all8_eq (P : Fin 8 → sProp 𝕄) : bigSep Finset.univ P = all8 P :=
  bigSep_univ_eq_bigSepL [0, 1, 2, 3, 4, 5, 6, 7] (by decide) (by decide) P
/-- Eight parts are the eight, -/
theorem range8_eq (P : ℕ → sProp 𝕄) : bigSep (Finset.range 8) P = all8 fun h => P h.val :=
  bigSep_eq_bigSepL_of_eq [0, 1, 2, 3, 4, 5, 6, 7] (by decide) (by decide) P
/-- nine are the ninth and the eight, -/
theorem range9_eq (P : ℕ → sProp 𝕄) : bigSep (Finset.range 9) P = iprop(P 8 ∗ all8 fun h => P h.val) :=
  bigSep_eq_bigSepL_of_eq [8, 0, 1, 2, 3, 4, 5, 6, 7] (by decide) (by decide) P
/-- and three are the three. -/
theorem range3_eq (P : ℕ → sProp 𝕄) : bigSep (Finset.range 3) P = iprop(P 0 ∗ P 1 ∗ P 2) :=
  bigSep_eq_bigSepL_of_eq [0, 1, 2] (by decide) (by decide) P

/-- The exchange's cells listed: the barrier, the heads' two each, the rest. -/
theorem all41 (Φ : Fin 41 → sProp 𝕄) : bigSep Finset.univ Φ
    = iprop(Φ 0 ∗ (all8 fun h => iprop(Φ (ci (kSem h) (by show 4 ≤ 4 + 2 * h.val; omega)) ∗ Φ (ci (vSem h) (by show 4 ≤ 5 + 2 * h.val; omega))))
      ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]
  simp only [bigSepL_cons_cons, bigSepL_singleton, all8, sepA]
  rfl

/-- The gathered rows fall into eight half blocks, -/
theorem xg_split (d : Dev nD) (q : PosShare TreeShare) (f : Vec F S1024x1024 .bf16) :
    (xgM.view.loc (d : Thread nD τ) ↦{q} f : sProp 𝕄) = bigSep (Finset.range 8) fun r => xgP d r q f :=
  split_lab (xgM.view.loc (d : Thread nD τ)) q f 8 (fun i : S1024x1024.Idx => (i 0).val / 128) fun i => by
    have : (i 0).val < 1024 := (i 0).isLt
    omega
/-- The gathered rows' blocks in the order the exchange names them. -/
theorem xg_order (c : Dev nD) (P : ℕ → sProp 𝕄) : bigSep (Finset.range 8) P
    = iprop(P (2 * c.val) ∗ P (2 * c.val + 1) ∗ P (2 * (sh c 3).val) ∗ P (2 * (sh c 2).val) ∗ P (2 * (sh c 1).val)
      ∗ P (2 * (sh c 1).val + 1) ∗ P (2 * (sh c 2).val + 1) ∗ P (2 * (sh c 3).val + 1)) :=
  bigSep_eq_bigSepL_of_eq [2 * c.val, 2 * c.val + 1, 2 * (sh c 3).val, 2 * (sh c 2).val, 2 * (sh c 1).val, 2 * (sh c 1).val + 1, 2 * (sh c 2).val + 1,
    2 * (sh c 3).val + 1] (by revert c; decide) (by revert c; decide) P

/-- the keys' buffer into its heads, -/
theorem k_split (d : Dev nD) (f : Vec F S8x1152x128 .f32) :
    (kM.view.loc (d : Thread nD τ) ↦{fullShare} f : sProp 𝕄) = all8 fun h => kP d h.val f :=
  (split_lab (kM.view.loc (d : Thread nD τ)) fullShare f 8 (fun i : S8x1152x128.Idx => (i 0).val) fun i => (i 0).isLt).trans (range8_eq fun h => kP d h f)
/-- and the values' likewise. -/
theorem v_split (d : Dev nD) (f : Vec F S8x1152x128 .f32) :
    (vM.view.loc (d : Thread nD τ) ↦{fullShare} f : sProp 𝕄) = all8 fun h => vP d h.val f :=
  (split_lab (vM.view.loc (d : Thread nD τ)) fullShare f 8 (fun i : S8x1152x128.Idx => (i 0).val) fun i => (i 0).isLt).trans (range8_eq fun h => vP d h f)

/-- The elements of the whole keys have nine labels. -/
theorem hlab_lt (c : Dev nD) (i : S1x4096x32x128.Idx) : hlab c i < 9 := by
  unfold hlab; split <;> omega
/-- The key array: what no slot copies, and the slots' parts. -/
theorem kIn_split (d : Dev nD) :
    (kIn.view.loc (d : Thread nD τ) ↦{fullShare} kA m d : sProp 𝕄) = iprop(kInP m d 8 ∗ all8 fun h => kInP m d h.val) :=
  (split_lab (kIn.view.loc (d : Thread nD τ)) fullShare (kA m d) 9 (hlab d) (hlab_lt d)).trans (range9_eq fun h => kInP m d h)
/-- The whole values fall into what each head copies and the rest. -/
theorem vIn_split (d : Dev nD) :
    (vIn.view.loc (d : Thread nD τ) ↦{fullShare} vA m d : sProp 𝕄) = iprop(vInP m d 8 ∗ all8 fun h => vInP m d h.val) :=
  (split_lab (vIn.view.loc (d : Thread nD τ)) fullShare (vA m d) 9 (hlab d) (hlab_lt d)).trans (range9_eq fun h => vInP m d h)

/-- The sums to send rightwards fall into three slots, -/
theorem txr_split (d : Dev nD) (f : Vec F S3x128x1024 .bf16) :
    (txrM.view.loc (d : Thread nD τ) ↦{fullShare} f : sProp 𝕄) = iprop(txrP d 0 f ∗ txrP d 1 f ∗ txrP d 2 f) :=
  (split_lab (txrM.view.loc (d : Thread nD τ)) fullShare f 3 (fun i : S3x128x1024.Idx => (i 0).val) fun i => (i 0).isLt).trans (range3_eq fun h => txrP d h f)
/-- so do those received from the left, -/
theorem rxr_split (d : Dev nD) (f : Vec F S3x128x1024 .bf16) :
    (rxrM.view.loc (d : Thread nD τ) ↦{fullShare} f : sProp 𝕄) = iprop(rxrP d 0 f ∗ rxrP d 1 f ∗ rxrP d 2 f) :=
  (split_lab (rxrM.view.loc (d : Thread nD τ)) fullShare f 3 (fun i : S3x128x1024.Idx => (i 0).val) fun i => (i 0).isLt).trans (range3_eq fun h => rxrP d h f)
/-- those to send leftwards, -/
theorem txl_split (d : Dev nD) (f : Vec F S3x128x1024 .bf16) :
    (txlM.view.loc (d : Thread nD τ) ↦{fullShare} f : sProp 𝕄) = iprop(txlP d 0 f ∗ txlP d 1 f ∗ txlP d 2 f) :=
  (split_lab (txlM.view.loc (d : Thread nD τ)) fullShare f 3 (fun i : S3x128x1024.Idx => (i 0).val) fun i => (i 0).isLt).trans (range3_eq fun h => txlP d h f)
/-- and those received from the right. -/
theorem rxl_split (d : Dev nD) (f : Vec F S3x128x1024 .bf16) :
    (rxlM.view.loc (d : Thread nD τ) ↦{fullShare} f : sProp 𝕄) = iprop(rxlP d 0 f ∗ rxlP d 1 f ∗ rxlP d 2 f) :=
  (split_lab (rxlM.view.loc (d : Thread nD τ)) fullShare f 3 (fun i : S3x128x1024.Idx => (i 0).val) fun i => (i 0).isLt).trans (range3_eq fun h => rxlP d h f)

/-! ## What a device hands its neighbours, from its own buffers -/

/-- What a device hands its left neighbour with its signal, in the device's own terms, -/
theorem fromR_own (c : Dev nD) : (fromR (sh c 3) : sProp 𝕄)
    = iprop((∃ f, xgP c (2 * (sh c 3).val) fullShare f) ∗ (∃ f, xgP c (2 * (sh c 2).val) fullShare f) ∗ (∃ f, xgP c (2 * (sh c 1).val) fullShare f)
      ∗ (∃ f, rxrP c 0 f) ∗ (∃ f, rxrP c 1 f) ∗ (∃ f, rxrP c 2 f)) := by
  have e1 : sh (sh c 3) 1 = c := by revert c; decide
  have e2 : sh (sh c 3) 4 = sh c 3 := by revert c; decide
  have e3 : sh (sh c 3) 3 = sh c 2 := by revert c; decide
  have e4 : sh (sh c 3) 2 = sh c 1 := by revert c; decide
  unfold fromR
  rw [e1, e2, e3, e4]
/-- and what it hands its right neighbour. -/
theorem fromL_own (c : Dev nD) : (fromL (sh c 1) : sProp 𝕄)
    = iprop((∃ f, xgP c (2 * (sh c 1).val + 1) fullShare f) ∗ (∃ f, xgP c (2 * (sh c 2).val + 1) fullShare f) ∗ (∃ f, xgP c (2 * (sh c 3).val + 1) fullShare f)
      ∗ (∃ f, rxlP c 0 f) ∗ (∃ f, rxlP c 1 f) ∗ (∃ f, rxlP c 2 f)) := by
  have e1 : sh (sh c 1) 3 = c := by revert c; decide
  have e2 : sh (sh c 1) 0 = sh c 1 := by revert c; decide
  have e3 : sh (sh c 1) 1 = sh c 2 := by revert c; decide
  have e4 : sh (sh c 1) 2 = sh c 3 := by revert c; decide
  unfold fromL
  rw [e1, e2, e3, e4]

/-- The gathered rows and the two landing buffers, handed out. -/
theorem hand_out (c : Dev nD) :
    iprop((∃ f, (xgM.view.loc (c : Thread nD τ) ↦{fullShare} f)) ∗ (∃ f, (rxrM.view.loc (c : Thread nD τ) ↦{fullShare} f)) ∗ (∃ f, (rxlM.view.loc (c : Thread nD τ) ↦{fullShare} f)))
      ⊢ (iprop((∃ f, xgP c (2 * c.val) fullShare f ∗ xgP c (2 * c.val + 1) fullShare f) ∗ fromR (sh c 3) ∗ fromL (sh c 1)) : sProp 𝕄) := by
  rw [fromR_own, fromL_own]
  iintro ⟨⟨%f, Hx⟩, ⟨%g, Hr⟩, ⟨%g', Hl⟩⟩
  ihave Hx := (Entails.of_eq ((xg_split c fullShare f).trans (xg_order c fun r => xgP c r fullShare f))) $$ Hx
  ihave Hr := (Entails.of_eq (rxr_split c g)) $$ Hr
  ihave Hl := (Entails.of_eq (rxl_split c g')) $$ Hl
  icases Hx with ⟨x0, x1, a3, a2, a1, b1, b2, b3⟩
  icases Hr with ⟨r0, r1, r2⟩
  icases Hl with ⟨l0, l1, l2⟩
  isplitl [x0 x1]
  · iexists f; isplitl [x0] <;> iassumption
  isplitl [a3 a2 a1 r0 r1 r2]
  · isplitl [a3]; · iexists f; iexact a3
    isplitl [a2]; · iexists f; iexact a2
    isplitl [a1]; · iexists f; iexact a1
    isplitl [r0]; · iexists g; iexact r0
    isplitl [r1]; · iexists g; iexact r1
    iexists g; iexact r2
  · isplitl [b1]; · iexists f; iexact b1
    isplitl [b2]; · iexists f; iexact b2
    isplitl [b3]; · iexists f; iexact b3
    isplitl [l0]; · iexists g'; iexact l0
    isplitl [l1]; · iexists g'; iexact l1
    iexists g'; iexact l2

/-! ## The heads' copies, all eight -/

/-- A device's position at a cell of its own and the token it pays with at the same semaphore of its own. -/
abbrev mine (c : Dev nD) (k : Fin 44) : sProp 𝕄 := iprop(atPos ER (dCell c k) 0 ∅ 0 ∗ dutyTok ER (dCell c k) 0 false)

/-- The buffers of keys and values, what they are copied from and their semaphores, head by head; -/
theorem heads_start (c : Dev nD) :
    iprop((∃ f, (kM.view.loc (c : Thread nD τ) ↦{fullShare} f)) ∗ (∃ f, (vM.view.loc (c : Thread nD τ) ↦{fullShare} f))
        ∗ (all8 fun h => kInP m c h.val) ∗ (all8 fun h => vInP m c h.val) ∗ (all8 fun h => iprop(mine c (kSem h) ∗ mine c (vSem h))))
      ⊢ all8 (kvStart m c) := by
  iintro ⟨⟨%f, Hk⟩, ⟨%g, Hv⟩, Hki, Hvi, Hm⟩
  ihave Hk := (Entails.of_eq (k_split c f)) $$ Hk
  ihave Hv := (Entails.of_eq (v_split c g)) $$ Hv
  iapply (show iprop((all8 fun h => kP c h.val f) ∗ (all8 fun h => vP c h.val g)
      ∗ (all8 fun h => kInP m c h.val) ∗ (all8 fun h => vInP m c h.val) ∗ (all8 fun h => iprop(mine c (kSem h) ∗ mine c (vSem h)))) ⊢ all8 (kvStart m c) from by
    rw [← all8_eq, ← all8_eq, ← all8_eq, ← all8_eq, ← all8_eq, ← all8_eq, ← bigSep_sep', ← bigSep_sep', ← bigSep_sep', ← bigSep_sep']
    refine bigSep_mono fun h _ => show iprop(kP c h.val f ∗ vP c h.val g ∗ kInP m c h.val ∗ vInP m c h.val ∗ mine c (kSem h) ∗ mine c (vSem h)) ⊢ kvStart m c h from ?_
    unfold kvStart
    iintro ⟨Hk, Hv, Hki, Hvi, ⟨a, t⟩, ⟨a', t'⟩⟩
    isplitl [Hk Hki a t]
    · isplitl [Hk]; · iexists f; iexact Hk
      isplitl [Hki]; · iexact Hki
      isplitl [t] <;> iassumption
    · isplitl [Hv]; · iexists g; iexact Hv
      isplitl [Hvi]; · iexact Hvi
      isplitl [t'] <;> iassumption)
  isplitl [Hk]; · iexact Hk
  isplitl [Hv]; · iexact Hv
  isplitl [Hki]; · iexact Hki
  isplitl [Hvi]; · iexact Hvi
  iexact Hm

/-- and together again when all heads are copied. -/
theorem heads_done (c : Dev nD) :
    all8 (kvDone m c) ⊢ iprop((kM.view.loc (c : Thread nD τ) ↦{fullShare} kB m c) ∗ (vM.view.loc (c : Thread nD τ) ↦{fullShare} vB m c)
        ∗ (all8 fun h => kInP m c h.val) ∗ (all8 fun h => vInP m c h.val) ∗ (all8 fun h => iprop(fin c (kSem h) ∗ fin c (vSem h)))) := by
  rw [k_split, v_split, ← all8_eq, ← all8_eq, ← all8_eq, ← all8_eq, ← all8_eq, ← all8_eq, ← bigSep_sep', ← bigSep_sep', ← bigSep_sep', ← bigSep_sep']
  refine bigSep_mono fun h _ => show kvDone m c h ⊢ iprop(kP c h.val (kB m c) ∗ vP c h.val (vB m c) ∗ kInP m c h.val ∗ vInP m c h.val ∗ fin c (kSem h) ∗ fin c (vSem h)) from ?_
  unfold kvDone
  iintro ⟨⟨f1, Hk, Hki⟩, ⟨f2, Hv, Hvi⟩⟩
  isplitl [Hk]; · iexact Hk
  isplitl [Hv]; · iexact Hv
  isplitl [Hki]; · iexact Hki
  isplitl [Hvi]; · iexact Hvi
  isplitl [f1] <;> iassumption

/-- The gathered rows whole again. -/
theorem xg_whole (c : Dev nD) (f : Vec F S1024x1024 .bf16) :
    iprop((xgP c (2 * c.val) fullShare.right f ∗ xgP c (2 * (sh c 4).val) fullShare.left f)
        ∗ (xgP c (2 * (sh c 3).val) fullShare.right f ∗ xgP c (2 * (sh c 3).val) fullShare.left f)
        ∗ (xgP c (2 * (sh c 2).val) fullShare.right f ∗ xgP c (2 * (sh c 2).val) fullShare.left f)
        ∗ xgP c (2 * (sh c 1).val) fullShare f
        ∗ (xgP c (2 * c.val + 1) fullShare.right f ∗ xgP c (2 * (sh c 0).val + 1) fullShare.left f)
        ∗ (xgP c (2 * (sh c 1).val + 1) fullShare.right f ∗ xgP c (2 * (sh c 1).val + 1) fullShare.left f)
        ∗ (xgP c (2 * (sh c 2).val + 1) fullShare.right f ∗ xgP c (2 * (sh c 2).val + 1) fullShare.left f)
        ∗ xgP c (2 * (sh c 3).val + 1) fullShare f)
      ⊢ (xgM.view.loc (c : Thread nD τ) ↦{fullShare} f : sProp 𝕄) := by
  have j : ∀ r, iprop(xgP c r fullShare.right f ∗ xgP c r fullShare.left f) ⊢ (xgP c r fullShare f : sProp 𝕄) := fun r => by
    rw [xg_share]
    iintro ⟨a, b⟩
    isplitl [b] <;> iassumption
  rw [sh_four, sh_zero, xg_split, xg_order c]
  iintro ⟨a, b, d, e, a', b', d', e'⟩
  ihave a := (j _) $$ a
  ihave b := (j _) $$ b
  ihave d := (j _) $$ d
  ihave a' := (j _) $$ a'
  ihave b' := (j _) $$ b'
  ihave d' := (j _) $$ d'
  isplitl [a]; · iexact a
  isplitl [a']; · iexact a'
  isplitl [b]; · iexact b
  isplitl [d]; · iexact d
  isplitl [e]; · iexact e
  isplitl [b']; · iexact b'
  isplitl [d']; · iexact d'
  iexact e'

end Cert.KernelIdeal.Att

end
-- ==== Proof.Deal.lean ====
module

public import proofs.«01_k».proof.Proof.Parts
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ)

/-! # What the launch deals each device: its cells, its tokens, its credit -/

/-- The kernel's own forty semaphores. -/
def osem (k : Fin 40) : SemLoc sig := csem k.succ

/-- The exchange's semaphores are different ones, -/
theorem csem_injective : Function.Injective csem := by decide
/-- so are the cells over all devices, -/
theorem kcell_injective : Function.Injective (kcell : Dev nD × Fin 41 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def exCells : Finset (GSem nD τ sig) := Finset.univ.map ⟨kcell, kcell_injective⟩

/-- The duty tokens of a device's own cells: every cell's `false`, the barrier's `true`. -/
def tokOf (cj : Dev nD × (Unit ⊕ Fin 41)) : GSem nD τ sig × ℕ × Bool :=
  match cj.2 with
  | .inl _ => (barCell cj.1, 0, true)
  | .inr k => (kcell (cj.1, k), 0, false)
/-- and so are the tokens. -/
theorem tokOf_injective : Function.Injective tokOf := by
  rintro ⟨c, j⟩ ⟨c', j'⟩ h
  cases j with
  | inl _ =>
    cases j' with
    | inl _ => have := congrArg (fun x : GSem nD τ sig × ℕ × Bool => x.1.1.1) h; exact Prod.ext this rfl
    | inr k => exact absurd (congrArg (fun x : GSem nD τ sig × ℕ × Bool => x.2.2) h) Bool.true_eq_false_eq_False.elim
  | inr k =>
    cases j' with
    | inl _ => exact absurd (congrArg (fun x : GSem nD τ sig × ℕ × Bool => x.2.2) h) Bool.false_ne_true
    | inr k' =>
      have h1 : (c, k) = (c', k') := kcell_injective (congrArg (fun x : GSem nD τ sig × ℕ × Bool => x.1) h)
      obtain ⟨rfl, rfl⟩ := Prod.mk.inj h1
      rfl
def exToks : Finset (GSem nD τ sig × ℕ × Bool) := Finset.univ.map ⟨tokOf, tokOf_injective⟩

/-- The launch's ghost element: the pipeline's cells and the exchange's. -/
def u₀ : UU := (initOf (Pipeline.cells cfgs cellOf_inj) (Pipeline.launchToks cfgs cellOf_inj), initOf exCells exToks)

def toks (c : Dev nD) : sProp 𝕄 :=
  iprop(dutyTok ER (barCell c) 0 true ∗ bigSep Finset.univ fun k : Fin 41 => dutyTok ER (kcell (c, k)) 0 false)

/-- What the launch element deals device `c`. -/
def G (c : Dev nD) : sProp 𝕄 :=
  iprop((bigSep Finset.univ fun k : Fin 41 => roundState ER (Rd m) (kcell (c, k)) 0)
    ∗ ((bigSep Finset.univ fun k : Fin 41 => atPos ER (kcell (c, k)) 0 ∅ 0) ∗ (bigSep Finset.univ fun k : Fin 41 => reached ER (kcell (c, k)) 0)) ∗ toks c)

/-- The launch's element of the exchange is what it deals every device. -/
theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 41 => Φ (kcell (c, k)) := by
    unfold exCells; rw [bigSep_map, bigSep_univ_prod]; rfl
  have hO (Φ : Unit ⊕ Fin 41 → sProp 𝕄) : bigSep Finset.univ Φ = iprop(Φ (.inl ()) ∗ bigSep Finset.univ fun k => Φ (.inr k)) := by
    rw [bigSep_univ_sum, Finset.univ_unique, bigSep_singleton]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [hO]; rfl
  iintro HX
  imod (Rounds.fund ER (Rd m) exCells exToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The exchange's semaphores at zero: the kernel's own and the barrier. -/
theorem sems_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 41 => semVal (kcell (c, k)) 0 := by
  have e : (unscopedSems0 c : sProp 𝕄) = semVal (barCell c) 0 := by
    unfold unscopedSems0; rw [bigSep_eq_bigSepL_of_eq [SemLoc.reg barS] (by decide) (by decide)]; rfl
  rw [e, Fin.univ_succ, Finset.cons_eq_insert, BI.bigSep_insert (by simp), bigSep_map]
  rfl

/-- A device's semaphores at nought and what it is dealt make its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ ((bigSep Finset.univ fun k : Fin 41 => atPos ER (kcell (c, k)) 0 ∅ 0) ∗ (bigSep Finset.univ fun k : Fin 41 => reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 41 => semVal (kcell (c, k)) 0) ∗ bigSep Finset.univ fun k : Fin 41 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to who pays with them -/

/-- Whose semaphore `k` device `c` pays. -/
def payee (k : Fin 41) (c : Dev nD) : Dev nD :=
  if k.val ∈ [0, 20, 21, 22, 32, 33, 34] then sh c 1 else if k.val ∈ [26, 27, 28, 38, 39, 40] then sh c 3 else c
/-- Each semaphore has one payer: who pays whom is a bijection of the devices. -/
theorem payee_bijective : ∀ k : Fin 41, Function.Bijective (payee k) := by decide
def payeeE (k : Fin 41) : Dev nD ≃ Dev nD := Equiv.ofBijective (payee k) (payee_bijective k)
def leftE : Dev nD ≃ Dev nD := Equiv.ofBijective (fun c => sh c 3) (by decide)

/-- What stays with device `c`: its positions, and the tokens of the duties it pays. -/
def linear (c : Dev nD) : sProp 𝕄 :=
  iprop(dutyTok ER (barCell (sh c 3)) 0 true
    ∗ bigSep Finset.univ fun k : Fin 41 => iprop(atPos ER (kcell (c, k)) 0 ∅ 0 ∗ dutyTok ER (kcell (payee k c, k)) 0 false))

def ghost (c : Dev nD) : sProp 𝕄 := iprop(∃ K, records m K ∗ linear c)

/-- The tokens dealt to the owners of the cells are, in all, the tokens of the payers. -/
theorem toks_around : (bigSep Finset.univ fun c : Dev nD => (toks c : sProp 𝕄))
    = bigSep Finset.univ fun c : Dev nD => iprop(dutyTok ER (barCell (sh c 3)) 0 true ∗ bigSep Finset.univ fun k : Fin 41 => dutyTok ER (kcell (payee k c, k)) 0 false) := by
  unfold toks
  rw [bigSep_sep', bigSep_sep', bigSep_univ_equiv leftE (fun c : Dev nD => (dutyTok ER (barCell c) 0 true : sProp 𝕄))]
  congr 1
  rw [← bigSep_univ_prod (fun ck : Dev nD × Fin 41 => (dutyTok ER (kcell ck) 0 false : sProp 𝕄)),
    ← bigSep_univ_prod (fun ck : Dev nD × Fin 41 => (dutyTok ER (kcell (payee ck.2 ck.1, ck.2)) 0 false : sProp 𝕄)),
    bigSep_univ_equiv (((Equiv.prodComm _ _).trans (Equiv.sigmaEquivProd (Fin 41) (Dev nD)).symm).trans
      ((Equiv.sigmaCongrRight payeeE).trans ((Equiv.sigmaEquivProd (Fin 41) (Dev nD)).trans (Equiv.prodComm _ _))))
      (fun ck : Dev nD × Fin 41 => (dutyTok ER (kcell ck) 0 false : sProp 𝕄))]
  rfl

/-- Something that may be used again and again goes into each part of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The first two of three resources change places. -/
theorem swap_front (A B D : sProp 𝕄) : iprop(A ∗ B ∗ D) = iprop(B ∗ A ∗ D) := by
  have h (A B D : sProp 𝕄) : iprop(A ∗ B ∗ D) ⊢ iprop(B ∗ A ∗ D) := by
    iintro ⟨a, b, d⟩
    isplitl [b]; · iexact b
    isplitl [a] <;> iassumption
  exact BI.Entails.antisymm (h A B D) (h B A D)

/-- What the devices are dealt, told again as what each of them starts with. -/
theorem regroup :
    (bigSep Finset.univ fun c : Dev nD => iprop((bigSep Finset.univ fun k => iprop(∃ κ : ℕ, cellInv ER (Rd m) κ (kcell (c, k))))
          ∗ ((bigSep Finset.univ fun k : Fin 41 => atPos ER (kcell (c, k)) 0 ∅ 0) ∗ (bigSep Finset.univ fun k : Fin 41 => reached ER (kcell (c, k)) 0)) ∗ toks c) : sProp 𝕄)
      ⊢ bigSep Finset.univ (ghost m) := by
  rw [bigSep_sep', bigSep_sep', bigSep_sep', ← bigSep_univ_prod (fun ck : Dev nD × Fin 41 => iprop(∃ κ : ℕ, cellInv ER (Rd m) κ (kcell ck))),
    ← bigSep_univ_prod (fun ck : Dev nD × Fin 41 => (reached ER (kcell ck) 0 : sProp 𝕄)), toks_around]
  iintro ⟨HI, ⟨Hat, #HR⟩, Htok⟩
  ihave HK := (BI.bigSep_exists_pi Finset.univ (fun (ck : Dev nD × Fin 41) (κ : ℕ) => (cellInv ER (Rd m) κ (kcell ck) : sProp 𝕄))) $$ HI
  icases HK with ⟨%K, #HI⟩
  iapply (with_persistent (R := records m K) (Φ := linear) fun c _ => show iprop(records m K ∗ linear c) ⊢ ghost m c from by
    unfold ghost
    iintro H
    iexists K
    iexact H)
  isplitr
  · unfold records record
    rw [bigSep_sep']
    isplitl; · iexact HI
    iexact HR
  · iapply (Entails.of_eq (show iprop((bigSep Finset.univ fun c : Dev nD => bigSep Finset.univ fun k : Fin 41 => (atPos ER (kcell (c, k)) 0 ∅ 0 : sProp 𝕄))
        ∗ bigSep Finset.univ fun c : Dev nD => iprop(dutyTok ER (barCell (sh c 3)) 0 true ∗ bigSep Finset.univ fun k : Fin 41 => dutyTok ER (kcell (payee k c, k)) 0 false))
        = bigSep Finset.univ (linear (F := F)) from by
      rw [← bigSep_sep']
      refine bigSep_congr fun c _ => ?_
      unfold linear
      rw [bigSep_sep']
      exact swap_front _ _ _))
    isplitl [Hat] <;> iassumption

/-- The global step: every device's semaphores become the exchange's cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

abbrev O₀ (c : Dev nD) : CellTallies nD τ sig Unit := Osum (dl c)

/-- What a list of debts owes one semaphore is the sum of its entries there. -/
theorem Osum_at (l : Debt) (c : Dev nD) (sm : SemLoc sig) :
    Osum l ((c : Thread nD τ), sm) () = (l.map fun p => if c = p.1 ∧ sm = p.2.1 then p.2.2 else 0).sum := by
  induction l with
  | nil => rfl
  | cons p l ih =>
    rw [Osum, Pi.add_apply, Finsupp.add_apply, ih, tallyAt_apply, List.map_cons, List.sum_cons, Nat.add_comm]
    congr 1
    by_cases h : c = p.1 ∧ sm = p.2.1
    · rw [if_pos h, if_pos ⟨by rw [h.1, h.2], rfl⟩]
    · rw [if_neg h, if_neg fun h' => h ⟨congrArg (fun g : GSem nD τ sig => g.1.1) h'.1, congrArg Prod.snd h'.1⟩]

/-- The right neighbour of one device has it as its left neighbour, -/
theorem eq_right : ∀ c d : Dev nD, (c = sh d 1) ↔ (sh c 3 = d) := by decide
/-- and the left neighbour as its right. -/
theorem eq_left : ∀ c d : Dev nD, (c = sh d 3) ↔ (sh c 1 = d) := by decide

/-- The credit of one cell, as a sum over who owes it. -/
theorem launch_at (c : Dev nD) (sm : SemLoc sig) (n : ℕ) (h : ∑ d : Dev nD, ((dl d).map fun p => if c = p.1 ∧ sm = p.2.1 then p.2.2 else 0).sum = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => Osum_at (dl d) c sm, h]

/-- In all, two units are owed to each barrier, -/
theorem owed_bar (c : Dev nD) : ∑ d : Dev nD, ((dl d).map fun p => if c = p.1 ∧ SemLoc.reg barS = p.2.1 then p.2.2 else 0).sum = 2 := by
  simp only [dl, List.map_cons, List.map_nil, List.sum_cons, List.sum_nil, reduceCtorEq, and_false, and_true, if_false, eq_right, eq_left, Nat.add_zero,
    Finset.sum_add_distrib, Finset.sum_ite_eq', Finset.sum_ite_eq, Finset.mem_univ, if_true]
/-- one copy to each semaphore that counts arrivals from the left, -/
theorem owed_right (c : Dev nD) (k : Fin 44) (hk : k ∈ ([23, 24, 25, 35, 36, 37] : List (Fin 44))) :
    ∑ d : Dev nD, ((dl d).map fun p => if c = p.1 ∧ SemLoc.dma (dsem k) = p.2.1 then p.2.2 else 0).sum = NX := by
  have e (j : Fin 44) : SemLoc.dma (sig := sig) (dsem k) = .dma (dsem j) ↔ k = j := ⟨fun h => by injection h, fun h => h ▸ rfl⟩
  simp only [dl, List.map_cons, List.map_nil, List.sum_cons, List.sum_nil, reduceCtorEq, e, and_false, if_false]
  simp only [List.mem_cons, List.not_mem_nil, or_false] at hk
  rcases hk with rfl | rfl | rfl | rfl | rfl | rfl <;>
    simp [eq_right, eq_left]
/-- and one to each that counts arrivals from the right. -/
theorem owed_left (c : Dev nD) (k : Fin 44) (hk : k ∈ ([29, 30, 31, 41, 42, 43] : List (Fin 44))) :
    ∑ d : Dev nD, ((dl d).map fun p => if c = p.1 ∧ SemLoc.dma (dsem k) = p.2.1 then p.2.2 else 0).sum = NX := by
  have e (j : Fin 44) : SemLoc.dma (sig := sig) (dsem k) = .dma (dsem j) ↔ k = j := ⟨fun h => by injection h, fun h => h ▸ rfl⟩
  simp only [dl, List.map_cons, List.map_nil, List.sum_cons, List.sum_nil, reduceCtorEq, e, and_false, if_false]
  simp only [List.mem_cons, List.not_mem_nil, or_false] at hk
  rcases hk with rfl | rfl | rfl | rfl | rfl | rfl <;>
    simp [eq_right, eq_left]

/-- A device's credits: two units at its barrier, a block at each arrival. -/
def creds (c : Dev nD) : sProp 𝕄 :=
  iprop(cred (tallyAt (barCell c) () 2)
    ∗ bigSepL ([23, 24, 25, 29, 30, 31, 35, 36, 37, 41, 42, 43] : List (Fin 44)) fun k => cred (tallyAt (dCell c k) () (amt k.val)))

/-- The credit of the launch is the credit for the arrivals that a device waits for. -/
theorem creds_intro (c : Dev nD) : (Pipeline.launchCred O₀ c : sProp 𝕄) ⊢ creds c := by
  unfold Pipeline.launchCred creds
  rw [bigSep_univ_at _ (SemLoc.reg barS), launch_at c _ 2 (owed_bar c)]
  refine sep_mono_right ?_
  rw [← bigSep_eq_bigSepL _ (by decide)]
  have h1 : (bigSep (([23, 24, 25, 29, 30, 31, 35, 36, 37, 41, 42, 43] : List (Fin 44)).toFinset) fun k => (cred (tallyAt (dCell c k) () (amt k.val)) : sProp 𝕄))
      = bigSep ((([23, 24, 25, 29, 30, 31, 35, 36, 37, 41, 42, 43] : List (Fin 44)).toFinset).map ⟨fun k => SemLoc.dma (sig := sig) (dsem k), fun a b h => by injection h⟩)
          fun sm => cred (tallyOn ((c : Thread nD τ), sm) (launchCredit (Pipeline.owing O₀) 0 ((c : Thread nD τ), sm))) := by
    rw [bigSep_map]
    refine bigSep_congr fun k hk => ?_
    have hv : amt k.val = NX := by
      revert k; unfold amt; decide
    rw [hv]
    congr 1
    refine (launch_at c (.dma (dsem k)) NX ?_).symm
    rw [List.mem_toFinset] at hk
    by_cases hr : k ∈ ([23, 24, 25, 35, 36, 37] : List (Fin 44))
    · exact owed_right c k hr
    · exact owed_left c k (by revert k; decide)
  rw [h1, BI.bigSep_sdiff_split (s := Finset.univ.erase (SemLoc.reg barS)) (t := ((([23, 24, 25, 29, 30, 31, 35, 36, 37, 41, 42, 43] : List (Fin 44)).toFinset).map ⟨fun k => SemLoc.dma (sig := sig) (dsem k), fun a b h => by injection h⟩)) (by decide)]
  exact BI.Laws.sep_elim_left

end Cert.KernelIdeal.Att

end
-- ==== Proof.Whole.lean ====
module

public import proofs.«01_k».proof.Proof.Deal
public import Idealize.ShloMosaic.Lib.Pipeline.Value
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ UU ℕ

variable (m : (ℓ : Loc nD τ sig) → Buf (Elt F) ℓ) (ρ : Dev nD → PrngReg)

/-! # The pipeline's proof data, and the launch -/

/-! ## Whole windows -/

/-- A window that is its whole array moves no index. -/
theorem full_emb (w : Pipeline.Window sig grid0) (t : Fin grid0.N) (h : ∀ a, w.kind.off (w.index t a) (w.size a) = 0) (i : (w.xblock (grid0.coords t)).Idx)
    (a : Fin w.shape.rank) : ((w.rect t).emb i a : ℕ) = i a := by
  rw [w.rect_emb_val_off t i a, h a, Nat.zero_add]
/-- The window of `x` is the whole block, -/
theorem blk_0 (f : Vec F S1x256x1024 .bf16) : (win0_0.blk (0 : Fin 1)).view.read (Elt F) f = f :=
  funext fun i => congrArg f (funext fun a => Fin.ext (full_emb win0_0 (0 : Fin 1) (fun _ => Nat.zero_mul _) i a))
/-- so is that of the query weights, -/
theorem blk_1 (f : Vec F S1024x1024 .bf16) : (win0_1.blk (0 : Fin 1)).view.read (Elt F) f = f :=
  funext fun i => congrArg f (funext fun a => Fin.ext (full_emb win0_1 (0 : Fin 1) (fun _ => Nat.zero_mul _) i a))
/-- that of the output weights, -/
theorem blk_2 (f : Vec F S1024x1024 .bf16) : (win0_2.blk (0 : Fin 1)).view.read (Elt F) f = f :=
  funext fun i => congrArg f (funext fun a => Fin.ext (full_emb win0_2 (0 : Fin 1) (fun _ => Nat.zero_mul _) i a))
/-- and that of the result. -/
theorem blk_3 (f : Vec F S1x256x1024 .f32) : (win0_3.blk (0 : Fin 1)).view.read (Elt F) f = f :=
  funext fun i => congrArg f (funext fun a => Fin.ext (full_emb win0_3 (0 : Fin 1) (fun _ => Nat.zero_mul _) i a))

/-! ## The pipeline's proof data -/

/-- What device `c`'s body starts from, apart from its staging and scratch buffers. -/
def start (c : Dev nD) : sProp 𝕄 :=
  iprop(ghost m c ∗ creds c ∗ levAts L lv ∗ (kIn.view.loc (c : Thread nD τ) ↦{fullShare} kA m c) ∗ (vIn.view.loc (c : Thread nD τ) ↦{fullShare} vA m c))

/-- The scratch buffers, whole, whatever they hold. -/
def scratch (c : Dev nD) : sProp 𝕄 :=
  iprop((∃ f, (xgM.view.loc (c : Thread nD τ) ↦{fullShare} f)) ∗ (∃ f, (xqM.view.loc (c : Thread nD τ) ↦{fullShare} f)) ∗ (∃ f, (ctxM.view.loc (c : Thread nD τ) ↦{fullShare} f)) ∗ (∃ f, (pM.view.loc (c : Thread nD τ) ↦{fullShare} f)) ∗ (∃ f, (kM.view.loc (c : Thread nD τ) ↦{fullShare} f)) ∗ (∃ f, (vM.view.loc (c : Thread nD τ) ↦{fullShare} f)) ∗ (∃ f, (txrM.view.loc (c : Thread nD τ) ↦{fullShare} f)) ∗ (∃ f, (rxrM.view.loc (c : Thread nD τ) ↦{fullShare} f)) ∗ (∃ f, (txlM.view.loc (c : Thread nD τ) ↦{fullShare} f)) ∗ (∃ f, (rxlM.view.loc (c : Thread nD τ) ↦{fullShare} f)))

def Φ₀ (c : Dev nD) : sProp 𝕄 := iprop(start m c ∗ scratch c)
/-- After the body: the key and value arrays as they were, the scratch, every semaphore of the exchange at zero. -/
def Φ₁ (c : Dev nD) : sProp 𝕄 :=
  iprop(((kIn.view.loc (c : Thread nD τ) ↦{fullShare} kA m c) ∗ (vIn.view.loc (c : Thread nD τ) ↦{fullShare} vA m c)) ∗ scratch c
    ∗ bigSep Finset.univ fun k : Fin 41 => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => wqA m c
    | ⟨2, _⟩ => woA m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- To own a whole buffer is to hold its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's bundle, from what the launch gives -/

/-- What a device sends and receives with. -/
def sndrcv (c : Dev nD) : sProp 𝕄 :=
  iprop(snd c 20 (sh c 1) 23 ∗ snd c 21 (sh c 1) 24 ∗ snd c 22 (sh c 1) 25 ∗ snd c 26 (sh c 3) 29 ∗ snd c 27 (sh c 3) 30 ∗ snd c 28 (sh c 3) 31 ∗ snd c 32 (sh c 1) 35 ∗ snd c 33 (sh c 1) 36 ∗ snd c 34 (sh c 1) 37 ∗ snd c 38 (sh c 3) 41 ∗ snd c 39 (sh c 3) 42 ∗ snd c 40 (sh c 3) 43 ∗ rcv c 23 ∗ rcv c 24 ∗ rcv c 25 ∗ rcv c 29 ∗ rcv c 30 ∗ rcv c 31 ∗ rcv c 35 ∗ rcv c 36 ∗ rcv c 37 ∗ rcv c 41 ∗ rcv c 42 ∗ rcv c 43)

/-- The credit of one arrival. -/
abbrev cr (c : Dev nD) (k : Fin 44) : sProp 𝕄 := cred (tallyAt (dCell c k) () (amt k.val))
/-- The credit of a device, one arrival after another. -/
theorem creds_eq (c : Dev nD) : (creds c : sProp 𝕄) = iprop(cred (tallyAt (barCell c) () 2) ∗ cr c 23 ∗ cr c 24 ∗ cr c 25 ∗ cr c 29 ∗ cr c 30 ∗ cr c 31 ∗ cr c 35 ∗ cr c 36 ∗ cr c 37 ∗ cr c 41 ∗ cr c 42 ∗ cr c 43) := rfl

/-- The copies of keys and values pay the device's own semaphores. -/
theorem payee_heads : ∀ h : Fin 8, ∀ c, payee (ci (kSem h) (by show 4 ≤ 4 + 2 * h.val; omega)) c = c ∧ payee (ci (vSem h) (by show 4 ≤ 5 + 2 * h.val; omega)) c = c := by
  decide
/-- Equal parts make equal products. -/
theorem all8_congr {P Q : Fin 8 → sProp 𝕄} (h : ∀ i, P i = Q i) : all8 P = all8 Q := by rw [funext h]
/-- A head's cells are paid by their own device. -/
theorem item_own (c : Dev nD) (h : Fin 8) :
    (iprop((atPos ER (kcell (c, ci (kSem h) (by show 4 ≤ 4 + 2 * h.val; omega))) 0 ∅ 0 ∗ dutyTok ER (kcell (payee (ci (kSem h) (by show 4 ≤ 4 + 2 * h.val; omega)) c, ci (kSem h) (by show 4 ≤ 4 + 2 * h.val; omega))) 0 false)
        ∗ (atPos ER (kcell (c, ci (vSem h) (by show 4 ≤ 5 + 2 * h.val; omega))) 0 ∅ 0 ∗ dutyTok ER (kcell (payee (ci (vSem h) (by show 4 ≤ 5 + 2 * h.val; omega)) c, ci (vSem h) (by show 4 ≤ 5 + 2 * h.val; omega))) 0 false)) : sProp 𝕄)
      = iprop(mine c (kSem h) ∗ mine c (vSem h)) := by
  rw [(payee_heads h c).1, (payee_heads h c).2, kcell_dma, kcell_dma]

set_option maxHeartbeats 2000000 in
/-- The cells of device `c`: its barrier with the two signals it sends, its heads' cells, its sends and receipts. -/
theorem deal_out (c : Dev nD) :
    iprop(linear c ∗ creds c)
      ⊢ (iprop((atPos ER (barCell c) 0 ∅ 0 ∗ cred (tallyAt (barCell c) () 2) ∗ dutyTok ER (barCell (sh c 3)) 0 true ∗ dutyTok ER (barCell (sh c 1)) 0 false)
        ∗ (all8 fun h => iprop(mine c (kSem h) ∗ mine c (vSem h))) ∗ sndrcv c) : sProp 𝕄) := by
  unfold linear sndrcv
  rw [all41, creds_eq]
  iintro ⟨⟨tb, ⟨pb, tb'⟩, H8, ⟨p20, t20⟩, ⟨p21, t21⟩, ⟨p22, t22⟩, ⟨p23, t23⟩, ⟨p24, t24⟩, ⟨p25, t25⟩, ⟨p26, t26⟩, ⟨p27, t27⟩, ⟨p28, t28⟩, ⟨p29, t29⟩, ⟨p30, t30⟩, ⟨p31, t31⟩, ⟨p32, t32⟩, ⟨p33, t33⟩, ⟨p34, t34⟩, ⟨p35, t35⟩, ⟨p36, t36⟩, ⟨p37, t37⟩, ⟨p38, t38⟩, ⟨p39, t39⟩, ⟨p40, t40⟩, ⟨p41, t41⟩, ⟨p42, t42⟩, ⟨p43, t43⟩⟩, cb, c23, c24, c25, c29, c30, c31, c35, c36, c37, c41, c42, c43⟩
  isplitl [tb pb tb' cb]
  · isplitl [pb]; · iexact pb
    isplitl [cb]; · iexact cb
    isplitl [tb]; · iexact tb
    iexact tb'
  isplitl [H8]
  · iapply (Entails.of_eq (all8_congr (item_own c)))
    iexact H8
  isplitl [t20 t23 p20]
  · unfold snd; isplitl [t20]; · iexact t20
    isplitl [t23]; · iexact t23
    iexact p20
  isplitl [t21 t24 p21]
  · unfold snd; isplitl [t21]; · iexact t21
    isplitl [t24]; · iexact t24
    iexact p21
  isplitl [t22 t25 p22]
  · unfold snd; isplitl [t22]; · iexact t22
    isplitl [t25]; · iexact t25
    iexact p22
  isplitl [t26 t29 p26]
  · unfold snd; isplitl [t26]; · iexact t26
    isplitl [t29]; · iexact t29
    iexact p26
  isplitl [t27 t30 p27]
  · unfold snd; isplitl [t27]; · iexact t27
    isplitl [t30]; · iexact t30
    iexact p27
  isplitl [t28 t31 p28]
  · unfold snd; isplitl [t28]; · iexact t28
    isplitl [t31]; · iexact t31
    iexact p28
  isplitl [t32 t35 p32]
  · unfold snd; isplitl [t32]; · iexact t32
    isplitl [t35]; · iexact t35
    iexact p32
  isplitl [t33 t36 p33]
  · unfold snd; isplitl [t33]; · iexact t33
    isplitl [t36]; · iexact t36
    iexact p33
  isplitl [t34 t37 p34]
  · unfold snd; isplitl [t34]; · iexact t34
    isplitl [t37]; · iexact t37
    iexact p34
  isplitl [t38 t41 p38]
  · unfold snd; isplitl [t38]; · iexact t38
    isplitl [t41]; · iexact t41
    iexact p38
  isplitl [t39 t42 p39]
  · unfold snd; isplitl [t39]; · iexact t39
    isplitl [t42]; · iexact t42
    iexact p39
  isplitl [t40 t43 p40]
  · unfold snd; isplitl [t40]; · iexact t40
    isplitl [t43]; · iexact t43
    iexact p40
  isplitl [c23 p23]
  · unfold rcv; isplitl [c23]; · iexact c23
    iexact p23
  isplitl [c24 p24]
  · unfold rcv; isplitl [c24]; · iexact c24
    iexact p24
  isplitl [c25 p25]
  · unfold rcv; isplitl [c25]; · iexact c25
    iexact p25
  isplitl [c29 p29]
  · unfold rcv; isplitl [c29]; · iexact c29
    iexact p29
  isplitl [c30 p30]
  · unfold rcv; isplitl [c30]; · iexact c30
    iexact p30
  isplitl [c31 p31]
  · unfold rcv; isplitl [c31]; · iexact c31
    iexact p31
  isplitl [c35 p35]
  · unfold rcv; isplitl [c35]; · iexact c35
    iexact p35
  isplitl [c36 p36]
  · unfold rcv; isplitl [c36]; · iexact c36
    iexact p36
  isplitl [c37 p37]
  · unfold rcv; isplitl [c37]; · iexact c37
    iexact p37
  isplitl [c41 p41]
  · unfold rcv; isplitl [c41]; · iexact c41
    iexact p41
  isplitl [c42 p42]
  · unfold rcv; isplitl [c42]; · iexact c42
    iexact p42
  unfold rcv; isplitl [c43]; · iexact c43
  iexact p43

end Cert.KernelIdeal.Att

end
-- ==== Proof.Oblig.lean ====
module

public import proofs.«01_k».proof.Proof.Whole
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! # The body's obligation, and the run of the program -/

/-- The operands and the result's staging buffer before the body. -/
def stages (c : Dev nD) : sProp 𝕄 :=
  iprop(((Memref.whole cc0_stg0_0).view.loc (c : Thread nD τ) ↦{fullShare} xA m c) ∗ ((Memref.whole cc0_stg1_0).view.loc (c : Thread nD τ) ↦{fullShare} wqA m c)
    ∗ ((Memref.whole cc0_stg2_0).view.loc (c : Thread nD τ) ↦{fullShare} woA m c))
/-- The parts of the key and value arrays no head copies. -/
def aside (c : Dev nD) : sProp 𝕄 := iprop(kInP m c 8 ∗ vInP m c 8)

set_option maxHeartbeats 2000000 in
/-- What the launch gives makes what the body takes. -/
theorem pre_of (K : Dev nD × Fin 41 → ℕ) (c : Dev nD) :
    iprop(records m K ∗ linear c ∗ creds c ∗ levAts L lv ∗ (kIn.view.loc (c : Thread nD τ) ↦{fullShare} kA m c) ∗ (vIn.view.loc (c : Thread nD τ) ↦{fullShare} vA m c)
        ∗ scratch c ∗ stages m c ∗ (∃ f, (outM.view.loc (c : Thread nD τ) ↦{fullShare} f)) ∗ owesE c ((dl c).drop 0))
      ⊢ (iprop(preB m K c ∗ aside m c) : sProp 𝕄) := by
  unfold scratch stages preB aside
  rw [kIn_split, vIn_split]
  iintro ⟨Hrec, Hlin, Hcr, Hlev, ⟨k8, ki⟩, ⟨v8, vi⟩, ⟨xg, xq, ctx, p, kb, vb, ⟨%ftr, tr⟩, rr, ⟨%ftl, tl⟩, rl⟩, ⟨s0, s1, s2⟩, out, O⟩
  ihave H := (deal_out c) $$ [Hlin Hcr]
  · isplitl [Hlin] <;> iassumption
  icases H with ⟨⟨pb, cb, tb, tb'⟩, Hm, Hsr⟩
  ihave H := (hand_out c) $$ [xg rr rl]
  · isplitl [xg]; · iexact xg
    isplitl [rr]; · iexact rr
    iexact rl
  icases H with ⟨own, fr, fl⟩
  ihave kv := (heads_start m c) $$ [kb vb ki vi Hm]
  · isplitl [kb]; · iexact kb
    isplitl [vb]; · iexact vb
    isplitl [ki]; · iexact ki
    isplitl [vi]; · iexact vi
    iexact Hm
  ihave tr := (Entails.of_eq (txr_split c ftr)) $$ tr
  icases tr with ⟨tr0, tr1, tr2⟩
  ihave tl := (Entails.of_eq (txl_split c ftl)) $$ tl
  icases tl with ⟨tl0, tl1, tl2⟩
  unfold sndrcv
  icases Hsr with ⟨d20, d21, d22, d26, d27, d28, d32, d33, d34, d38, d39, d40, r23, r24, r25, r29, r30, r31, r35, r36, r37, r41, r42, r43⟩
  isplitr [k8 v8]
  · isplitl [Hrec]; · iexact Hrec
    isplitl [Hlev]; · iexact Hlev
    isplitl [kv]; · iexact kv
    isplitl [pb cb tb tb' fr fl]
    · isplitl [pb]; · iexact pb
      isplitl [cb]; · iexact cb
      isplitl [tb]; · iexact tb
      isplitl [tb']; · iexact tb'
      isplitl [fr]; · iexact fr
      iexact fl
    isplitl [own]; · iexact own
    isplitl [s0]; · iexact s0
    isplitl [s1]; · iexact s1
    isplitl [s2]; · iexact s2
    isplitl [out]; · iexact out
    isplitl [ctx]; · iexact ctx
    isplitl [xq]; · iexact xq
    isplitl [p]; · iexact p
    isplitl [d20]; · iexact d20
    isplitl [d21]; · iexact d21
    isplitl [d22]; · iexact d22
    isplitl [d26]; · iexact d26
    isplitl [d27]; · iexact d27
    isplitl [d28]; · iexact d28
    isplitl [d32]; · iexact d32
    isplitl [d33]; · iexact d33
    isplitl [d34]; · iexact d34
    isplitl [d38]; · iexact d38
    isplitl [d39]; · iexact d39
    isplitl [d40]; · iexact d40
    isplitl [r23]; · iexact r23
    isplitl [r24]; · iexact r24
    isplitl [r25]; · iexact r25
    isplitl [r29]; · iexact r29
    isplitl [r30]; · iexact r30
    isplitl [r31]; · iexact r31
    isplitl [r35]; · iexact r35
    isplitl [r36]; · iexact r36
    isplitl [r37]; · iexact r37
    isplitl [r41]; · iexact r41
    isplitl [r42]; · iexact r42
    isplitl [r43]; · iexact r43
    isplitl [tr0]; · (iexists ftr; iexact tr0)
    isplitl [tr1]; · (iexists ftr; iexact tr1)
    isplitl [tr2]; · (iexists ftr; iexact tr2)
    isplitl [tl0]; · (iexists ftl; iexact tl0)
    isplitl [tl1]; · (iexists ftl; iexact tl1)
    isplitl [tl2]; · (iexists ftl; iexact tl2)
    iexact O
  · isplitl [k8] <;> iassumption

/-- A head's two semaphores, named both ways. -/
theorem fin_own (c : Dev nD) (h : Fin 8) :
    (iprop(semVal (kcell (c, ci (kSem h) (by show 4 ≤ 4 + 2 * h.val; omega))) 0 ∗ semVal (kcell (c, ci (vSem h) (by show 4 ≤ 5 + 2 * h.val; omega))) 0) : sProp 𝕄)
      = iprop(fin c (kSem h) ∗ fin c (vSem h)) := by
  rw [kcell_dma, kcell_dma]; rfl

set_option maxHeartbeats 2000000 in
/-- What the body leaves is what the launch wants back. -/
theorem of_post (c : Dev nD) :
    iprop(postB m c ∗ aside m c)
      ⊢ (iprop(Φ₁ m c ∗ stages m c ∗ (outM.view.loc (c : Thread nD τ) ↦{fullShare} outC m c) ∗ owesE c ((dl c).drop 14)) : sProp 𝕄) := by
  unfold postB aside Φ₁ stages scratch
  rw [kIn_split, vIn_split, all41]
  iintro ⟨⟨kv, zb, ctx, xq, p, out, s0, s1, s2, f20, f21, f22, f23, f24, f25, f26, f27, f28, f29, f30, f31, f32, f33, f34, f35, f36, f37, f38, f39, f40, f41, f42, f43, x0, x1, x2, x3, x4, x5, x6, x7, x8, x9, x10, x11, x12, x13, tr0, tr1, tr2, tl0, tl1, tl2, rr0, rr1, rr2, rl0, rl1, rl2, O⟩, k8, v8⟩
  ihave H := (heads_done m c) $$ kv
  icases H with ⟨kb, vb, ki, vi, fk⟩
  ihave xg := (xg_whole c (xgAll m)) $$ [x0 x1 x2 x3 x4 x5 x6 x7 x8 x9 x10 x11 x12 x13]
  · isplitl [x0 x1]; · (isplitl [x0] <;> iassumption)
    isplitl [x2 x3]; · (isplitl [x2] <;> iassumption)
    isplitl [x4 x5]; · (isplitl [x4] <;> iassumption)
    isplitl [x6]; · iexact x6
    isplitl [x7 x8]; · (isplitl [x7] <;> iassumption)
    isplitl [x9 x10]; · (isplitl [x9] <;> iassumption)
    isplitl [x11 x12]; · (isplitl [x11] <;> iassumption)
    iexact x13
  ihave tr := (Entails.of_eq (txr_split c (rsR m c)).symm) $$ [tr0 tr1 tr2]
  · isplitl [tr0]; · iexact tr0
    isplitl [tr1] <;> iassumption
  ihave tl := (Entails.of_eq (txl_split c (rsL m c)).symm) $$ [tl0 tl1 tl2]
  · isplitl [tl0]; · iexact tl0
    isplitl [tl1] <;> iassumption
  ihave rr := (Entails.of_eq (rxr_split c (rsR m (sh c 3))).symm) $$ [rr0 rr1 rr2]
  · isplitl [rr0]; · iexact rr0
    isplitl [rr1] <;> iassumption
  ihave rl := (Entails.of_eq (rxl_split c (rsL m (sh c 1))).symm) $$ [rl0 rl1 rl2]
  · isplitl [rl0]; · iexact rl0
    isplitl [rl1] <;> iassumption
  unfold held
  icases out with ⟨%fo, %ho, out⟩
  have hfo : fo = outC m c := funext fun y => ho y trivial
  subst hfo
  isplitr [s0 s1 s2 out O]
  · isplitl [k8 ki v8 vi]
    · isplitl [k8 ki]
      · isplitl [k8] <;> iassumption
      · isplitl [v8] <;> iassumption
    isplitr [zb fk f20 f21 f22 f23 f24 f25 f26 f27 f28 f29 f30 f31 f32 f33 f34 f35 f36 f37 f38 f39 f40 f41 f42 f43]
    · isplitl [xg]; · (iexists _; iexact xg)
      isplitl [xq]; · iexact xq
      isplitl [ctx]; · iexact ctx
      isplitl [p]; · iexact p
      isplitl [kb]; · (iexists _; iexact kb)
      isplitl [vb]; · (iexists _; iexact vb)
      isplitl [tr]; · (iexists _; iexact tr)
      isplitl [rr]; · (iexists _; iexact rr)
      isplitl [tl]; · (iexists _; iexact tl)
      iexists _; iexact rl
    isplitl [zb]; · iexact zb
    isplitl [fk]
    · iapply (Entails.of_eq (all8_congr (fin_own c)).symm)
      iexact fk
    unfold fin
    isplitl [f20]; · iexact f20
    isplitl [f21]; · iexact f21
    isplitl [f22]; · iexact f22
    isplitl [f23]; · iexact f23
    isplitl [f24]; · iexact f24
    isplitl [f25]; · iexact f25
    isplitl [f26]; · iexact f26
    isplitl [f27]; · iexact f27
    isplitl [f28]; · iexact f28
    isplitl [f29]; · iexact f29
    isplitl [f30]; · iexact f30
    isplitl [f31]; · iexact f31
    isplitl [f32]; · iexact f32
    isplitl [f33]; · iexact f33
    isplitl [f34]; · iexact f34
    isplitl [f35]; · iexact f35
    isplitl [f36]; · iexact f36
    isplitl [f37]; · iexact f37
    isplitl [f38]; · iexact f38
    isplitl [f39]; · iexact f39
    isplitl [f40]; · iexact f40
    isplitl [f41]; · iexact f41
    isplitl [f42]; · iexact f42
    iexact f43
  isplitl [s0 s1 s2]
  · isplitl [s0]; · iexact s0
    isplitl [s1] <;> iassumption
  isplitl [out]; · iexact out
  iexact O

def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xA m c) ∗ stg c cc0_stg1_0 (wqA m c) ∗ stg c cc0_stg2_0 (woA m c) ∗ stg c cc0_stg3_0 (outC m c))

/-- At the end nothing is owed. -/
theorem owed_end (c : Dev nD) : (Osum ((dl c).drop 14) : CellTallies nD τ sig Unit) = 0 := rfl

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ (c : Thread nD τ) none) Set.univ (on (cc0__attn_body (F := F))) (fun _ => bodyPost m c)
  unfold bodyPre' Φ₀ start ghost
  iintro ⟨⟨⟨⟨%K, Hrec, Hlin⟩, Hcr, Hlev, Hk, Hv⟩, Hscr⟩, Ho, ⟨%d0, %g0, %hg0, H0⟩, ⟨%d1, %g1, %hg1, H1⟩, ⟨%d2, %g2, %hg2, H2⟩, ⟨%d3, %g3, %hg3, H3⟩⟩
  have h0 : g0 = xA m c := by
    rw [hg0]; unfold Dat.before; rw [if_pos (fetch0_0 _)]; exact blk_0 (xA m c)
  have h1 : g1 = wqA m c := by
    rw [hg1]; unfold Dat.before; rw [if_pos (fetch0_1 _)]; exact blk_1 (wqA m c)
  have h2 : g2 = woA m c := by
    rw [hg2]; unfold Dat.before; rw [if_pos (fetch0_2 _)]; exact blk_2 (woA m c)
  subst h0; subst h1; subst h2
  unfold Dat.owesAt Pipeline.owesWithin
  icases Ho with ⟨%W, %hW, HO⟩
  ihave H := (pre_of m K c) $$ [Hrec Hlin Hcr Hlev Hk Hv Hscr H0 H1 H2 H3 HO]
  · isplitl [Hrec]; · iexact Hrec
    isplitl [Hlin]; · iexact Hlin
    isplitl [Hcr]; · iexact Hcr
    isplitl [Hlev]; · iexact Hlev
    isplitl [Hk]; · iexact Hk
    isplitl [Hv]; · iexact Hv
    isplitl [Hscr]; · iexact Hscr
    isplitl [H0 H1 H2]
    · unfold stages
      isplitl [H0]; · iexact H0
      isplitl [H1]; · iexact H1
      iexact H2
    isplitl [H3]; · (iexists g3; iexact H3)
    unfold owesE
    iexists W; iexact HO
  icases H with ⟨Hpre, Has⟩
  iapply (body_run m K c) $$ Hpre
  iintro Hpost
  ihave H := (of_post m c) $$ [Hpost Has]
  · isplitl [Hpost] <;> iassumption
  unfold stages owesE
  icases H with ⟨HΦ, ⟨H0, H1, H2⟩, H3, ⟨%W', HO⟩⟩
  unfold bodyPost Dat.owesAt Pipeline.owesWithin
  isplitl [HΦ]; · iexact HΦ
  isplitl [HO]
  · iexists W'
    isplitr; · ipureintro; exact fun _ _ => Or.inl trivial
    rw [show (dats m 0 c).owed t0_0.succ = Osum ((dl c).drop 14) from (owed_end c).symm]
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

end Cert.KernelIdeal.Att

end
-- ==== Proof.Run.lean ====
module

public import proofs.«01_k».proof.Proof.Oblig
public import Idealize.ShloMosaic.Lib.Pipeline.CollectiveSegs
public import Idealize.ShloMosaic.Adequacy
@[expose] public section

set_option maxRecDepth 16384

noncomputable section

namespace Cert.KernelIdeal.Att

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! # The run of the whole program -/

/-- The kernel's own semaphores are different, and none is another's. -/
theorem ownSemFacts : Pipeline.OwnSemFacts cfg0.spec osem := by decide

/-- Every window is held whole. -/
theorem share_eq (c : Dev nD) (w : Fin cfg0.W) : (dats m 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨⟨Hk, Hv⟩, Hlev, Hcr, -, HG⟩
  ihave Hc := (creds_intro (F := F) c) $$ Hcr
  imodintro
  unfold start
  isplitl
  · isplitl [HG]; · iexact HG
    isplitl [Hc]; · iexact Hc
    isplitl [Hlev]; · iexact Hlev
    isplitl [Hk]; · iexact Hk
    iexact Hv
  · iempintro

/-- With its scratch buffers that is what the one step starts from, -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the launch reads back: the key and value arrays, the barrier's semaphore. -/
def final (c : Dev nD) : sProp 𝕄 :=
  iprop(((kIn.view.loc (c : Thread nD τ) ↦{fullShare} kA m c) ∗ (vIn.view.loc (c : Thread nD τ) ↦{fullShare} vA m c)) ∗ unscopedSems0 c)

/-- and what the step ends with is the result, the semaphores and the scratch buffers. -/
theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq]
  unfold Φ₁ final scratch
  rw [← sems_eq]
  iintro ⟨Hkv, Hr, Hu, Ho⟩
  isplitl [Hkv Hu]
  · isplitl [Hkv]; · iexact Hkv
    iexact Hu
  isplitl [Ho]; · iexact Ho
  iexact Hr

/-- The pipeline's waits stand in the order of the levels. -/
theorem waits (c : Dev nD) : (levAts L lv : sProp 𝕄) ⊢ Pipeline.cellsWaits cfgs (dats m) () 0 c :=
  Pipeline.cellsWaits_intro cfgs (dats m) () 0 c fun w s t => by
    have hz : lvS (.dma ((cfg0.win w).sem s)) = 0 := by fin_cases w <;> fin_cases s <;> rfl
    rcases t with ⟨_ | _, ht⟩
    · exact mayWait c _ (dl c) (by rw [hz]; exact dl_lv c 0 0 (by decide))
    · exact mayWait c _ [] (fun p hp => absurd hp List.not_mem_nil)

/-- An array whole, read back from the machine. -/
theorem read_back {b : Ref sig .tc} (c : Dev nD) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  have h := pointsTo_read_all (Ix := Unit) (Name := ℕ) (U := UU) (Lvl := ℕ) {()} (fun _ : Unit => (c : Thread nD τ).loc b) (fun _ => f) s'
  rw [bigSep_singleton] at h
  refine h.trans (sep_mono_left ?_)
  iintro %h'
  ipureintro
  exact h' () (Finset.mem_singleton_self _)

/-- What the run leaves: the result as computed, the arguments as they were. -/
def QC (s : MemSt nD τ sig (Elt F)) : Prop :=
  ∀ c : Dev nD, s.mem ((c : Thread nD τ).loc main_v1) = outC m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

/-- The result array after the only point: what the body left in its staging buffer. -/
theorem final_out (c : Dev nD) : (dats m 0 c).arrAt (3 : Fin 4) cfg0.N = outC m c := by
  refine ((dats m 0 c).arrAt_succ (3 : Fin 4) t0_0).trans ((if_pos (flush0_3 t0_0)).trans ?_)
  exact (blk_3 _).symm.trans (View.read_write_univ (v := (win0_3.blk (0 : Fin 1)).view) (Val := Elt F) _ _)

set_option maxRecDepth 100000 in
/-- On the ring of four devices, from any memory with its semaphores at zero, every fair run of the program ends, with the
    result as computed, the arguments as they were and every semaphore at zero. -/
theorem run_main : θ_run defs (onTc (τ := τ) (main (F := F))) (s₀ m ρ) (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := final m) (Z := fun _ => iprop(emp))
    (hX := start_intro m ρ) (hin := phi0_intro m) (hout := phi1_exit m)
    (QY := fun c s => s.mem ((c : Thread nD τ).loc main_arg2) = m ((c : Thread nD τ).loc main_arg2)
      ∧ s.mem ((c : Thread nD τ).loc main_arg3) = m ((c : Thread nD τ).loc main_arg3)
      ∧ ∀ sm : SemLoc sig, sm.isScoped .tc = false → s.sem ((c.tc : Thread nD τ), sm) = 0)
    (hY := fun c s' => by
      unfold final
      iintro ⟨⟨⟨Hk, Hv⟩, Hu⟩, -, HSI⟩
      ihave H := (read_back (b := main_arg2) c (kA m c) s') $$ [Hk HSI]
      · isplitl [Hk] <;> iassumption
      icases H with ⟨%hk, HSI⟩
      ihave H := (read_back (b := main_arg3) c (vA m c) s') $$ [Hv HSI]
      · isplitl [Hv] <;> iassumption
      icases H with ⟨%hv, HSI⟩
      imod (Pipeline.unscopedSems0_read (X := unscopedSems0 c) (c := c) fupd_intro s') $$ [Hu HSI] with ⟨%hs, HSI⟩
      · isplitl [Hu] <;> iassumption
      imodintro
      isplitr; · (ipureintro; exact ⟨hk, hv, hs⟩)
      iexact HSI)
    (hQ := fun s h hs => ⟨fun c => ⟨((h c).1 (3 : Fin 4)).trans (final_out m c), ((h c).1 (0 : Fin 4)).trans ((dats m 0 c).arrAt_in (0 : Fin 4) rfl _),
      ((h c).1 (1 : Fin 4)).trans ((dats m 0 c).arrAt_in (1 : Fin 4) rfl _), (h c).2.2.1, (h c).2.2.2.1,
      ((h c).1 (2 : Fin 4)).trans ((dats m 0 c).arrAt_in (2 : Fin 4) rfl _)⟩, sem_eq_zero hs fun c => (h c).2.2.2.2⟩)

end Cert.KernelIdeal.Att

end
-- ==== Proof.FrameK.lean ====
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
@[expose] public section

set_option maxRecDepth 100000

noncomputable section

namespace Cert.Frames

open Idealize.ShloMosaic Idealize.SL.Sem

/-- On the machine's words a named constant is the word it names: so read, the idealized kernel is the kernel. -/
@[reducible] def words : Named Bits := ⟨fun _ _ {φ} b => Scalar.ofBits (F := Bits) φ b⟩

attribute [local instance] words

/-- The two body tables are one, -/
theorem defs₀_eq : Cert.Kernel.defs₀ (F := Bits) = Cert.KernelIdeal.defs₀ (F := Bits) := by
  unfold Cert.Kernel.defs₀ Cert.KernelIdeal.defs₀
  refine congrArg (Defs.onTc (Val := Elt Bits)) ?_
  funext l x
  rcases l with ⟨_ | n, h⟩
  · rfl
  · exact absurd h (Nat.not_lt.2 (Nat.le_add_left _ _))
/-- and so the pipelines over them. -/
theorem defs_eq : Cert.Kernel.defs (F := Bits) = Cert.KernelIdeal.defs (F := Bits) :=
  congrArg (Pipeline.defs (Cert.KernelIdeal.pcfgs (F := Bits))) defs₀_eq

/-- The kernel's frame, from the run of the program with its constants named. -/
theorem frame_kernel : Cert.quiescent_Kernel (hKernel := Cert.Kernel.Gen.facts) := fun m ρ _ => by
  have h := Cert.KernelIdeal.Att.run_main (F := Bits) m ρ
  rw [← defs_eq] at h
  exact (θ_run (Cert.Kernel.defs (F := Bits)) (onTc (τ := Cert.Kernel.τ) (Cert.Kernel.main (F := Bits))) ⟨m, fun _ => 0, ρ⟩).mono (fun _ h => ⟨fun c => (h.1 c).2, h.2⟩) h

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Att.run_main (F := Ideal) m ρ)

/-- The reference's frame: its run, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The named constant: the mask's −1e9 stands for −∞. -/
theorem preserves : Cert.preserves_Kernel_KernelIdeal := IdealRules.named_const.statement _ _ _ _ _ rfl

end Cert.Frames

end
-- ==== Proof.Soft.lean ====
module

public import Idealize.ShloMosaic.PureOps.Ideal
public import Idealize.ShloMosaic.PureOps.Ideal.Laws
public import Idealize.ShloMosaic.Lib.WordCmp
public import Idealize.ShloMosaic.Lib.Affine

@[expose] public section

noncomputable section

namespace Cert.Soft

open Idealize.ShloMosaic Finset

/-! # Weights over a window of keys: the arithmetic both programs share -/

/-- The word test that two positions lie within 128 of each other. -/
theorem near_iff (a b : ℕ) (ha : a < 4096) (hb : b < 4096) :
    IntOp.cmpi .sle (IntOp.absi (IntOp.subi (BitVec.ofNat 32 a) (BitVec.ofNat 32 b))) 128#32 = 1#1 ↔ a ≤ b + 128 ∧ b ≤ a + 128 := by
  have ea : (BitVec.ofNat 32 a).toNat = a := by rw [BitVec.toNat_ofNat]; omega
  have eb : (BitVec.ofNat 32 b).toNat = b := by rw [BitVec.toNat_ofNat]; omega
  have es : (BitVec.ofNat 32 a - BitVec.ofNat 32 b).toNat = (4294967296 - b + a) % 4294967296 := by
    rw [BitVec.toNat_sub, ea, eb]
  rw [IntOp.cmpi_sle]
  unfold IntOp.absi IntOp.subi
  have h128 : (128#32 : BitVec 32).toInt = 128 := by decide
  rw [h128]
  by_cases hm : (BitVec.ofNat 32 a - BitVec.ofNat 32 b).msb = true
  · rw [if_pos hm, BitVec.toInt_eq_toNat_cond, BitVec.toNat_neg, es]
    rw [BitVec.msb_eq_decide, es] at hm
    simp only [decide_eq_true_eq] at hm
    split <;> omega
  · rw [if_neg hm, BitVec.toInt_eq_toNat_cond, es]
    rw [BitVec.msb_eq_decide, es] at hm
    simp only [decide_eq_true_eq] at hm
    split <;> omega

/-- A sum of reals, read among the extended reals. -/
theorem coe_sum {ι : Type} (s : Finset ι) (f : ι → ℝ) : ∑ j ∈ s, (f j : EReal) = ((∑ j ∈ s, f j : ℝ) : EReal) := by
  classical
  induction s using Finset.induction_on with
  | empty => simp
  | insert a s h ih => rw [sum_insert h, sum_insert h, ih, EReal.coe_add]

/-- A nonnegative real factor passes through a sum of extended reals. -/
theorem sum_mul {ι : Type} (s : Finset ι) (f : ι → EReal) {c : ℝ} (hc : 0 ≤ c) : (∑ j ∈ s, f j) * (c : EReal) = ∑ j ∈ s, f j * (c : EReal) := by
  classical
  induction s using Finset.induction_on with
  | empty => simp
  | insert a s h ih =>
    rw [sum_insert h, sum_insert h, ← ih, mul_comm, EReal.left_distrib_of_nonneg_of_ne_top (EReal.coe_nonneg.2 hc) (EReal.coe_ne_top c), mul_comm, mul_comm (c : EReal)]

/-- The greatest of scores of which some are real and the others −∞ is real. -/
theorem fold_real {n : ℕ} (P : Fin n → Prop) [DecidablePred P] (σ : Fin n → ℝ) (hP : ∃ j, P j) :
    ∃ μ : ℝ, (univ : Finset (Fin n)).fold max ⊥ (fun j => if P j then (σ j : EReal) else ⊥) = (μ : EReal) := by
  obtain ⟨p, hp⟩ := hP
  have hs : (univ : Finset (Fin n)).fold max ⊥ (fun j => if P j then (σ j : EReal) else ⊥)
      = univ.sup (fun j => if P j then (σ j : EReal) else ⊥) := rfl
  rw [hs]
  obtain ⟨q, -, hq⟩ := Finset.exists_mem_eq_sup univ ⟨p, mem_univ p⟩ (fun j => if P j then (σ j : EReal) else ⊥)
  rw [hq]
  by_cases h : P q
  · exact ⟨σ q, by simp only [if_pos h]⟩
  · exfalso
    have := Finset.le_sup (f := fun j => if P j then (σ j : EReal) else ⊥) (mem_univ p)
    rw [hq] at this
    simp only [if_pos hp, if_neg h] at this
    exact EReal.coe_ne_bot _ (le_bot_iff.1 this)

/-- Weights with the greatest score subtracted, each divided by their sum, are the plain exponentials over theirs;
    the keys outside the window weigh nothing. -/
theorem soft {n : ℕ} (P : Fin n → Prop) [DecidablePred P] (σ : Fin n → ℝ) (hP : ∃ j, P j) (V : Fin n → EReal) (t : Fin n → EReal)
    (ht : t = fun j => if P j then (σ j : EReal) else ⊥) :
    ∑ j, V j * Ideal.div (Ideal.exp (t j - (univ : Finset (Fin n)).fold max ⊥ t)) (∑ j, Ideal.exp (t j - (univ : Finset (Fin n)).fold max ⊥ t))
      = (∑ j, ((if P j then Real.exp (σ j) else 0 : ℝ) : EReal) * V j) * Ideal.div 1 (∑ j, ((if P j then Real.exp (σ j) else 0 : ℝ) : EReal)) := by
  obtain ⟨μ, hμ⟩ := fold_real P σ hP
  rw [← ht] at hμ
  rw [hμ]
  have he : ∀ j, Ideal.exp (t j - (μ : EReal)) = (((if P j then Real.exp (σ j) else 0) * Real.exp (-μ) : ℝ) : EReal) := by
    intro j
    rw [ht]
    by_cases h : P j
    · simp only [if_pos h]
      rw [← EReal.coe_sub, Ideal.exp_coe, sub_eq_add_neg, Real.exp_add]
    · simp only [if_neg h]
      rw [EReal.bot_sub, Ideal.exp_bot, zero_mul]; rfl
  simp only [he]
  have hZ : 0 < ∑ j, (if P j then Real.exp (σ j) else 0 : ℝ) := by
    obtain ⟨p, hp⟩ := hP
    refine Finset.sum_pos' (fun j _ => ?_) ⟨p, mem_univ p, by rw [if_pos hp]; exact Real.exp_pos _⟩
    split
    · exact (Real.exp_pos _).le
    · exact le_refl _
  rw [coe_sum, coe_sum, ← Finset.sum_mul, Ideal.div_coe hZ.ne', one_mul, sum_mul _ _ (by positivity)]
  refine sum_congr rfl fun j _ => ?_
  rw [Ideal.div_coe (mul_pos hZ (Real.exp_pos _)).ne', ← EReal.coe_mul, mul_comm (V j), mul_right_comm _ (V j), ← EReal.coe_mul]
  congr 2
  have := (Real.exp_pos (-μ)).ne'
  have := hZ.ne'
  field_simp

/-- A sum over 4096 keys of which only a window of 384 counts. -/
theorem sum_window (g : ℕ → EReal) (w : ℕ) (hw : w + 384 ≤ 4096) (hg : ∀ j, ¬ (w ≤ j ∧ j < w + 384) → g j = 0) :
    ∑ j : Fin 384, g (w + j.val) = ∑ j ∈ range 4096, g j := by
  rw [Fin.sum_univ_eq_sum_range (fun j => g (w + j)) 384]
  have h := Finset.sum_Ico_eq_sum_range g w (w + 384)
  rw [Nat.add_sub_cancel_left] at h
  rw [← h]
  refine sum_subset (fun j hj => mem_range.2 (by have := mem_Ico.1 hj; omega)) fun j _ hj => hg j fun hh => hj (mem_Ico.2 hh)

/-- A sum over 4096 by its four blocks. -/
theorem sum_blocks (g : ℕ → EReal) : ∑ i ∈ range 4096, g i
    = (∑ i ∈ range 1024, g (1024 * 0 + i)) + (∑ i ∈ range 1024, g (1024 * 1 + i)) + (∑ i ∈ range 1024, g (1024 * 2 + i)) + (∑ i ∈ range 1024, g (1024 * 3 + i)) := by
  have h (n : ℕ) : ∑ i ∈ range (n + 1024), g i = (∑ i ∈ range n, g i) + ∑ i ∈ range 1024, g (n + i) := Finset.sum_range_add g n 1024
  rw [show (4096 : ℕ) = 3072 + 1024 from rfl, h, show (3072 : ℕ) = 2048 + 1024 from rfl, h, show (2048 : ℕ) = 1024 + 1024 from rfl, h]
  simp only [Nat.mul_zero, Nat.zero_add]

/-! ## The attention of one query, over arrays given by coordinates -/

section
variable (X : ℕ → ℕ → ℝ) (W : ℕ → ℕ → ℝ) (K : ℕ → ℕ → ℕ → ℝ) (s : ℝ) (V : ℕ → ℕ → ℕ → EReal)

/-- One coordinate of a query. -/
def qry (r k : ℕ) : ℝ := ∑ i ∈ range 1024, X r i * W i k

/-- Query `r`'s score with key `j` in head `h`. -/
def score (r h j : ℕ) : ℝ := (∑ d ∈ range 128, qry X W r (128 * h + d) * K j h d) * s

/-- Its unnormalised weight. -/
def wgt (r h j : ℕ) : ℝ := if r ≤ j + 128 ∧ j ≤ r + 128 then Real.exp (score X W K s r h j) else 0

/-- Coordinate `d` of the context of query `r` in head `h`. -/
def attn (r h d : ℕ) : EReal :=
  (∑ j ∈ range 4096, (wgt X W K s r h j : EReal) * V j h d) * Ideal.div 1 (∑ j ∈ range 4096, (wgt X W K s r h j : EReal))

end

end Cert.Soft

end
-- ==== Proof.KerRead.lean ====
module

public import proofs.«01_k».proof.Proof.Contents
public import proofs.«01_k».proof.Proof.Soft
public import Idealize.ShloMosaic.Lib.Pointwise
public import Idealize.ShloMosaic.PureOps.Ideal.Laws

@[expose] public section

set_option maxRecDepth 16384

noncomputable section

namespace Cert.KerRead

open Cert.KernelIdeal Cert.KernelIdeal.Gen Idealize.ShloMosaic Idealize.ShloMosaic.TcCoe
open Cert.KernelIdeal.Att (headVal biasW qsl ctxF win kB vB w0 w0_le)

/-! # The kernel's values, each read at an index -/

/-- One head's context, read at a row and a coordinate. -/
theorem headVal_apply (q : FVec Ideal S128x128 .bf16) (bias : FVec Ideal S128x384 .f32) (k v : Vec Ideal S1x384x128 .f32) (a b : Fin 128) :
    headVal q bias k v (ix2 a b)
      = (∑ j : Fin 384, Ideal.exp ((∑ d : Fin 128, q (ix2 a d) * k (ix3 0 j d)) + bias (ix2 a j)) * v (ix3 0 j b))
        * Ideal.div 1 (∑ j : Fin 384, Ideal.exp ((∑ d : Fin 128, q (ix2 a d) * k (ix3 0 j d)) + bias (ix2 a j))) := by
  unfold headVal
  pointwise

/-- The first key of a block's window, as the kernel computes it. -/
theorem w0_word (t : ℕ) (ht : t < 8) : Scalar.minsi 768#32 (Scalar.maxsi 0#32 (Scalar.subi (BitVec.ofNat 32 (128 * t)) 128#32)) = BitVec.ofNat 32 (w0 (128 * t)) := by
  interval_cases t <;> decide

/-- The mask, read at a query and a key of its window. -/
theorem biasW_apply (t : ℕ) (ht : t < 8) (a : Fin 128) (j : Fin 384) :
    biasW (F := Ideal) (BitVec.ofNat 32 (128 * t)) (ix2 a j)
      = if 128 * t + a.val ≤ w0 (128 * t) + j.val + 128 ∧ w0 (128 * t) + j.val ≤ 128 * t + a.val + 128 then 0 else ⊥ := by
  unfold biasW k0_pay30
  rw [w0_word t ht]
  pointwise
  have hs (x y : ℕ) : IntOp.addi (BitVec.ofNat 32 x) (BitVec.ofNat 32 y) = BitVec.ofNat 32 (y + x) := by
    rw [Nat.add_comm]; exact (BitVec.ofNat_add x y).symm
  have hw := w0_le (128 * t)
  rw [hs, hs]
  exact if_congr (Cert.Soft.near_iff _ _ (by omega) (by omega)) rfl rfl

/-- The scaled queries of a half block: a row of `x` times a column of the weights, times the scale. -/
theorem pay2_apply (x : Vec Ideal S128x1024 .bf16) (w : Vec Ideal S1024x1024 .bf16) (r : Fin 128) (k : Fin 1024) :
    k0_pay2 x w (ix2 r k) = (∑ i : Fin 1024, x (ix2 r i) * w (ix2 i k)) * Ideal.ofBits .f32 0x3DB504F3#32 := by
  unfold k0_pay2
  pointwise

/-- The same of a pair of half blocks. -/
theorem pay29_apply (x : Vec Ideal S256x1024 .bf16) (w : Vec Ideal S1024x1024 .bf16) (r : Fin 256) (k : Fin 1024) :
    k0_pay29 x w (ix2 r k) = (∑ i : Fin 1024, x (ix2 r i) * w (ix2 i k)) * Ideal.ofBits .f32 0x3DB504F3#32 := by
  unfold k0_pay29
  pointwise

/-- A half block of context times the output weights. -/
theorem pay26_apply (x : Vec Ideal S128x1024 .bf16) (w : Vec Ideal S1024x1024 .bf16) (r : Fin 128) (k : Fin 1024) :
    k0_pay26 x w (ix2 r k) = ∑ i : Fin 1024, x (ix2 r i) * w (ix2 i k) := by
  unfold k0_pay26
  pointwise

/-- The same of a pair of half blocks. -/
theorem pay63_apply (x : Vec Ideal S256x1024 .bf16) (w : Vec Ideal S1024x1024 .bf16) (r : Fin 256) (k : Fin 1024) :
    k0_pay63 x w (ix2 r k) = ∑ i : Fin 1024, x (ix2 r i) * w (ix2 i k) := by
  unfold k0_pay63
  pointwise

/-- The first partial sum sent rightwards is the upper half of that product, -/
theorem pay64_apply (x : Vec Ideal S256x1024 .bf16) (w : Vec Ideal S1024x1024 .bf16) (r : Fin 128) (k : Fin 1024) :
    k0_pay64 x w (ix3 0 r k) = k0_pay63 x w (ix2 ⟨r.val, by omega⟩ k) := by
  unfold k0_pay64
  pointwise

/-- and the first sent leftwards the lower half. -/
theorem pay65_apply (x : Vec Ideal S256x1024 .bf16) (w : Vec Ideal S1024x1024 .bf16) (r : Fin 128) (k : Fin 1024) :
    k0_pay65 x w (ix3 0 r k) = k0_pay63 x w (ix2 ⟨128 + r.val, by omega⟩ k) := by
  unfold k0_pay65
  pointwise

/-- A later partial sum sent leftwards: the lower half of the product plus what arrived. -/
theorem pay107_apply (o : FVec Ideal S256x1024 .f32) (p : Vec Ideal S1x128x1024 .bf16) (r : Fin 128) (k : Fin 1024) :
    k0_pay107 o p (ix3 0 r k) = o (ix2 ⟨128 + r.val, by omega⟩ k) + p (ix3 0 r k) := by
  unfold k0_pay107
  pointwise

/-- A later partial sum sent rightwards: the upper half of the product plus what arrived. -/
theorem pay108_apply (o : FVec Ideal S256x1024 .f32) (p : Vec Ideal S1x128x1024 .bf16) (r : Fin 128) (k : Fin 1024) :
    k0_pay108 o p (ix3 0 r k) = o (ix2 ⟨r.val, by omega⟩ k) + p (ix3 0 r k) := by
  unfold k0_pay108
  pointwise

/-- The upper half of the result: the device's own share plus what arrived from the left. -/
theorem pay172_apply (o : FVec Ideal S128x1024 .f32) (p : Vec Ideal S1x128x1024 .bf16) (r : Fin 128) (k : Fin 1024) :
    k0_pay172 o p (ix3 0 r k) = o (ix2 r k) + p (ix3 0 r k) := by
  unfold k0_pay172
  pointwise

/-- The lower half of the result: the device's own share plus what arrived from the right. -/
theorem pay173_apply (o : FVec Ideal S128x1024 .f32) (p : Vec Ideal S1x128x1024 .bf16) (r : Fin 128) (k : Fin 1024) :
    k0_pay173 o p (ix3 0 r k) = o (ix2 r k) + p (ix3 0 r k) := by
  unfold k0_pay173
  pointwise

end Cert.KerRead

end
-- ==== Proof.KerVal.lean ====
module

public import proofs.«01_k».proof.Proof.KerRead

@[expose] public section

set_option maxRecDepth 16384

noncomputable section

namespace Cert.KerVal

open Cert.KernelIdeal Cert.KernelIdeal.Gen Idealize.ShloMosaic Idealize.ShloMosaic.TcCoe Finset Cert.Soft Cert.KerRead
open Cert.KernelIdeal.Att (headVal biasW qsl ctxF win kB vB w0 w0_le xA wqA kA vA woA sh sh_val xOwn qOwn rowOwn ctxOwn oOwn src rowPair xPair qPair ctxPair oPair accR accL outC)

/-! # The kernel's result, over arrays given by coordinates -/

variable (X : ℕ → ℕ → ℝ) (W : ℕ → ℕ → ℝ) (K : ℕ → ℕ → ℕ → ℝ) (s : ℝ) (V : ℕ → ℕ → ℕ → EReal) (WO : ℕ → ℕ → EReal)

/-- The devices' arrays at launch are the blocks of the given ones, `s` the scale. -/
structure Reads (m : (ℓ : Loc nD τ sig) → Buf (Elt Ideal) ℓ) : Prop where
  hx : ∀ (d : Dev nD) (r : Fin 256) (i : Fin 1024), xA m d (ix3 0 r i) = (X (256 * d.val + r.val) i.val : EReal)
  hw : ∀ (d : Dev nD) (i k : Fin 1024), wqA m d (ix2 i k) = (W i.val (1024 * d.val + k.val) : EReal)
  hk : ∀ (d : Dev nD) (j : Fin 4096) (h : Fin 32) (e : Fin 128), kA m d (ix4 0 j h e) = (K j.val h.val e.val : EReal)
  hv : ∀ (d : Dev nD) (j : Fin 4096) (h : Fin 32) (e : Fin 128), vA m d (ix4 0 j h e) = V j.val h.val e.val
  hwo : ∀ (d : Dev nD) (k c : Fin 1024), woA m d (ix2 k c) = WO (1024 * d.val + k.val) c.val
  hs : Ideal.ofBits .f32 0x3DB504F3#32 = (s : EReal)

/-- The two ways an index is written by its coordinates agree. -/
theorem two {a b : ℕ} (i : Fin a) (j : Fin b) : Att.ix2 i j = ix2 i j := by
  funext d; match d with | ⟨0, _⟩ => rfl | ⟨1, _⟩ => rfl
/-- The same of three coordinates, -/
theorem three {a b d : ℕ} (i : Fin a) (j : Fin b) (k : Fin d) : Att.ix3 i j k = ix3 i j k := by
  funext d; match d with | ⟨0, _⟩ => rfl | ⟨1, _⟩ => rfl | ⟨2, _⟩ => rfl
/-- and of four. -/
theorem four {a b d e : ℕ} (i : Fin a) (j : Fin b) (k : Fin d) (l : Fin e) : Att.ix4 i j k l = ix4 i j k l := by
  funext d; match d with | ⟨0, _⟩ => rfl | ⟨1, _⟩ => rfl | ⟨2, _⟩ => rfl | ⟨3, _⟩ => rfl

/-- One head's context of a block of queries is their attention. -/
theorem head_attn (t : ℕ) (ht : t < 8) (q : FVec Ideal S128x128 .bf16) (bias : FVec Ideal S128x384 .f32) (k v : Vec Ideal S1x384x128 .f32) (h : ℕ) (a b : Fin 128)
    (hq : ∀ d : Fin 128, q (ix2 a d) = ((qry X W (128 * t + a.val) (128 * h + d.val) * s : ℝ) : EReal))
    (hb : ∀ j : Fin 384, bias (ix2 a j) = if 128 * t + a.val ≤ w0 (128 * t) + j.val + 128 ∧ w0 (128 * t) + j.val ≤ 128 * t + a.val + 128 then 0 else ⊥)
    (hk : ∀ (j : Fin 384) (d : Fin 128), k (ix3 0 j d) = (K (w0 (128 * t) + j.val) h d.val : EReal))
    (hv : ∀ j : Fin 384, v (ix3 0 j b) = V (w0 (128 * t) + j.val) h b.val) :
    headVal q bias k v (ix2 a b) = attn X W K s V (128 * t + a.val) h b.val := by
  have he : ∀ j : Fin 384, Ideal.exp ((∑ d : Fin 128, q (ix2 a d) * k (ix3 0 j d)) + bias (ix2 a j))
      = (wgt X W K s (128 * t + a.val) h (w0 (128 * t) + j.val) : EReal) := by
    intro j
    rw [hb]
    unfold wgt
    split
    · rw [add_zero]
      simp only [hq, hk, ← EReal.coe_mul]
      rw [coe_sum, Ideal.exp_coe]
      unfold score
      rw [Finset.sum_range, Finset.sum_mul]
      exact congrArg (fun z : ℝ => ((Real.exp z : ℝ) : EReal)) (sum_congr rfl fun d _ => mul_right_comm _ _ _)
    · rw [EReal.add_bot, Ideal.exp_bot]; rfl
  have hz : ∀ j, ¬ (w0 (128 * t) ≤ j ∧ j < w0 (128 * t) + 384) → (wgt X W K s (128 * t + a.val) h j : EReal) = 0 := by
    intro j hj
    unfold wgt
    rw [if_neg]; · rfl
    have := a.isLt
    unfold w0 at hj
    omega
  have hw := w0_le (128 * t)
  rw [headVal_apply]
  simp only [he, hv]
  unfold attn
  rw [← sum_window (fun j => (wgt X W K s (128 * t + a.val) h j : EReal) * V j h b.val) (w0 (128 * t)) (by omega)
      (fun j hj => (congrArg (· * V j h b.val) (hz j hj)).trans (zero_mul _)),
    ← sum_window (fun j => (wgt X W K s (128 * t + a.val) h j : EReal)) (w0 (128 * t)) (by omega) hz]

variable {m : (ℓ : Loc nD τ sig) → Buf (Elt Ideal) ℓ}

/-- A device's context of blocks of queries is their attention in its eight heads. -/
theorem ctxF_attn (H : Reads X W K s V WO m) {n : ℕ} (c : Dev nD) (q : FVec Ideal ⟨2, ![128 * n, 1024]⟩ .bf16) (R t : Fin n → ℕ) (hR : ∀ jj, R jj = 128 * t jj) (ht : ∀ jj, t jj < 8)
    (hq : ∀ (r : Fin (128 * n)) (k : Fin 1024), q (ix2 r k) = ((qry X W (R ⟨r.val / 128, Nat.div_lt_of_lt_mul r.isLt⟩ + r.val % 128) (1024 * c.val + k.val) * s : ℝ) : EReal))
    (r : Fin (128 * n)) (k : Fin 1024) :
    ctxF m c q R (ix2 r k) = attn X W K s V (R ⟨r.val / 128, Nat.div_lt_of_lt_mul r.isLt⟩ + r.val % 128) ((1024 * c.val + k.val) / 128) ((1024 * c.val + k.val) % 128) := by
  have hk8 : k.val / 128 < 8 := by omega
  have hc : c.val < 4 := c.isLt
  have e1 : (1024 * c.val + k.val) / 128 = 8 * c.val + k.val / 128 := by omega
  have e2 : (1024 * c.val + k.val) % 128 = k.val % 128 := by omega
  set jj : Fin n := ⟨r.val / 128, Nat.div_lt_of_lt_mul r.isLt⟩ with hjj
  have hj : jj.val = r.val / 128 := rfl
  rw [e1, e2, hR jj]
  refine (?_ : headVal (qsl q jj ⟨k.val / 128, hk8⟩) (biasW (BitVec.ofNat 32 (R jj))) (win (kB m c) ⟨k.val / 128, hk8⟩ (R jj)) (win (vB m c) ⟨k.val / 128, hk8⟩ (R jj))
    (Att.ix2 ⟨r.val % 128, Nat.mod_lt _ (by decide)⟩ ⟨k.val % 128, Nat.mod_lt _ (by decide)⟩) = _)
  have hw := w0_le (128 * t jj)
  rw [two, hR jj]
  refine head_attn X W K s V (t jj) (ht jj) _ _ _ _ _ _ _ (fun d => ?_) (fun j => biasW_apply _ (ht jj) _ _) (fun j d => ?_) (fun j => ?_)
  · refine (?_ : q (Att.ix2 ⟨128 * jj.val + r.val % 128, by omega⟩ ⟨128 * (k.val / 128) + d.val, by omega⟩) = _)
    rw [two, show (⟨128 * jj.val + r.val % 128, by omega⟩ : Fin (128 * n)) = r from Fin.ext (by simp only; omega), hq, ← hjj, hR jj]
    congr 3
    simp only
    omega
  · refine (?_ : kA m c (Att.ix4 0 ⟨w0 (128 * t jj) + j.val, by omega⟩ ⟨8 * c.val + k.val / 128, by omega⟩ d) = _)
    rw [four, H.hk]
  · refine (?_ : vA m c (Att.ix4 0 ⟨w0 (128 * t jj) + j.val, by omega⟩ ⟨8 * c.val + k.val / 128, by omega⟩ ⟨k.val % 128, Nat.mod_lt _ (by decide)⟩) = _)
    rw [four, H.hv]

/-- What device `d`'s eight heads give the result's row `r`, column `col`. -/
def part (d r col : ℕ) : EReal :=
  ∑ k ∈ range 1024, attn X W K s V r ((1024 * d + k) / 128) ((1024 * d + k) % 128) * WO (1024 * d + k) col

/-- The queries of a device's own half block. -/
theorem qOwn_apply (H : Reads X W K s V WO m) (c : Dev nD) (j : Fin 2) (r : Fin 128) (k : Fin 1024) :
    qOwn m c j (ix2 r k) = ((qry X W (rowOwn c j + r.val) (1024 * c.val + k.val) * s : ℝ) : EReal) := by
  have hx (i : Fin 1024) : xOwn m c j (ix2 r i) = (X (rowOwn c j + r.val) i.val : EReal) := by
    refine (?_ : xA m c (Att.ix3 0 ⟨128 * j.val + r.val, by omega⟩ i) = _)
    rw [three, H.hx]
    unfold rowOwn
    congr 2
    simp only
    omega
  unfold qOwn
  rw [pay2_apply, H.hs]
  simp only [hx, H.hw, ← EReal.coe_mul]
  rw [coe_sum, ← EReal.coe_mul]
  unfold qry
  rw [Finset.sum_range]

/-- The queries of a pair of foreign half blocks. -/
theorem qPair_apply (H : Reads X W K s V WO m) (c : Dev nD) (h : ℕ) (r : Fin 256) (k : Fin 1024) :
    qPair m c h (ix2 r k) = ((qry X W (rowPair c h ⟨r.val / 128, by omega⟩ + r.val % 128) (1024 * c.val + k.val) * s : ℝ) : EReal) := by
  have hx (i : Fin 1024) : xPair m c h (ix2 r i) = (X (rowPair c h ⟨r.val / 128, by omega⟩ + r.val % 128) i.val : EReal) := by
    refine (?_ : xA m (src c h ⟨r.val / 128, by omega⟩) (Att.ix3 0 r i) = _)
    rw [three, H.hx]
    unfold rowPair
    congr 2
    simp only
    omega
  unfold qPair
  rw [pay29_apply, H.hs]
  simp only [hx, H.hw, ← EReal.coe_mul]
  rw [coe_sum, ← EReal.coe_mul]
  unfold qry
  rw [Finset.sum_range]

/-- A device's share of its own half block's rows. -/
theorem oOwn_apply (H : Reads X W K s V WO m) (c : Dev nD) (j : Fin 2) (r : Fin 128) (col : Fin 1024) :
    oOwn m c j (ix2 r col) = part X W K s V WO c.val (rowOwn c j + r.val) col.val := by
  have hc : c.val < 4 := c.isLt
  have hctx (k : Fin 1024) : ctxOwn m c j (ix2 r k) = attn X W K s V (rowOwn c j + r.val) ((1024 * c.val + k.val) / 128) ((1024 * c.val + k.val) % 128) := by
    unfold ctxOwn
    have h := ctxF_attn X W K s V WO H (n := 1) c (qOwn m c j) (fun _ => rowOwn c j) (fun _ => 2 * c.val + j.val) (fun _ => by unfold rowOwn; omega) (fun _ => by omega)
      (fun r k => by rw [Nat.mod_eq_of_lt r.isLt]; exact qOwn_apply X W K s V WO H c j r k) r k
    rw [Nat.mod_eq_of_lt r.isLt] at h
    exact h
  unfold oOwn part
  rw [pay26_apply, Finset.sum_range]
  simp only [hctx, H.hwo]

/-- A device's share of a pair of foreign half blocks' rows. -/
theorem oPair_apply (H : Reads X W K s V WO m) (c : Dev nD) (h : ℕ) (r : Fin 256) (col : Fin 1024) :
    oPair m c h (ix2 r col) = part X W K s V WO c.val (rowPair c h ⟨r.val / 128, by omega⟩ + r.val % 128) col.val := by
  have hctx (k : Fin 1024) : ctxPair m c h (ix2 r k)
      = attn X W K s V (rowPair c h ⟨r.val / 128, by omega⟩ + r.val % 128) ((1024 * c.val + k.val) / 128) ((1024 * c.val + k.val) % 128) := by
    unfold ctxPair
    exact ctxF_attn X W K s V WO H (n := 2) c (qPair m c h) (rowPair c h) (fun jj => 2 * (src c h jj).val + jj.val) (fun jj => by unfold rowPair; omega)
      (fun jj => by have : (src c h jj).val < 4 := (src c h jj).isLt; omega) (fun r k => qPair_apply X W K s V WO H c h r k) r k
  unfold oPair part
  rw [pay63_apply, Finset.sum_range]
  simp only [hctx, H.hwo]

/-- The upper half's share at step `h`. -/
theorem oTop (H : Reads X W K s V WO m) (c : Dev nD) (h : ℕ) (r : Fin 128) (col : Fin 1024) :
    oPair m c h (ix2 ⟨r.val, by omega⟩ col) = part X W K s V WO c.val (256 * ((c.val + (3 - h)) % 4) + r.val) col.val := by
  rw [oPair_apply X W K s V WO H]
  have e : (⟨r.val / 128, by omega⟩ : Fin 2) = 0 := Fin.ext (by simp only [Fin.val_zero]; omega)
  congr 1
  simp only [e, rowPair, src, if_true, sh_val, Fin.val_zero]
  omega

/-- The lower half's share at step `h`. -/
theorem oBot (H : Reads X W K s V WO m) (c : Dev nD) (h : ℕ) (r : Fin 128) (col : Fin 1024) :
    oPair m c h (ix2 ⟨128 + r.val, by omega⟩ col) = part X W K s V WO c.val (256 * ((c.val + (1 + h)) % 4) + 128 + r.val) col.val := by
  rw [oPair_apply X W K s V WO H]
  have e : (⟨(128 + r.val) / 128, by omega⟩ : Fin 2) = 1 := Fin.ext (by simp only [Fin.val_one]; omega)
  congr 1
  simp only [e, rowPair, src, show ¬ (1 : Fin 2) = 0 by decide, if_false, sh_val, Fin.val_one]
  omega

/-- The four devices' shares, summed along the ring either way, make the whole row. -/
theorem ring_sum (p : ℕ → EReal) (c : Dev nD) :
    p c.val + (p ((c.val + 3) % 4) + (p ((c.val + 2) % 4) + p ((c.val + 1) % 4))) = p 0 + p 1 + p 2 + p 3
    ∧ p c.val + (p ((c.val + 1) % 4) + (p ((c.val + 2) % 4) + p ((c.val + 3) % 4))) = p 0 + p 1 + p 2 + p 3 := by
  obtain ⟨c, hc⟩ := c
  change c < 4 at hc
  interval_cases c <;> constructor <;> simp only [Nat.reduceAdd, Nat.reduceMod] <;> abel

/-- Row `r`, column `col` of device `c`'s result. -/
theorem outC_apply (H : Reads X W K s V WO m) (c : Dev nD) (r : Fin 256) (col : Fin 1024) :
    outC m c (ix3 0 r col) = ∑ k ∈ range 4096, attn X W K s V (256 * c.val + r.val) (k / 128) (k % 128) * WO k col.val := by
  have hc : c.val < 4 := c.isLt
  have hsum : (∑ k ∈ range 4096, attn X W K s V (256 * c.val + r.val) (k / 128) (k % 128) * WO k col.val)
      = part X W K s V WO 0 (256 * c.val + r.val) col.val + part X W K s V WO 1 (256 * c.val + r.val) col.val
        + part X W K s V WO 2 (256 * c.val + r.val) col.val + part X W K s V WO 3 (256 * c.val + r.val) col.val :=
    sum_blocks (fun k => attn X W K s V (256 * c.val + r.val) (k / 128) (k % 128) * WO k col.val)
  rw [hsum]
  have add4 {a b e f a' b' e' f' : EReal} (h1 : a = a') (h2 : b = b') (h3 : e = e') (h4 : f = f') : a + (b + (e + f)) = a' + (b' + (e' + f')) := by
    rw [h1, h2, h3, h4]
  have hp {d d' ρ ρ' : ℕ} (h1 : d = d') (h2 : ρ = ρ') : part X W K s V WO d ρ col.val = part X W K s V WO d' ρ' col.val := by rw [h1, h2]
  by_cases hr : r.val < 128
  · have e : r.val % 128 = r.val := Nat.mod_eq_of_lt hr
    refine (if_pos hr).trans ?_
    refine (?_ : k0_pay172 (oOwn m c 0) (accR m 2 (sh c 3)) (Att.ix3 0 ⟨r.val % 128, Nat.mod_lt _ (by decide)⟩ col) = _)
    rw [three, pay172_apply, oOwn_apply X W K s V WO H]
    have ha : accR m 2 (sh c 3) = k0_pay108 (oPair m (sh c 3) 2) (k0_pay108 (oPair m (sh (sh c 3) 3) 1) (k0_pay64 (ctxPair m (sh (sh (sh c 3) 3) 3) 0) (woA m (sh (sh (sh c 3) 3) 3)))) := rfl
    have h0 (d : Dev nD) : k0_pay63 (ctxPair m d 0) (woA m d) = oPair m d 0 := rfl
    rw [ha, pay108_apply, pay108_apply, pay64_apply, h0, oTop X W K s V WO H, oTop X W K s V WO H, oTop X W K s V WO H]
    simp only [sh_val, rowOwn, Fin.val_zero, e]
    refine Eq.trans ?_ (ring_sum (fun d => part X W K s V WO d (256 * c.val + r.val) col.val) c).1
    exact add4 (hp (by omega) (by omega)) (hp (by omega) (by omega)) (hp (by omega) (by omega)) (hp (by omega) (by omega))
  · have e : r.val % 128 = r.val - 128 := by omega
    refine (if_neg hr).trans ?_
    refine (?_ : k0_pay173 (oOwn m c 1) (accL m 2 (sh c 1)) (Att.ix3 0 ⟨r.val % 128, Nat.mod_lt _ (by decide)⟩ col) = _)
    rw [three, pay173_apply, oOwn_apply X W K s V WO H]
    have ha : accL m 2 (sh c 1) = k0_pay107 (oPair m (sh c 1) 2) (k0_pay107 (oPair m (sh (sh c 1) 1) 1) (k0_pay65 (ctxPair m (sh (sh (sh c 1) 1) 1) 0) (woA m (sh (sh (sh c 1) 1) 1)))) := rfl
    have h0 (d : Dev nD) : k0_pay63 (ctxPair m d 0) (woA m d) = oPair m d 0 := rfl
    rw [ha, pay107_apply, pay107_apply, pay65_apply, h0, oBot X W K s V WO H, oBot X W K s V WO H, oBot X W K s V WO H]
    simp only [sh_val, rowOwn, Fin.val_one, e]
    refine Eq.trans ?_ (ring_sum (fun d => part X W K s V WO d (256 * c.val + r.val) col.val) c).2
    exact add4 (hp (by omega) (by omega)) (hp (by omega) (by omega)) (hp (by omega) (by omega)) (hp (by omega) (by omega))

end Cert.KerVal

end
-- ==== Proof.RefRead.lean ====
module

public import proofs.«01_k».proof.Proof.Gen.ReferenceIdeal.Run
public import proofs.«01_k».proof.Proof.Soft
public import Idealize.ShloMosaic.Lib.Pointwise
public import Idealize.ShloMosaic.PureOps.Ideal.Laws

@[expose] public section

set_option maxRecDepth 16384

noncomputable section

namespace Cert.RefRead

open Cert.ReferenceIdeal Cert.ReferenceIdeal.Gen Idealize.ShloMosaic Idealize.ShloMosaic.TcCoe

/-! # The reference in stages, each read at an index -/

/-- Which keys a query looks at: a one where their distance is at most 128. -/
def maskR : IVec S1024x4096 1 :=
  cmpi .sle (absi (subi (broadcastInDim S1024x4096 ![0, 1] bcast_S1024x1_S1024x4096_0_1 (broadcastInDim S1024x1 ![0] bcast_S1024_S1024x1_0 (iotaInDim S1024 32 0)))
    (broadcastInDim S1024x4096 ![0, 1] bcast_S1x4096_S1024x4096_0_1 (broadcastInDim S1x4096 ![1] bcast_S4096_S1x4096_1 (iotaInDim S4096 32 0)))))
    (broadcastInDim S1024x4096 ![] bcast_S_S1024x4096 (constantI S_ 32 128#32))

/-- Whether a query looks at any key. -/
def keepR : IVec S1x1x1024x1 1 :=
  broadcastInDim S1x1x1024x1 ![2] bcast_S1024_S1x1x1024x1_2 (Host.reduce IntOp.ori maskR (constantI S_ 1 0#1) reducesTo_S1024x4096_S1024_d1 h_S_)

section
variable (x : FVec Ideal S1x1024x1024 .bf16) (wq : FVec Ideal S1024x4096 .bf16) (k v : FVec Ideal S1x4096x32x128 .f32) (wo : FVec Ideal S4096x1024 .bf16)

/-- The queries, by head. -/
def qR : FVec Ideal S1x1024x32x128 .f32 :=
  extf .f32 (shapeCast _ (truncf .bf16 (Host.dotGeneral dot_S1x1024x1024_S1024x4096_S1x1024x4096_2_0_01_1_n_n none x wq) bitsLt_bf16_f32) shapeCasts_S1x1024x4096_S1x1024x32x128) bitsLt_bf16_f32

/-- The scaled scores before the mask. -/
def rawR : FVec Ideal S1x32x1024x4096 .f32 :=
  mulf (Host.dotGeneral dot_S1x1024x32x128_S1x4096x32x128_S1x32x1024x4096_3_3_1_1_02_02 none (qR x wq) k) (broadcastInDim S1x32x1024x4096 ![] bcast_S_S1x32x1024x4096 (constant S_ .f32 0x3DB504F3#32))

/-- The scores under the mask. -/
def scR : FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 maskR))
    (rawR x wq k) (broadcastInDim S1x32x1024x4096 ![] bcast_S_S1x32x1024x4096 (id (constant S_ .f32 0xFF800000#32)))

/-- The greatest score of a query. -/
def mxR : FVec Ideal S1x32x1024 .f32 :=
  Host.reduce FloatOps.maximumf (scR x wq k) (constant S_ .f32 0xFF800000#32) reducesTo_S1x32x1024x4096_S1x32x1024_d3 h_S_

/-- The unnormalised weights. -/
def exR : FVec Ideal S1x32x1024x4096 .f32 :=
  Host.exp (subf (scR x wq k) (broadcastInDim S1x32x1024x4096 ![0, 1, 2, 3] bcast_S1x32x1024x1_S1x32x1024x4096_0_1_2_3 (broadcastInDim S1x32x1024x1 ![0, 1, 2] bcast_S1x32x1024_S1x32x1024x1_0_1_2 (mxR x wq k))))

/-- Their sums. -/
def smR : FVec Ideal S1x32x1024x1 .f32 :=
  select (broadcastInDim S1x32x1024x1 ![0, 1, 2, 3] bcast_S1x1x1024x1_S1x32x1024x1_0_1_2_3 keepR)
    (broadcastInDim S1x32x1024x1 ![0, 1, 2] bcast_S1x32x1024_S1x32x1024x1_0_1_2 (Host.reduceAdd (exR x wq k) (constant S_ .f32 0x00000000#32) reducesTo_S1x32x1024x4096_S1x32x1024_d3 h_S_))
    (broadcastInDim S1x32x1024x1 ![] bcast_S_S1x32x1024x1 (id (constant S_ .f32 0x3F800000#32)))

/-- The weights. -/
def wtR : FVec Ideal S1x32x1024x4096 .f32 :=
  select (broadcastInDim S1x32x1024x4096 ![0, 1, 2, 3] bcast_S1x1x1024x1_S1x32x1024x4096_0_1_2_3 keepR)
    (Host.divf (exR x wq k) (broadcastInDim S1x32x1024x4096 ![0, 1, 2, 3] bcast_S1x32x1024x1_S1x32x1024x4096_0_1_2_3 (smR x wq k)))
    (broadcastInDim S1x32x1024x4096 ![] bcast_S_S1x32x1024x4096 (id (constant S_ .f32 0x00000000#32)))

/-- The context rows, the heads side by side. -/
def cxR : FVec Ideal S1x1024x4096 .f32 :=
  shapeCast _ (transpose S1x1024x32x128 [0, 3, 1, 2] (Host.dotGeneral dot_S1x4096x32x128_S1x32x1024x4096_S1x32x128x1024_1_3_3_2_02_01 none v (wtR x wq k)) transposes_S1x32x128x1024_S1x1024x32x128_0_3_1_2) shapeCasts_S1x1024x32x128_S1x1024x4096

/-- The result. -/
def outR : FVec Ideal S1x1024x1024 .f32 :=
  Host.dotGeneral dot_S1x1024x4096_S4096x1024_S1x1024x1024_2_0_01_1_n_n none (cxR x wq k v) (extf .f32 wo bitsLt_bf16_f32)

end

/-- The reference's run leaves the last stage. -/
theorem res_eq (m : (ℓ : Loc nD τ sig) → Buf (Elt Ideal) ℓ) (c : Dev nD) :
    Cert.ReferenceIdeal.Value.res_main_v36 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

section
variable (x : FVec Ideal S1x1024x1024 .bf16) (wq : FVec Ideal S1024x4096 .bf16) (k v : FVec Ideal S1x4096x32x128 .f32) (wo : FVec Ideal S4096x1024 .bf16)

/-- A query is a row of `x` times a column of the weights. -/
theorem qR_apply (r : Fin 1024) (h : Fin 32) (d : Fin 128) :
    qR x wq (ix4 0 r h d) = ∑ i : Fin 1024, x (ix3 0 r i) * wq (ix2 i ⟨128 * h.val + d.val, by omega⟩) := by
  unfold qR
  pointwise
  exact Finset.sum_congr rfl fun i _ => by congr 3; exact Fin.ext (by simp only; omega)

/-- A score is a query times a key, times the scale. -/
theorem rawR_apply (r : Fin 1024) (h : Fin 32) (j : Fin 4096) :
    rawR x wq k (ix4 0 h r j) = (∑ d : Fin 128, qR x wq (ix4 0 r h d) * k (ix4 0 j h d)) * Ideal.ofBits .f32 0x3DB504F3#32 := by
  unfold rawR
  generalize qR x wq = q
  pointwise

/-- Under the mask a score is kept or replaced by −∞. -/
theorem scR_apply (r : Fin 1024) (h : Fin 32) (j : Fin 4096) :
    scR x wq k (ix4 0 h r j) = if maskR (ix2 r j) = 1#1 then rawR x wq k (ix4 0 h r j) else Ideal.ofBits .f32 0xFF800000#32 := by
  unfold scR
  generalize rawR x wq k = w
  generalize maskR = mk
  pointwise
  rfl

/-- The mask keeps the keys at a distance of at most 128. -/
theorem maskR_apply (r : Fin 1024) (j : Fin 4096) : maskR (ix2 r j) = 1#1 ↔ r.val ≤ j.val + 128 ∧ j.val ≤ r.val + 128 := by
  unfold maskR
  pointwise
  exact Cert.Soft.near_iff _ _ (by omega) j.isLt

/-- A weight is the exponential of the score less the query's greatest. -/
theorem exR_apply (r : Fin 1024) (h : Fin 32) (j : Fin 4096) :
    exR x wq k (ix4 0 h r j) = Ideal.exp (scR x wq k (ix4 0 h r j) - mxR x wq k (ix3 0 h r)) := by
  unfold exR
  generalize scR x wq k = t
  generalize mxR x wq k = z
  pointwise

/-- The greatest score is the fold of the maximum over the keys. -/
theorem mxR_apply (r : Fin 1024) (h : Fin 32) :
    mxR x wq k (ix3 0 h r) = (Finset.univ : Finset (Fin 4096)).fold max (Ideal.ofBits .f32 0xFF800000#32) (fun j => scR x wq k (ix4 0 h r j)) := by
  unfold mxR
  generalize scR x wq k = t
  pointwise

/-- The sum of the weights of a query that looks at some key. -/
theorem smR_apply (r : Fin 1024) (h : Fin 32) (hk : keepR (ix4 0 0 r 0) = 1#1) :
    smR x wq k (ix4 0 h r 0) = ∑ j : Fin 4096, exR x wq k (ix4 0 h r j) := by
  unfold smR
  generalize keepR = kp at hk ⊢
  generalize exR x wq k = e
  pointwise
  rw [hk]; exact if_pos rfl

/-- A quotient read where the condition holds. -/
theorem select_div (r : Fin 1024) (h : Fin 32) (j : Fin 4096) (a : IVec S1x32x1024x4096 1) (e w z : FVec Ideal S1x32x1024x4096 .f32) (ha : a (ix4 0 h r j) = 1#1) :
    select a (Host.divf e w) z (ix4 0 h r j) = Ideal.div (e (ix4 0 h r j)) (w (ix4 0 h r j)) :=
  (if_pos ha : (if a (ix4 0 h r j) = 1#1 then Host.divf e w (ix4 0 h r j) else z (ix4 0 h r j)) = _)

/-- A query's condition, spread over heads and keys. -/
theorem spread_keep (r : Fin 1024) (h : Fin 32) (j : Fin 4096) (a : IVec S1x1x1024x1 1) :
    broadcastInDim S1x32x1024x4096 ![0, 1, 2, 3] bcast_S1x1x1024x1_S1x32x1024x4096_0_1_2_3 a (ix4 0 h r j) = a (ix4 0 0 r 0) := by
  pointwise

/-- A query's sum, spread over the keys. -/
theorem spread_sum (r : Fin 1024) (h : Fin 32) (j : Fin 4096) (z : FVec Ideal S1x32x1024x1 .f32) :
    broadcastInDim S1x32x1024x4096 ![0, 1, 2, 3] bcast_S1x32x1024x1_S1x32x1024x4096_0_1_2_3 z (ix4 0 h r j) = z (ix4 0 h r 0) := by
  pointwise

/-- A weight of such a query, divided by the sum. -/
theorem wtR_apply (r : Fin 1024) (h : Fin 32) (j : Fin 4096) (hk : keepR (ix4 0 0 r 0) = 1#1) :
    wtR x wq k (ix4 0 h r j) = Ideal.div (exR x wq k (ix4 0 h r j)) (smR x wq k (ix4 0 h r 0)) := by
  unfold wtR
  generalize keepR = kp at hk ⊢
  generalize exR x wq k = e
  generalize smR x wq k = z
  exact (select_div r h j _ e _ _ ((spread_keep r h j kp).trans hk)).trans (congrArg (Ideal.div (e (ix4 0 h r j))) (spread_sum r h j z))

/-- Every query looks at some key: the one at its own position. -/
theorem keepR_apply (r : Fin 1024) : keepR (ix4 0 0 r 0) = 1#1 := by
  unfold keepR
  pointwise
  have h1 : maskR (ix2 r ⟨r.val, by omega⟩) = 1#1 := (maskR_apply _ _).2 (by simp only; omega)
  have hi := Finset.insert_erase (Finset.mem_univ (⟨r.val, by omega⟩ : Fin 4096))
  rw [← hi, Finset.fold_insert (op := (IntOp.ori : BitVec 1 → BitVec 1 → BitVec 1)) (Finset.notMem_erase _ _), h1]
  exact (by decide : ∀ b : BitVec 1, IntOp.ori 1#1 b = 1#1) _

/-- A coordinate of the context: the weighted sum of the values. -/
theorem cxR_apply (r : Fin 1024) (h : Fin 32) (d : Fin 128) :
    cxR x wq k v (ix3 0 r ⟨128 * h.val + d.val, by omega⟩) = ∑ j : Fin 4096, v (ix4 0 j h d) * wtR x wq k (ix4 0 h r j) := by
  unfold cxR
  generalize wtR x wq k = w
  pointwise

/-- A result: a row of the context times a column of the output weights. -/
theorem outR_apply (r c : Fin 1024) :
    outR x wq k v wo (ix3 0 r c) = ∑ i : Fin 4096, cxR x wq k v (ix3 0 r i) * wo (ix2 i c) := by
  unfold outR
  generalize cxR x wq k v = w
  pointwise
end

end Cert.RefRead

end
-- ==== Proof.RefVal.lean ====
module

public import proofs.«01_k».proof.Proof.RefRead

@[expose] public section

set_option maxRecDepth 16384

noncomputable section

namespace Cert.RefVal

open Cert.ReferenceIdeal Cert.ReferenceIdeal.Gen Idealize.ShloMosaic Finset Cert.Soft Cert.RefRead

/-! # The reference's result, over arrays given by coordinates -/

/-- The word of −∞, -/
theorem bits_bot : Ideal.ofBits .f32 0xFF800000#32 = ⊥ := by simp [Ideal.ofBits, Ideal.ieee]
/-- of +∞, -/
theorem bits_top : Ideal.ofBits .f32 0x7F800000#32 = ⊤ := by simp [Ideal.ofBits, Ideal.ieee]
/-- and of the scale, which is a real. -/
theorem bits_scale : ∃ s : ℝ, Ideal.ofBits .f32 0x3DB504F3#32 = (s : EReal) := ⟨_, by simp [Ideal.ofBits, Ideal.ieee]; rfl⟩

variable {X : ℕ → ℕ → ℝ} {W : ℕ → ℕ → ℝ} {K : ℕ → ℕ → ℕ → ℝ} {s : ℝ} {V : ℕ → ℕ → ℕ → EReal} {WO : ℕ → ℕ → EReal}
variable {x : FVec Ideal S1x1024x1024 .bf16} {wq : FVec Ideal S1024x4096 .bf16} {k v : FVec Ideal S1x4096x32x128 .f32} {wo : FVec Ideal S4096x1024 .bf16}
  (hx : ∀ r i : Fin 1024, x (ix3 0 r i) = (X r.val i.val : EReal))
  (hw : ∀ (i : Fin 1024) (n : Fin 4096), wq (ix2 i n) = (W i.val n.val : EReal))
  (hk : ∀ (j : Fin 4096) (h : Fin 32) (d : Fin 128), k (ix4 0 j h d) = (K j.val h.val d.val : EReal))
  (hv : ∀ (j : Fin 4096) (h : Fin 32) (d : Fin 128), v (ix4 0 j h d) = V j.val h.val d.val)
  (hwo : ∀ (n : Fin 4096) (c : Fin 1024), wo (ix2 n c) = WO n.val c.val)
  (hs : Ideal.ofBits .f32 0x3DB504F3#32 = (s : EReal))
include hx hw hk hs

/-- The scores under the mask. -/
theorem scR_val (r : Fin 1024) (h : Fin 32) (j : Fin 4096) :
    scR x wq k (ix4 0 h r j) = if r.val ≤ j.val + 128 ∧ j.val ≤ r.val + 128 then (score X W K s r.val h.val j.val : EReal) else ⊥ := by
  rw [scR_apply, bits_bot]
  refine if_congr (maskR_apply r j) ?_ rfl
  rw [rawR_apply, hs]
  have hq (d : Fin 128) : qR x wq (ix4 0 r h d) = (qry X W r.val (128 * h.val + d.val) : EReal) := by
    rw [qR_apply]
    simp only [hx, hw, ← EReal.coe_mul]
    rw [coe_sum]
    unfold qry
    rw [Finset.sum_range]
  simp only [hq, hk, ← EReal.coe_mul]
  rw [coe_sum, ← EReal.coe_mul]
  unfold score
  rw [Finset.sum_range]

include hv

/-- The context rows are the attention. -/
theorem cxR_val (r : Fin 1024) (h : Fin 32) (d : Fin 128) :
    cxR x wq k v (ix3 0 r ⟨128 * h.val + d.val, by omega⟩) = attn X W K s V r.val h.val d.val := by
  rw [cxR_apply]
  have hkeep := keepR_apply r
  simp only [wtR_apply _ _ _ r h _ hkeep, smR_apply _ _ _ r h hkeep, exR_apply, mxR_apply, bits_bot, hv]
  rw [soft (fun j : Fin 4096 => r.val ≤ j.val + 128 ∧ j.val ≤ r.val + 128) (fun j => score X W K s r.val h.val j.val) ⟨⟨r.val, by omega⟩, by simp only; omega⟩
    (fun j => V j.val h.val d.val) (fun j => scR x wq k (ix4 0 h r j)) (funext fun j => scR_val hx hw hk hs r h j)]
  unfold attn
  rw [Finset.sum_range, Finset.sum_range]
  rfl

include hwo

/-- Row `r`, column `c` of the reference's result. -/
theorem outR_val (r c : Fin 1024) :
    outR x wq k v wo (ix3 0 r c) = ∑ n ∈ range 4096, attn X W K s V r.val (n / 128) (n % 128) * WO n c.val := by
  rw [outR_apply, Finset.sum_range]
  refine sum_congr rfl fun n _ => ?_
  have h := cxR_val hx hw hk hv hs r ⟨n.val / 128, by omega⟩ ⟨n.val % 128, by omega⟩
  rw [show (⟨128 * (n.val / 128) + n.val % 128, by omega⟩ : Fin 4096) = n from Fin.ext (by simp only; omega)] at h
  rw [h, hwo]

end Cert.RefVal

end
-- ==== Proof.Equal.lean ====
module

public import proofs.«01_k».proof.Defs
public import proofs.«01_k».proof.Proof.Run
public import proofs.«01_k».proof.Proof.KerVal
public import proofs.«01_k».proof.Proof.RefVal
public import Idealize.ShloMosaic.Lib.ReduceAll
public import Idealize.ShloMosaic.Lib.Layout

@[expose] public section

set_option maxRecDepth 16384

noncomputable section

namespace Cert.Equal

open Idealize.ShloMosaic Idealize.ShloMosaic.TcCoe Idealize.SL.Sem Finset
open Cert.KernelIdeal.Att (xA wqA kA vA woA outC)

/-! # The kernel's result is the reference's, block by block -/

/-! ## Where a device's block lies in the whole array -/

/-- Row `r` of device `c`'s block of `x` is row `256 c + r`. -/
theorem block_x {α : Type} (c : Fin 4) (y : (⟨3, ![1, 1024, 1024]⟩ : Shape).Idx → α) (r : Fin 256) (i : Fin 1024) :
    Layout.block ⟨3, ![1, 256, 1024]⟩ ⟨3, ![1, 1024, 1024]⟩ 1 4 c y (by decide) (ix3 0 r i) = y (ix3 0 ⟨256 * c.val + r.val, by omega⟩ i) := by
  rw [Layout.block_apply]
  refine congrArg y (funext fun d => ?_)
  match d with
  | ⟨0, _⟩ => rfl
  | ⟨1, _⟩ => exact Fin.ext (congrArg (· + r.val) (Nat.mul_comm c.val 256))
  | ⟨2, _⟩ => rfl

/-- Column `k` of device `c`'s block of the query weights is column `1024 c + k`. -/
theorem block_w {α : Type} (c : Fin 4) (y : (⟨2, ![1024, 4096]⟩ : Shape).Idx → α) (i k : Fin 1024) :
    Layout.block ⟨2, ![1024, 1024]⟩ ⟨2, ![1024, 4096]⟩ 1 4 c y (by decide) (ix2 i k) = y (ix2 i ⟨1024 * c.val + k.val, by omega⟩) := by
  rw [Layout.block_apply]
  refine congrArg y (funext fun d => ?_)
  match d with
  | ⟨0, _⟩ => rfl
  | ⟨1, _⟩ => exact Fin.ext (congrArg (· + k.val) (Nat.mul_comm c.val 1024))

/-- Row `k` of device `c`'s block of the output weights is row `1024 c + k`. -/
theorem block_o {α : Type} (c : Fin 4) (y : (⟨2, ![4096, 1024]⟩ : Shape).Idx → α) (k i : Fin 1024) :
    Layout.block ⟨2, ![1024, 1024]⟩ ⟨2, ![4096, 1024]⟩ 0 4 c y (by decide) (ix2 k i) = y (ix2 ⟨1024 * c.val + k.val, by omega⟩ i) := by
  rw [Layout.block_apply]
  refine congrArg y (funext fun d => ?_)
  match d with
  | ⟨0, _⟩ => exact Fin.ext (congrArg (· + k.val) (Nat.mul_comm c.val 1024))
  | ⟨1, _⟩ => rfl

/-! ## The precondition: queries' factors and keys are real -/

/-- A value whose magnitude is below +∞ is real. -/
theorem real_of_lt (a : EReal) (h : Ideal.cmp .olt (max a (-a)) (Ideal.ofBits .f32 0x7F800000#32) = 1#1) : a = (a.toReal : EReal) := by
  rw [Cert.RefVal.bits_top] at h
  have hlt : max a (-a) < ⊤ := by
    by_contra hn
    simp [Ideal.cmp, hn] at h
  refine (EReal.coe_toReal ?_ ?_).symm
  · rintro rfl; simp at hlt
  · rintro rfl; simp at hlt

instance : Subsingleton Cert.Pre_finite_scores_KernelIdeal.S_.Idx := ⟨fun a b => funext fun k => k.elim0⟩

/-- The precondition, read at an index of each array it names. -/
theorem pre_reads [Cert.Pre_finite_scores_KernelIdeal.Facts] (x : FVec Ideal ⟨3, ![1, 256, 1024]⟩ .bf16) (wq : FVec Ideal ⟨2, ![1024, 1024]⟩ .bf16)
    (k v : FVec Ideal ⟨4, ![1, 4096, 32, 128]⟩ .f32) (wo : FVec Ideal ⟨2, ![1024, 1024]⟩ .bf16)
    (h : Cert.Pre_finite_scores_KernelIdeal.fn (F := Ideal) x wq k v wo = fun _ => 1#1) :
    (∀ i, x i = ((x i).toReal : EReal)) ∧ (∀ i, wq i = ((wq i).toReal : EReal)) ∧ ∀ i, k i = ((k i).toReal : EReal) := by
  have h0 := congrFun h (fun a => a.elim0)
  unfold Cert.Pre_finite_scores_KernelIdeal.fn at h0
  obtain ⟨h01, h2⟩ := IntOp.andi_eq_one.1 h0
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

/-! ## The arrays by coordinates -/

section
variable (x : FVec Ideal ⟨3, ![1, 1024, 1024]⟩ .bf16) (wq : FVec Ideal ⟨2, ![1024, 4096]⟩ .bf16) (k v : FVec Ideal ⟨4, ![1, 4096, 32, 128]⟩ .f32) (wo : FVec Ideal ⟨2, ![4096, 1024]⟩ .bf16)

/-- The arrays' entries by natural coordinates: `x`, the query weights and the keys as reals, -/
def X (r i : ℕ) : ℝ := (x (ix3 0 (Fin.ofNat 1024 r) (Fin.ofNat 1024 i))).toReal
def W (i n : ℕ) : ℝ := (wq (ix2 (Fin.ofNat 1024 i) (Fin.ofNat 4096 n))).toReal
def K (j h d : ℕ) : ℝ := (k (ix4 0 (Fin.ofNat 4096 j) (Fin.ofNat 32 h) (Fin.ofNat 128 d))).toReal
/-- the values and the output weights as they are. -/
def V (j h d : ℕ) : EReal := v (ix4 0 (Fin.ofNat 4096 j) (Fin.ofNat 32 h) (Fin.ofNat 128 d))
def WO (n c : ℕ) : EReal := wo (ix2 (Fin.ofNat 4096 n) (Fin.ofNat 1024 c))
end

/-- An index is the one its value names. -/
theorem ofNat_of {n : ℕ} [NeZero n] (i : Fin n) (a : ℕ) (h : i.val = a) : Fin.ofNat n a = i := by
  subst h; exact Fin.ext (Nat.mod_eq_of_lt i.isLt)

/-- The kernel's result on each device is its block of the reference's, where the queries' factors and the keys are finite. -/
theorem algebraic [Cert.Pre_finite_scores_KernelIdeal.Facts] :
    Cert.algebraic_KernelIdeal_ReferenceIdeal_pre_finite_scores_KernelIdeal (hKernelIdeal := Cert.KernelIdeal.Gen.facts) (hReferenceIdeal := Cert.ReferenceIdeal.Gen.facts) := by
  intro m g m' g' hpre hin
  obtain ⟨s, hs⟩ := Cert.RefVal.bits_scale
  have hfin := fun c : Fin 4 => pre_reads _ _ _ _ _ (hpre c)
  generalize hx' : m' (((0 : Dev Cert.ReferenceIdeal.nD).tc : Thread Cert.ReferenceIdeal.nD Cert.ReferenceIdeal.τ).loc Cert.ReferenceIdeal.main_arg0) = x at hin
  generalize hw' : m' (((0 : Dev Cert.ReferenceIdeal.nD).tc : Thread Cert.ReferenceIdeal.nD Cert.ReferenceIdeal.τ).loc Cert.ReferenceIdeal.main_arg1) = wq at hin
  generalize hk' : m' (((0 : Dev Cert.ReferenceIdeal.nD).tc : Thread Cert.ReferenceIdeal.nD Cert.ReferenceIdeal.τ).loc Cert.ReferenceIdeal.main_arg2) = k at hin
  generalize hv' : m' (((0 : Dev Cert.ReferenceIdeal.nD).tc : Thread Cert.ReferenceIdeal.nD Cert.ReferenceIdeal.τ).loc Cert.ReferenceIdeal.main_arg3) = v at hin
  generalize ho' : m' (((0 : Dev Cert.ReferenceIdeal.nD).tc : Thread Cert.ReferenceIdeal.nD Cert.ReferenceIdeal.τ).loc Cert.ReferenceIdeal.main_arg4) = wo at hin
  have bx (c : Fin 4) (r : Fin 256) (i : Fin 1024) : xA m c (ix3 0 r i) = x (ix3 0 ⟨256 * c.val + r.val, by omega⟩ i) :=
    (congrFun (hin c).1 (ix3 0 r i)).trans (block_x c x r i)
  have bw (c : Fin 4) (i n : Fin 1024) : wqA m c (ix2 i n) = wq (ix2 i ⟨1024 * c.val + n.val, by omega⟩) :=
    (congrFun (hin c).2.1 (ix2 i n)).trans (block_w c wq i n)
  have bo (c : Fin 4) (n i : Fin 1024) : woA m c (ix2 n i) = wo (ix2 ⟨1024 * c.val + n.val, by omega⟩ i) :=
    (congrFun (hin c).2.2.2.2 (ix2 n i)).trans (block_o c wo n i)
  have bk (c : Fin 4) : kA m c = k := (hin c).2.2.1
  have bv (c : Fin 4) : vA m c = v := (hin c).2.2.2.1
  -- the reference's arrays by coordinates
  have rx (r i : Fin 1024) : x (ix3 0 r i) = (X x r.val i.val : EReal) := by
    have h := (hfin ⟨r.val / 256, by omega⟩).1 (ix3 0 ⟨r.val % 256, Nat.mod_lt _ (by decide)⟩ i)
    have e := bx ⟨r.val / 256, by omega⟩ ⟨r.val % 256, Nat.mod_lt _ (by decide)⟩ i
    rw [show (⟨256 * (r.val / 256) + r.val % 256, by omega⟩ : Fin 1024) = r from Fin.ext (by simp only; omega)] at e
    unfold X
    rw [ofNat_of r r.val rfl, ofNat_of i i.val rfl, ← e]
    exact h
  have rw' (i : Fin 1024) (n : Fin 4096) : wq (ix2 i n) = (W wq i.val n.val : EReal) := by
    have h := (hfin ⟨n.val / 1024, by omega⟩).2.1 (ix2 i ⟨n.val % 1024, Nat.mod_lt _ (by decide)⟩)
    have e := bw ⟨n.val / 1024, by omega⟩ i ⟨n.val % 1024, Nat.mod_lt _ (by decide)⟩
    rw [show (⟨1024 * (n.val / 1024) + n.val % 1024, by omega⟩ : Fin 4096) = n from Fin.ext (by simp only; omega)] at e
    unfold W
    rw [ofNat_of i i.val rfl, ofNat_of n n.val rfl, ← e]
    exact h
  have rk (j : Fin 4096) (h : Fin 32) (d : Fin 128) : k (ix4 0 j h d) = (K k j.val h.val d.val : EReal) := by
    have hf := (hfin 0).2.2 (ix4 0 j h d)
    unfold K
    rw [ofNat_of j j.val rfl, ofNat_of h h.val rfl, ofNat_of d d.val rfl, ← bk 0]
    exact hf
  have rv (j : Fin 4096) (h : Fin 32) (d : Fin 128) : v (ix4 0 j h d) = V v j.val h.val d.val := by
    unfold V
    rw [ofNat_of j j.val rfl, ofNat_of h h.val rfl, ofNat_of d d.val rfl]
  have ro (n : Fin 4096) (i : Fin 1024) : wo (ix2 n i) = WO wo n.val i.val := by
    unfold WO
    rw [ofNat_of n n.val rfl, ofNat_of i i.val rfl]
  have H : Cert.KerVal.Reads (X x) (W wq) (K k) s (V v) (WO wo) m :=
    { hx := fun d r i => (bx d r i).trans (rx _ _)
      hw := fun d i n => (bw d i n).trans (rw' _ _)
      hk := fun d j h e => (congrFun (bk d) _).trans (rk j h e)
      hv := fun d j h e => (congrFun (bv d) _).trans (rv j h e)
      hwo := fun d n i => (bo d n i).trans (ro _ _)
      hs := hs }
  have hout (c : Fin 4) : outC m c = Layout.block ⟨3, ![1, 256, 1024]⟩ ⟨3, ![1, 1024, 1024]⟩ 1 4 c (Cert.RefRead.outR x wq k v wo) (by decide) := by
    funext i
    obtain ⟨a, r, col, rfl⟩ : ∃ (a : Fin 1) (r : Fin 256) (col : Fin 1024), i = ix3 a r col := ⟨i 0, i 1, i 2, eq_ix3 i⟩
    rw [show a = 0 from Subsingleton.elim _ _, block_x, Cert.RefVal.outR_val rx rw' rk rv ro hs]
    exact Cert.KerVal.outC_apply _ _ _ _ _ _ H c r col
  subst hx' hw' hk' hv' ho'
  refine ⟨Cert.ReferenceIdeal.Value.res_main_v36 m' 0, ?_, ?_⟩
  · refine (θ_run Cert.KernelIdeal.defs _ _).mono (fun r h c => ⟨?_, (h.1 c).2⟩) (Cert.KernelIdeal.Att.run_main (F := Ideal) m g)
    rw [Cert.RefRead.res_eq m' 0]
    exact (h.1 c).1.trans (hout c)
  · exact (θ_run Cert.ReferenceIdeal.defs _ _).mono (fun r h => h 0) (Cert.ReferenceIdeal.Value.run (F := Ideal) m' g')

end Cert.Equal

end
-- ==== Proof.lean ====
module

public import proofs.«01_k».proof.Defs
public import proofs.«01_k».proof.Proof.FrameK
public import proofs.«01_k».proof.Proof.Equal
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The side conditions of the precondition on a device's blocks. -/
theorem pre_kernel : Cert.Pre_finite_scores_KernelIdeal.Facts :=
  ⟨by decide, by decide, by decide, by decide, by decide, by decide, by decide, by decide⟩
/-- The side conditions of the precondition on the whole arrays. -/
theorem pre_reference : Cert.Pre_finite_scores_ReferenceIdeal.Facts :=
  ⟨by decide, by decide, by decide, by decide, by decide, by decide, by decide, by decide⟩

/-- All the claims. -/
theorem claim : Cert.Claim := ⟨Cert.Kernel.Gen.facts, Cert.KernelIdeal.Gen.facts, Cert.ReferenceIdeal.Gen.facts, pre_kernel, pre_reference,
  Cert.Frames.frame_kernel, Cert.Frames.frame_ideal, fun m g _ => Cert.Frames.frame_ideal m g trivial,
  Cert.Frames.frame_reference, fun m g _ => Cert.Frames.frame_reference m g trivial, Cert.Frames.preserves,
  @Cert.Equal.algebraic pre_kernel⟩

end Cert.Proof

end
